-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOut2 (m : (ℓ : Loc Cert.KernelOut2.nD Cert.KernelOut2.τ Cert.KernelOut2.sig) → Buf (Elt Bits) ℓ) : Prop :=
  True

def Pre_KernelOut2Ideal (m : (ℓ : Loc Cert.KernelOut2Ideal.nD Cert.KernelOut2Ideal.τ Cert.KernelOut2Ideal.sig) → Buf (Elt Ideal) ℓ) : Prop :=
  True

def Pre_ReferenceOut2Ideal (m : (ℓ : Loc Cert.ReferenceOut2Ideal.nD Cert.ReferenceOut2Ideal.τ Cert.ReferenceOut2Ideal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelOut2 [hKernelOut2 : Cert.KernelOut2.Facts] : Prop :=
  ∀ (m : (ℓ : Loc Cert.KernelOut2.nD Cert.KernelOut2.τ Cert.KernelOut2.sig) → Buf (Elt Bits) ℓ) (g : Dev Cert.KernelOut2.nD → PrngReg), Pre_KernelOut2 m →
    θ_run (Cert.KernelOut2.defs (F := Bits)) (onTc (τ := Cert.KernelOut2.τ) (Cert.KernelOut2.main (F := Bits))) ⟨m, fun _ => 0, g⟩ (fun r => (∀ c : Dev Cert.KernelOut2.nD,
      r.2.mem ((c.tc : Thread Cert.KernelOut2.nD Cert.KernelOut2.τ).loc Cert.KernelOut2.main_arg0) = m ((c.tc : Thread Cert.KernelOut2.nD Cert.KernelOut2.τ).loc Cert.KernelOut2.main_arg0)
      ∧ r.2.mem ((c.tc : Thread Cert.KernelOut2.nD Cert.KernelOut2.τ).loc Cert.KernelOut2.main_arg1) = m ((c.tc : Thread Cert.KernelOut2.nD Cert.KernelOut2.τ).loc Cert.KernelOut2.main_arg1)
      ∧ r.2.mem ((c.tc : Thread Cert.KernelOut2.nD Cert.KernelOut2.τ).loc Cert.KernelOut2.main_arg2) = m ((c.tc : Thread Cert.KernelOut2.nD Cert.KernelOut2.τ).loc Cert.KernelOut2.main_arg2)
      ∧ r.2.mem ((c.tc : Thread Cert.KernelOut2.nD Cert.KernelOut2.τ).loc Cert.KernelOut2.main_arg3) = m ((c.tc : Thread Cert.KernelOut2.nD Cert.KernelOut2.τ).loc Cert.KernelOut2.main_arg3)
      ∧ r.2.mem ((c.tc : Thread Cert.KernelOut2.nD Cert.KernelOut2.τ).loc Cert.KernelOut2.main_arg4) = m ((c.tc : Thread Cert.KernelOut2.nD Cert.KernelOut2.τ).loc Cert.KernelOut2.main_arg4)
      ∧ r.2.mem ((c.tc : Thread Cert.KernelOut2.nD Cert.KernelOut2.τ).loc Cert.KernelOut2.main_arg5) = m ((c.tc : Thread Cert.KernelOut2.nD Cert.KernelOut2.τ).loc Cert.KernelOut2.main_arg5)
      ∧ r.2.mem ((c.tc : Thread Cert.KernelOut2.nD Cert.KernelOut2.τ).loc Cert.KernelOut2.main_arg6) = m ((c.tc : Thread Cert.KernelOut2.nD Cert.KernelOut2.τ).loc Cert.KernelOut2.main_arg6))
      ∧ r.2.sem = fun _ => 0)

def quiescent_KernelOut2Ideal [hKernelOut2Ideal : Cert.KernelOut2Ideal.Facts] : Prop :=
  ∀ (m : (ℓ : Loc Cert.KernelOut2Ideal.nD Cert.KernelOut2Ideal.τ Cert.KernelOut2Ideal.sig) → Buf (Elt Ideal) ℓ) (g : Dev Cert.KernelOut2Ideal.nD → PrngReg), Pre_KernelOut2Ideal m →
    θ_run (Cert.KernelOut2Ideal.defs (F := Ideal)) (onTc (τ := Cert.KernelOut2Ideal.τ) (Cert.KernelOut2Ideal.main (F := Ideal))) ⟨m, fun _ => 0, g⟩ (fun r => (∀ c : Dev Cert.KernelOut2Ideal.nD,
      r.2.mem ((c.tc : Thread Cert.KernelOut2Ideal.nD Cert.KernelOut2Ideal.τ).loc Cert.KernelOut2Ideal.main_arg0) = m ((c.tc : Thread Cert.KernelOut2Ideal.nD Cert.KernelOut2Ideal.τ).loc Cert.KernelOut2Ideal.main_arg0)
      ∧ r.2.mem ((c.tc : Thread Cert.KernelOut2Ideal.nD Cert.KernelOut2Ideal.τ).loc Cert.KernelOut2Ideal.main_arg1) = m ((c.tc : Thread Cert.KernelOut2Ideal.nD Cert.KernelOut2Ideal.τ).loc Cert.KernelOut2Ideal.main_arg1)
      ∧ r.2.mem ((c.tc : Thread Cert.KernelOut2Ideal.nD Cert.KernelOut2Ideal.τ).loc Cert.KernelOut2Ideal.main_arg2) = m ((c.tc : Thread Cert.KernelOut2Ideal.nD Cert.KernelOut2Ideal.τ).loc Cert.KernelOut2Ideal.main_arg2)
      ∧ r.2.mem ((c.tc : Thread Cert.KernelOut2Ideal.nD Cert.KernelOut2Ideal.τ).loc Cert.KernelOut2Ideal.main_arg3) = m ((c.tc : Thread Cert.KernelOut2Ideal.nD Cert.KernelOut2Ideal.τ).loc Cert.KernelOut2Ideal.main_arg3)
      ∧ r.2.mem ((c.tc : Thread Cert.KernelOut2Ideal.nD Cert.KernelOut2Ideal.τ).loc Cert.KernelOut2Ideal.main_arg4) = m ((c.tc : Thread Cert.KernelOut2Ideal.nD Cert.KernelOut2Ideal.τ).loc Cert.KernelOut2Ideal.main_arg4)
      ∧ r.2.mem ((c.tc : Thread Cert.KernelOut2Ideal.nD Cert.KernelOut2Ideal.τ).loc Cert.KernelOut2Ideal.main_arg5) = m ((c.tc : Thread Cert.KernelOut2Ideal.nD Cert.KernelOut2Ideal.τ).loc Cert.KernelOut2Ideal.main_arg5)
      ∧ r.2.mem ((c.tc : Thread Cert.KernelOut2Ideal.nD Cert.KernelOut2Ideal.τ).loc Cert.KernelOut2Ideal.main_arg6) = m ((c.tc : Thread Cert.KernelOut2Ideal.nD Cert.KernelOut2Ideal.τ).loc Cert.KernelOut2Ideal.main_arg6))
      ∧ r.2.sem = fun _ => 0)

def quiescent_ReferenceOut2Ideal [hReferenceOut2Ideal : Cert.ReferenceOut2Ideal.Facts] : Prop :=
  ∀ (m : (ℓ : Loc Cert.ReferenceOut2Ideal.nD Cert.ReferenceOut2Ideal.τ Cert.ReferenceOut2Ideal.sig) → Buf (Elt Ideal) ℓ) (g : Dev Cert.ReferenceOut2Ideal.nD → PrngReg), Pre_ReferenceOut2Ideal m →
    θ_run (Cert.ReferenceOut2Ideal.defs (F := Ideal)) (onTc (τ := Cert.ReferenceOut2Ideal.τ) (Cert.ReferenceOut2Ideal.main (F := Ideal))) ⟨m, fun _ => 0, g⟩ (fun r => (∀ c : Dev Cert.ReferenceOut2Ideal.nD,
      r.2.mem ((c.tc : Thread Cert.ReferenceOut2Ideal.nD Cert.ReferenceOut2Ideal.τ).loc Cert.ReferenceOut2Ideal.main_arg0) = m ((c.tc : Thread Cert.ReferenceOut2Ideal.nD Cert.ReferenceOut2Ideal.τ).loc Cert.ReferenceOut2Ideal.main_arg0)
      ∧ r.2.mem ((c.tc : Thread Cert.ReferenceOut2Ideal.nD Cert.ReferenceOut2Ideal.τ).loc Cert.ReferenceOut2Ideal.main_arg1) = m ((c.tc : Thread Cert.ReferenceOut2Ideal.nD Cert.ReferenceOut2Ideal.τ).loc Cert.ReferenceOut2Ideal.main_arg1)
      ∧ r.2.mem ((c.tc : Thread Cert.ReferenceOut2Ideal.nD Cert.ReferenceOut2Ideal.τ).loc Cert.ReferenceOut2Ideal.main_arg2) = m ((c.tc : Thread Cert.ReferenceOut2Ideal.nD Cert.ReferenceOut2Ideal.τ).loc Cert.ReferenceOut2Ideal.main_arg2)
      ∧ r.2.mem ((c.tc : Thread Cert.ReferenceOut2Ideal.nD Cert.ReferenceOut2Ideal.τ).loc Cert.ReferenceOut2Ideal.main_arg3) = m ((c.tc : Thread Cert.ReferenceOut2Ideal.nD Cert.ReferenceOut2Ideal.τ).loc Cert.ReferenceOut2Ideal.main_arg3)
      ∧ r.2.mem ((c.tc : Thread Cert.ReferenceOut2Ideal.nD Cert.ReferenceOut2Ideal.τ).loc Cert.ReferenceOut2Ideal.main_arg4) = m ((c.tc : Thread Cert.ReferenceOut2Ideal.nD Cert.ReferenceOut2Ideal.τ).loc Cert.ReferenceOut2Ideal.main_arg4)
      ∧ r.2.mem ((c.tc : Thread Cert.ReferenceOut2Ideal.nD Cert.ReferenceOut2Ideal.τ).loc Cert.ReferenceOut2Ideal.main_arg5) = m ((c.tc : Thread Cert.ReferenceOut2Ideal.nD Cert.ReferenceOut2Ideal.τ).loc Cert.ReferenceOut2Ideal.main_arg5)
      ∧ r.2.mem ((c.tc : Thread Cert.ReferenceOut2Ideal.nD Cert.ReferenceOut2Ideal.τ).loc Cert.ReferenceOut2Ideal.main_arg6) = m ((c.tc : Thread Cert.ReferenceOut2Ideal.nD Cert.ReferenceOut2Ideal.τ).loc Cert.ReferenceOut2Ideal.main_arg6))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def preserves_Kernel_KernelIdeal : Prop :=
  IdealRules.named_const.Statement Cert.KernelIdeal.κ "LOG2E" .f32 0x3FB8AA3B#32 (((Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v21) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v1_0)) (v1 : (c : Dev Cert.KernelOutIdeal.nD) → Buf (Elt Ideal) ((c.tc : Thread Cert.KernelOutIdeal.nD Cert.KernelOutIdeal.τ).loc Cert.KernelOutIdeal.main_v1_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1_0) = v0 c
          ∧ r.2.mem ((c.tc : Thread Cert.KernelOutIdeal.nD Cert.KernelOutIdeal.τ).loc Cert.KernelOutIdeal.main_v1_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_v27) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelOut2_KernelOut2Ideal : Prop :=
  True

def algebraic_KernelOut2Ideal_ReferenceOut2Ideal [hKernelOut2Ideal : Cert.KernelOut2Ideal.Facts] [hReferenceOut2Ideal : Cert.ReferenceOut2Ideal.Facts] : Prop :=
  ∀ (m : (ℓ : Loc Cert.KernelOut2Ideal.nD Cert.KernelOut2Ideal.τ Cert.KernelOut2Ideal.sig) → Buf (Elt Ideal) ℓ) (g : Dev Cert.KernelOut2Ideal.nD → PrngReg)
    (m' : (ℓ : Loc Cert.ReferenceOut2Ideal.nD Cert.ReferenceOut2Ideal.τ Cert.ReferenceOut2Ideal.sig) → Buf (Elt Ideal) ℓ) (g' : Dev Cert.ReferenceOut2Ideal.nD → PrngReg), Pre_KernelOut2Ideal m →
    (∀ c : Dev Cert.KernelOut2Ideal.nD,
      m' ((c.tc : Thread Cert.ReferenceOut2Ideal.nD Cert.ReferenceOut2Ideal.τ).loc Cert.ReferenceOut2Ideal.main_arg0) = m ((c.tc : Thread Cert.KernelOut2Ideal.nD Cert.KernelOut2Ideal.τ).loc Cert.KernelOut2Ideal.main_arg0)
      ∧ m' ((c.tc : Thread Cert.ReferenceOut2Ideal.nD Cert.ReferenceOut2Ideal.τ).loc Cert.ReferenceOut2Ideal.main_arg1) = m ((c.tc : Thread Cert.KernelOut2Ideal.nD Cert.KernelOut2Ideal.τ).loc Cert.KernelOut2Ideal.main_arg1)
      ∧ m' ((c.tc : Thread Cert.ReferenceOut2Ideal.nD Cert.ReferenceOut2Ideal.τ).loc Cert.ReferenceOut2Ideal.main_arg2) = m ((c.tc : Thread Cert.KernelOut2Ideal.nD Cert.KernelOut2Ideal.τ).loc Cert.KernelOut2Ideal.main_arg2)
      ∧ m' ((c.tc : Thread Cert.ReferenceOut2Ideal.nD Cert.ReferenceOut2Ideal.τ).loc Cert.ReferenceOut2Ideal.main_arg3) = m ((c.tc : Thread Cert.KernelOut2Ideal.nD Cert.KernelOut2Ideal.τ).loc Cert.KernelOut2Ideal.main_arg3)
      ∧ m' ((c.tc : Thread Cert.ReferenceOut2Ideal.nD Cert.ReferenceOut2Ideal.τ).loc Cert.ReferenceOut2Ideal.main_arg4) = m ((c.tc : Thread Cert.KernelOut2Ideal.nD Cert.KernelOut2Ideal.τ).loc Cert.KernelOut2Ideal.main_arg4)
      ∧ m' ((c.tc : Thread Cert.ReferenceOut2Ideal.nD Cert.ReferenceOut2Ideal.τ).loc Cert.ReferenceOut2Ideal.main_arg5) = m ((c.tc : Thread Cert.KernelOut2Ideal.nD Cert.KernelOut2Ideal.τ).loc Cert.KernelOut2Ideal.main_arg5)
      ∧ m' ((c.tc : Thread Cert.ReferenceOut2Ideal.nD Cert.ReferenceOut2Ideal.τ).loc Cert.ReferenceOut2Ideal.main_arg6) = m ((c.tc : Thread Cert.KernelOut2Ideal.nD Cert.KernelOut2Ideal.τ).loc Cert.KernelOut2Ideal.main_arg6)) →
    ∃ (v0 : (c : Dev Cert.KernelOut2Ideal.nD) → Buf (Elt Ideal) ((c.tc : Thread Cert.KernelOut2Ideal.nD Cert.KernelOut2Ideal.τ).loc Cert.KernelOut2Ideal.main_v1_0)) (v1 : (c : Dev Cert.KernelOut2Ideal.nD) → Buf (Elt Ideal) ((c.tc : Thread Cert.KernelOut2Ideal.nD Cert.KernelOut2Ideal.τ).loc Cert.KernelOut2Ideal.main_v1_1)),
      θ_run (Cert.KernelOut2Ideal.defs (F := Ideal)) (onTc (τ := Cert.KernelOut2Ideal.τ) (Cert.KernelOut2Ideal.main (F := Ideal))) ⟨m, fun _ => 0, g⟩ (fun r => ∀ c : Dev Cert.KernelOut2Ideal.nD,
          r.2.mem ((c.tc : Thread Cert.KernelOut2Ideal.nD Cert.KernelOut2Ideal.τ).loc Cert.KernelOut2Ideal.main_v1_0) = v0 c
          ∧ r.2.mem ((c.tc : Thread Cert.KernelOut2Ideal.nD Cert.KernelOut2Ideal.τ).loc Cert.KernelOut2Ideal.main_v1_1) = v1 c
          ∧ r.2.mem ((c.tc : Thread Cert.KernelOut2Ideal.nD Cert.KernelOut2Ideal.τ).loc Cert.KernelOut2Ideal.main_arg0) = m ((c.tc : Thread Cert.KernelOut2Ideal.nD Cert.KernelOut2Ideal.τ).loc Cert.KernelOut2Ideal.main_arg0)
          ∧ r.2.mem ((c.tc : Thread Cert.KernelOut2Ideal.nD Cert.KernelOut2Ideal.τ).loc Cert.KernelOut2Ideal.main_arg1) = m ((c.tc : Thread Cert.KernelOut2Ideal.nD Cert.KernelOut2Ideal.τ).loc Cert.KernelOut2Ideal.main_arg1)
          ∧ r.2.mem ((c.tc : Thread Cert.KernelOut2Ideal.nD Cert.KernelOut2Ideal.τ).loc Cert.KernelOut2Ideal.main_arg2) = m ((c.tc : Thread Cert.KernelOut2Ideal.nD Cert.KernelOut2Ideal.τ).loc Cert.KernelOut2Ideal.main_arg2)
          ∧ r.2.mem ((c.tc : Thread Cert.KernelOut2Ideal.nD Cert.KernelOut2Ideal.τ).loc Cert.KernelOut2Ideal.main_arg3) = m ((c.tc : Thread Cert.KernelOut2Ideal.nD Cert.KernelOut2Ideal.τ).loc Cert.KernelOut2Ideal.main_arg3)
          ∧ r.2.mem ((c.tc : Thread Cert.KernelOut2Ideal.nD Cert.KernelOut2Ideal.τ).loc Cert.KernelOut2Ideal.main_arg4) = m ((c.tc : Thread Cert.KernelOut2Ideal.nD Cert.KernelOut2Ideal.τ).loc Cert.KernelOut2Ideal.main_arg4)
          ∧ r.2.mem ((c.tc : Thread Cert.KernelOut2Ideal.nD Cert.KernelOut2Ideal.τ).loc Cert.KernelOut2Ideal.main_arg5) = m ((c.tc : Thread Cert.KernelOut2Ideal.nD Cert.KernelOut2Ideal.τ).loc Cert.KernelOut2Ideal.main_arg5)
          ∧ r.2.mem ((c.tc : Thread Cert.KernelOut2Ideal.nD Cert.KernelOut2Ideal.τ).loc Cert.KernelOut2Ideal.main_arg6) = m ((c.tc : Thread Cert.KernelOut2Ideal.nD Cert.KernelOut2Ideal.τ).loc Cert.KernelOut2Ideal.main_arg6))
      ∧ θ_run (Cert.ReferenceOut2Ideal.defs (F := Ideal)) (onTc (τ := Cert.ReferenceOut2Ideal.τ) (Cert.ReferenceOut2Ideal.main (F := Ideal))) ⟨m', fun _ => 0, g'⟩ (fun r => ∀ c : Dev Cert.ReferenceOut2Ideal.nD,
          r.2.mem ((c.tc : Thread Cert.ReferenceOut2Ideal.nD Cert.ReferenceOut2Ideal.τ).loc Cert.ReferenceOut2Ideal.main_v6) = v0 c
          ∧ r.2.mem ((c.tc : Thread Cert.ReferenceOut2Ideal.nD Cert.ReferenceOut2Ideal.τ).loc Cert.ReferenceOut2Ideal.main_v27) = v1 c
          ∧ r.2.mem ((c.tc : Thread Cert.ReferenceOut2Ideal.nD Cert.ReferenceOut2Ideal.τ).loc Cert.ReferenceOut2Ideal.main_arg0) = m' ((c.tc : Thread Cert.ReferenceOut2Ideal.nD Cert.ReferenceOut2Ideal.τ).loc Cert.ReferenceOut2Ideal.main_arg0)
          ∧ r.2.mem ((c.tc : Thread Cert.ReferenceOut2Ideal.nD Cert.ReferenceOut2Ideal.τ).loc Cert.ReferenceOut2Ideal.main_arg1) = m' ((c.tc : Thread Cert.ReferenceOut2Ideal.nD Cert.ReferenceOut2Ideal.τ).loc Cert.ReferenceOut2Ideal.main_arg1)
          ∧ r.2.mem ((c.tc : Thread Cert.ReferenceOut2Ideal.nD Cert.ReferenceOut2Ideal.τ).loc Cert.ReferenceOut2Ideal.main_arg2) = m' ((c.tc : Thread Cert.ReferenceOut2Ideal.nD Cert.ReferenceOut2Ideal.τ).loc Cert.ReferenceOut2Ideal.main_arg2)
          ∧ r.2.mem ((c.tc : Thread Cert.ReferenceOut2Ideal.nD Cert.ReferenceOut2Ideal.τ).loc Cert.ReferenceOut2Ideal.main_arg3) = m' ((c.tc : Thread Cert.ReferenceOut2Ideal.nD Cert.ReferenceOut2Ideal.τ).loc Cert.ReferenceOut2Ideal.main_arg3)
          ∧ r.2.mem ((c.tc : Thread Cert.ReferenceOut2Ideal.nD Cert.ReferenceOut2Ideal.τ).loc Cert.ReferenceOut2Ideal.main_arg4) = m' ((c.tc : Thread Cert.ReferenceOut2Ideal.nD Cert.ReferenceOut2Ideal.τ).loc Cert.ReferenceOut2Ideal.main_arg4)
          ∧ r.2.mem ((c.tc : Thread Cert.ReferenceOut2Ideal.nD Cert.ReferenceOut2Ideal.τ).loc Cert.ReferenceOut2Ideal.main_arg5) = m' ((c.tc : Thread Cert.ReferenceOut2Ideal.nD Cert.ReferenceOut2Ideal.τ).loc Cert.ReferenceOut2Ideal.main_arg5)
          ∧ r.2.mem ((c.tc : Thread Cert.ReferenceOut2Ideal.nD Cert.ReferenceOut2Ideal.τ).loc Cert.ReferenceOut2Ideal.main_arg6) = m' ((c.tc : Thread Cert.ReferenceOut2Ideal.nD Cert.ReferenceOut2Ideal.τ).loc Cert.ReferenceOut2Ideal.main_arg6))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v1)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v19) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelOut2 : Cert.KernelOut2.Facts) (hKernelOut2Ideal : Cert.KernelOut2Ideal.Facts) (hReferenceOut2Ideal : Cert.ReferenceOut2Ideal.Facts) (hKernelAda : Cert.KernelAda.Facts) (hKernelAdaIdeal : Cert.KernelAdaIdeal.Facts) (hReferenceAdaIdeal : Cert.ReferenceAdaIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOut2 (hKernelOut2 := hKernelOut2)
    ∧ quiescent_KernelOut2Ideal (hKernelOut2Ideal := hKernelOut2Ideal)
    ∧ quiescent_ReferenceOut2Ideal (hReferenceOut2Ideal := hReferenceOut2Ideal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelOut2_KernelOut2Ideal
    ∧ algebraic_KernelOut2Ideal_ReferenceOut2Ideal (hKernelOut2Ideal := hKernelOut2Ideal) (hReferenceOut2Ideal := hReferenceOut2Ideal)
    ∧ preserves_KernelAda_KernelAdaIdeal
    ∧ algebraic_KernelAdaIdeal_ReferenceAdaIdeal (hKernelAdaIdeal := hKernelAdaIdeal) (hReferenceAdaIdeal := hReferenceAdaIdeal)
-- ==== Pre_finite_inputs.lean ====
abbrev S16384x1024 : Shape := ⟨2, ![16384, 1024]⟩
abbrev S1024x16384 : Shape := ⟨2, ![1024, 16384]⟩
abbrev S32x8 : Shape := ⟨2, ![32, 8]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1024x16384 : S_.BroadcastsInDim S1024x16384 (![] : Fin 0 → Fin S1024x16384.rank)
  bcast_S_S32x8 : S_.BroadcastsInDim S32x8 (![] : Fin 0 → Fin S32x8.rank)
  bcast_S_S4x64 : S_.BroadcastsInDim S4x64 (![] : Fin 0 → Fin S4x64.rank)

variable [Facts]

def fn {F : FTy → Type} [FloatOps F] (main_arg0 : FVec F S16384x1024 .bf16) (main_arg1 : FVec F S16384x1024 .bf16) (main_arg2 : FVec F S1024x16384 .bf16) (main_arg3 : FVec F S32x8 .f32) (main_arg4 : FVec F S4x64 .f32) (main_arg5 : FVec F S128 .f32) : IVec S16384x1024 1 × IVec S16384x1024 1 × IVec S1024x16384 1 × IVec S32x8 1 × IVec S4x64 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S1024x16384 .f32 := (extf .f32 · bitsLt_bf16_f32) main_arg2
  let main_v9 : FVec F S1024x16384 .f32 := Host.absf main_v8
  let main_cst_1 : FVec F S_ .f32 := constant S_ .f32 0x7F800000#32
  let main_v10 : FVec F S1024x16384 .f32 := broadcastInDim S1024x16384 ![] bcast_S_S1024x16384 main_cst_1
  let main_v11 : IVec S1024x16384 1 := cmpf .olt main_v9 main_v10
  let main_v12 : FVec F S32x8 .f32 := Host.absf main_arg3
  let main_cst_2 : FVec F S_ .f32 := constant S_ .f32 0x7F800000#32
  let main_v13 : FVec F S32x8 .f32 := broadcastInDim S32x8 ![] bcast_S_S32x8 main_cst_2
  let main_v14 : IVec S32x8 1 := cmpf .olt main_v12 main_v13
  let main_v15 : FVec F S4x64 .f32 := Host.absf main_arg4
  let main_cst_3 : FVec F S_ .f32 := constant S_ .f32 0x7F800000#32
  let main_v16 : FVec F S4x64 .f32 := broadcastInDim S4x64 ![] bcast_S_S4x64 main_cst_3
  let main_v17 : IVec S4x64 1 := cmpf .olt main_v15 main_v16
  (main_v3, main_v7, main_v11, main_v14, main_v17)
-- ==== Kernel.lean ====
abbrev S16384x1024 : Shape := ⟨2, ![16384, 1024]⟩
abbrev S1024x16384 : Shape := ⟨2, ![1024, 16384]⟩
abbrev S32x8 : Shape := ⟨2, ![32, 8]⟩
abbrev S4x64 : Shape := ⟨2, ![4, 64]⟩
abbrev S128 : Shape := ⟨1, ![128]⟩
abbrev S8x4x512x512 : Shape := ⟨4, ![8, 4, 512, 512]⟩
abbrev S1x4x512x512 : Shape := ⟨4, ![1, 4, 512, 512]⟩
abbrev S1x1 : Shape := ⟨2, ![1, 1]⟩
abbrev S512x512 : Shape := ⟨2, ![512, 512]⟩
abbrev S1x1x512x512 : Shape := ⟨4, ![1, 1, 512, 512]⟩
abbrev S128x1 : Shape := ⟨2, ![128, 1]⟩
abbrev S128x512 : Shape := ⟨2, ![128, 512]⟩
abbrev S512x128 : Shape := ⟨2, ![512, 128]⟩
abbrev S8192x128 : Shape := ⟨2, ![8192, 128]⟩
abbrev S128x8192 : Shape := ⟨2, ![128, 8192]⟩
abbrev S2x1x512 : Shape := ⟨3, ![2, 1, 512]⟩
abbrev S2x128x512 : Shape := ⟨3, ![2, 128, 512]⟩
abbrev S2x512x512 : Shape := ⟨3, ![2, 512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S1x64 : Shape := ⟨2, ![1, 64]⟩
abbrev S1 : Shape := ⟨1, ![1]⟩

abbrev nBuf : Space → Nat
  | .hbm => 10
  | .vmem => 23
  | .smem => 1
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x16384, .bf16⟩
  | .hbm, ⟨3, _⟩ => ⟨S32x8, .f32⟩
  | .hbm, ⟨4, _⟩ => ⟨S4x64, .f32⟩
  | .hbm, ⟨5, _⟩ => ⟨S128, .f32⟩
  | .hbm, ⟨6, _⟩ => ⟨S8x4x512x512, .f32⟩
  | .hbm, ⟨7, _⟩ => ⟨S128x1, .f32⟩
  | .hbm, ⟨8, _⟩ => ⟨S128x512, .f32⟩
  | .hbm, ⟨9, _⟩ => ⟨S16384x1024, .bf16⟩
  | .local _ .vmem, ⟨0, _⟩ => ⟨S1x4x512x512, .f32⟩
  | .local _ .vmem, ⟨1, _⟩ => ⟨S1x4x512x512, .f32⟩
  | .local _ .vmem, ⟨2, _⟩ => ⟨S4x64, .f32⟩
  | .local _ .vmem, ⟨3, _⟩ => ⟨S512x128, .bf16⟩
  | .local _ .vmem, ⟨4, _⟩ => ⟨S512x128, .bf16⟩
  | .local _ .vmem, ⟨5, _⟩ => ⟨S8192x128, .bf16⟩
  | .local _ .vmem, ⟨6, _⟩ => ⟨S8192x128, .bf16⟩
  | .local _ .vmem, ⟨7, _⟩ => ⟨S128x8192, .bf16⟩
  | .local _ .vmem, ⟨8, _⟩ => ⟨S128x8192, .bf16⟩
  | .local _ .vmem, ⟨9, _⟩ => ⟨S1x4x512x512, .f32⟩
  | .local _ .vmem, ⟨10, _⟩ => ⟨S1x4x512x512, .f32⟩
  | .local _ .vmem, ⟨11, _⟩ => ⟨S128x512, .f32⟩
  | .local _ .vmem, ⟨12, _⟩ => ⟨S512x128, .bf16⟩
  | .local _ .vmem, ⟨13, _⟩ => ⟨S512x128, .bf16⟩
  | .local _ .vmem, ⟨14, _⟩ => ⟨S2x1x512, .f32⟩
  | .local _ .vmem, ⟨15, _⟩ => ⟨S2x1x512, .f32⟩
  | .local _ .vmem, ⟨16, _⟩ => ⟨S2x128x512, .f32⟩
  | .local _ .vmem, ⟨17, _⟩ => ⟨S2x512x512, .f32⟩
  | .local _ .vmem, ⟨18, _⟩ => ⟨S2x512x512, .f32⟩
  | .local _ .vmem, ⟨19, _⟩ => ⟨S2x512x512, .bf16⟩
  | .local _ .vmem, ⟨20, _⟩ => ⟨S2x512x512, .bf16⟩
  | .local _ .vmem, ⟨21, _⟩ => ⟨S2x1x512, .f32⟩
  | .local _ .vmem, ⟨22, _⟩ => ⟨S2x1x512, .f32⟩
  | .local _ .smem, ⟨0, _⟩ => ⟨S32x8, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc1_scratch4 : Ref sig .tc := ⟨.vmem, 18, rfl⟩
abbrev cc1_scratch5 : Ref sig .tc := ⟨.vmem, 19, rfl⟩
abbrev cc1_scratch6 : Ref sig .tc := ⟨.vmem, 20, rfl⟩
abbrev cc1_scratch7 : Ref sig .tc := ⟨.vmem, 21, rfl⟩
abbrev cc1_scratch8 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c31 : Index := 31#32
  let arg0 : BitVec 32 := BitVec.ofNat 32 (i 0).val
  let v0 : Index := Scalar.indexCast arg0
  ![31, v0.toNat]
def k0_off2 (i : grid0.Coords) : Fin 2 → Nat :=
  let c0_6 : Index := 0#32
  let arg0 : BitVec 32 := BitVec.ofNat 32 (i 0).val
  let v82 : Index := Scalar.indexCast arg0
  ![0, v82.toNat]
def k0_off3 (i : grid0.Coords) : Fin 2 → Nat :=
  let c1 : Index := 1#32
  let arg0 : BitVec 32 := BitVec.ofNat 32 (i 0).val
  let v92 : Index := Scalar.indexCast arg0
  ![1, v92.toNat]
def k0_off4 (i : grid0.Coords) : Fin 2 → Nat :=
  let c2 : Index := 2#32
  let arg0 : BitVec 32 := BitVec.ofNat 32 (i 0).val
  let v102 : Index := Scalar.indexCast arg0
  ![2, v102.toNat]
def k0_off5 (i : grid0.Coords) : Fin 2 → Nat :=
  let c3 : Index := 3#32
  let arg0 : BitVec 32 := BitVec.ofNat 32 (i 0).val
  let v112 : Index := Scalar.indexCast arg0
  ![3, v112.toNat]
def k0_off6 (i : grid0.Coords) : Fin 2 → Nat :=
  let c4 : Index := 4#32
  let arg0 : BitVec 32 := BitVec.ofNat 32 (i 0).val
  let v122 : Index := Scalar.indexCast arg0
  ![4, v122.toNat]
def k0_off7 (i : grid0.Coords) : Fin 2 → Nat :=
  let c5 : Index := 5#32
  let arg0 : BitVec 32 := BitVec.ofNat 32 (i 0).val
  let v132 : Index := Scalar.indexCast arg0
  ![5, v132.toNat]
def k0_off8 (i : grid0.Coords) : Fin 2 → Nat :=
  let c6 : Index := 6#32
  let arg0 : BitVec 32 := BitVec.ofNat 32 (i 0).val
  let v142 : Index := Scalar.indexCast arg0
  ![6, v142.toNat]
def k0_off9 (i : grid0.Coords) : Fin 2 → Nat :=
  let c7 : Index := 7#32
  let arg0 : BitVec 32 := BitVec.ofNat 32 (i 0).val
  let v152 : Index := Scalar.indexCast arg0
  ![7, v152.toNat]
def k0_off10 (i : grid0.Coords) : Fin 2 → Nat :=
  let c8 : Index := 8#32
  let arg0 : BitVec 32 := BitVec.ofNat 32 (i 0).val
  let v162 : Index := Scalar.indexCast arg0
  ![8, v162.toNat]
def k0_off11 (i : grid0.Coords) : Fin 2 → Nat :=
  let c9 : Index := 9#32
  let arg0 : BitVec 32 := BitVec.ofNat 32 (i 0).val
  let v172 : Index := Scalar.indexCast arg0
  ![9, v172.toNat]
def k0_off12 (i : grid0.Coords) : Fin 2 → Nat :=
  let c10 : Index := 10#32
  let arg0 : BitVec 32 := BitVec.ofNat 32 (i 0).val
  let v182 : Index := Scalar.indexCast arg0
  ![10, v182.toNat]
def k0_off13 (i : grid0.Coords) : Fin 2 → Nat :=
  let c11 : Index := 11#32
  let arg0 : BitVec 32 := BitVec.ofNat 32 (i 0).val
  let v192 : Index := Scalar.indexCast arg0
  ![11, v192.toNat]
def k0_off14 (i : grid0.Coords) : Fin 2 → Nat :=
  let c12 : Index := 12#32
  let arg0 : BitVec 32 := BitVec.ofNat 32 (i 0).val
  let v202 : Index := Scalar.indexCast arg0
  ![12, v202.toNat]
def k0_off15 (i : grid0.Coords) : Fin 2 → Nat :=
  let c13 : Index := 13#32
  let arg0 : BitVec 32 := BitVec.ofNat 32 (i 0).val
  let v212 : Index := Scalar.indexCast arg0
  ![13, v212.toNat]
def k0_off16 (i : grid0.Coords) : Fin 2 → Nat :=
  let c14 : Index := 14#32
  let arg0 : BitVec 32 := BitVec.ofNat 32 (i 0).val
  let v222 : Index := Scalar.indexCast arg0
  ![14, v222.toNat]
def k0_off17 (i : grid0.Coords) : Fin 2 → Nat :=
  let c15 : Index := 15#32
  let arg0 : BitVec 32 := BitVec.ofNat 32 (i 0).val
  let v232 : Index := Scalar.indexCast arg0
  ![15, v232.toNat]
def k0_off18 (i : grid0.Coords) : Fin 2 → Nat :=
  let c16 : Index := 16#32
  let arg0 : BitVec 32 := BitVec.ofNat 32 (i 0).val
  let v242 : Index := Scalar.indexCast arg0
  ![16, v242.toNat]
def k0_off19 (i : grid0.Coords) : Fin 2 → Nat :=
  let c17 : Index := 17#32
  let arg0 : BitVec 32 := BitVec.ofNat 32 (i 0).val
  let v252 : Index := Scalar.indexCast arg0
  ![17, v252.toNat]
def k0_off20 (i : grid0.Coords) : Fin 2 → Nat :=
  let c18 : Index := 18#32
  let arg0 : BitVec 32 := BitVec.ofNat 32 (i 0).val
  let v262 : Index := Scalar.indexCast arg0
  ![18, v262.toNat]
def k0_off21 (i : grid0.Coords) : Fin 2 → Nat :=
  let c19 : Index := 19#32
  let arg0 : BitVec 32 := BitVec.ofNat 32 (i 0).val
  let v272 : Index := Scalar.indexCast arg0
  ![19, v272.toNat]
def k0_off22 (i : grid0.Coords) : Fin 2 → Nat :=
  let c20 : Index := 20#32
  let arg0 : BitVec 32 := BitVec.ofNat 32 (i 0).val
  let v282 : Index := Scalar.indexCast arg0
  ![20, v282.toNat]
def k0_off23 (i : grid0.Coords) : Fin 2 → Nat :=
  let c21 : Index := 21#32
  let arg0 : BitVec 32 := BitVec.ofNat 32 (i 0).val
  let v292 : Index := Scalar.indexCast arg0
  ![21, v292.toNat]
def k0_off24 (i : grid0.Coords) : Fin 2 → Nat :=
  let c22 : Index := 22#32
  let arg0 : BitVec 32 := BitVec.ofNat 32 (i 0).val
  let v302 : Index := Scalar.indexCast arg0
  ![22, v302.toNat]
def k0_off25 (i : grid0.Coords) : Fin 2 → Nat :=
  let c23 : Index := 23#32
  let arg0 : BitVec 32 := BitVec.ofNat 32 (i 0).val
  let v312 : Index := Scalar.indexCast arg0
  ![23, v312.toNat]
def k0_off26 (i : grid0.Coords) : Fin 2 → Nat :=
  let c24 : Index := 24#32
  let arg0 : BitVec 32 := BitVec.ofNat 32 (i 0).val
  let v322 : Index := Scalar.indexCast arg0
  ![24, v322.toNat]
def k0_off27 (i : grid0.Coords) : Fin 2 → Nat :=
  let c25 : Index := 25#32
  let arg0 : BitVec 32 := BitVec.ofNat 32 (i 0).val
  let v332 : Index := Scalar.indexCast arg0
  ![25, v332.toNat]
def k0_off28 (i : grid0.Coords) : Fin 2 → Nat :=
  let c26 : Index := 26#32
  let arg0 : BitVec 32 := BitVec.ofNat 32 (i 0).val
  let v342 : Index := Scalar.indexCast arg0
  ![26, v342.toNat]
def k0_off29 (i : grid0.Coords) : Fin 2 → Nat :=
  let c27 : Index := 27#32
  let arg0 : BitVec 32 := BitVec.ofNat 32 (i 0).val
  let v352 : Index := Scalar.indexCast arg0
  ![27, v352.toNat]
def k0_off30 (i : grid0.Coords) : Fin 2 → Nat :=
  let c28 : Index := 28#32
  let arg0 : BitVec 32 := BitVec.ofNat 32 (i 0).val
  let v362 : Index := Scalar.indexCast arg0
  ![28, v362.toNat]
def k0_off31 (i : grid0.Coords) : Fin 2 → Nat :=
  let c29 : Index := 29#32
  let arg0 : BitVec 32 := BitVec.ofNat 32 (i 0).val
  let v372 : Index := Scalar.indexCast arg0
  ![29, v372.toNat]
def k0_off32 (i : grid0.Coords) : Fin 2 → Nat :=
  let c30 : Index := 30#32
  let arg0 : BitVec 32 := BitVec.ofNat 32 (i 0).val
  let v382 : Index := Scalar.indexCast arg0
  ![30, v382.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![2, 8, 16], ![false, false, false]⟩

def k1_mult1 (i : grid1.Coords) : BitVec 32 :=
  let arg2 : BitVec 32 := BitVec.ofNat 32 (i 2).val
  let c0_i32_37 : BitVec 32 := 0#32
  let c0_i32_36 : BitVec 32 := 0#32
  let v66 : BitVec 32 := Scalar.maxsi c0_i32_37 c0_i32_36
  let v67 : BitVec 32 := Scalar.minsi arg2 v66
  let c512_i32 : BitVec 32 := 512#32
  let v68 : BitVec 32 := Scalar.muli v67 c512_i32
  v68
def k1_off1 (i : grid1.Coords) : Fin 2 → Nat :=
  let arg2 : BitVec 32 := BitVec.ofNat 32 (i 2).val
  let c0_i32_37 : BitVec 32 := 0#32
  let c0_i32_36 : BitVec 32 := 0#32
  let v66 : BitVec 32 := Scalar.maxsi c0_i32_37 c0_i32_36
  let v67 : BitVec 32 := Scalar.minsi arg2 v66
  let c512_i32 : BitVec 32 := 512#32
  let v68 : BitVec 32 := Scalar.muli v67 c512_i32
  let v69 : BitVec 32 := v68
  let v70 : Index := Scalar.indexCast v69
  let c0_38 : Index := 0#32
  ![v70.toNat, 0]
@[reducible] def k1_t1_loop (i : grid1.Coords) : Scf.Loop 32 :=
  let c0_i32_47 : BitVec 32 := 0#32
  let arg2 : BitVec 32 := BitVec.ofNat 32 (i 2).val
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let c1_i32_49 : BitVec 32 := 1#32
  ⟨c0_i32_47, v84, c1_i32_49⟩
def k1_mult2 (i : grid1.Coords) (k1_t1 : Fin (k1_t1_loop i).trips) : BitVec 32 :=
  let arg2 : BitVec 32 := BitVec.ofNat 32 (i 2).val
  let c0_i32_117 : BitVec 32 := 0#32
  let c2_i32_115 : BitVec 32 := 2#32
  let c0_i32_47 : BitVec 32 := 0#32
  let c1_i32_49 : BitVec 32 := 1#32
  let arg19 : BitVec 32 := Scf.iv c0_i32_47 c1_i32_49 k1_t1
  let v172 : BitVec 32 := Scalar.muli c2_i32_115 arg19
  let c1_i32_116 : BitVec 32 := 1#32
  let v173 : BitVec 32 := Scalar.addi v172 c1_i32_116
  let v174 : BitVec 32 := Scalar.maxsi c0_i32_117 v173
  let v175 : BitVec 32 := Scalar.minsi arg2 v174
  let c512_i32_118 : BitVec 32 := 512#32
  let v176 : BitVec 32 := Scalar.muli v175 c512_i32_118
  v176
def k1_off2 (i : grid1.Coords) (k1_t1 : Fin (k1_t1_loop i).trips) (c1_i32_116 : BitVec 32) : Fin 2 → Nat :=
  let arg2 : BitVec 32 := BitVec.ofNat 32 (i 2).val
  let c0_i32_117 : BitVec 32 := 0#32
  let c2_i32_115 : BitVec 32 := 2#32
  let c0_i32_47 : BitVec 32 := 0#32
  let c1_i32_49 : BitVec 32 := 1#32
  let arg19 : BitVec 32 := Scf.iv c0_i32_47 c1_i32_49 k1_t1
  let v172 : BitVec 32 := Scalar.muli c2_i32_115 arg19
  let v173 : BitVec 32 := Scalar.addi v172 c1_i32_116
  let v174 : BitVec 32 := Scalar.maxsi c0_i32_117 v173
  let v175 : BitVec 32 := Scalar.minsi arg2 v174
  let c512_i32_118 : BitVec 32 := 512#32
  let v176 : BitVec 32 := Scalar.muli v175 c512_i32_118
  let v177 : BitVec 32 := v176
  let v178 : Index := Scalar.indexCast v177
  let c0_119 : Index := 0#32
  ![v178.toNat, 0]
def k1_mult3 (i : grid1.Coords) (k1_t1 : Fin (k1_t1_loop i).trips) : BitVec 32 :=
  let arg2 : BitVec 32 := BitVec.ofNat 32 (i 2).val
  let c0_i32_175 : BitVec 32 := 0#32
  let c2_i32_115 : BitVec 32 := 2#32
  let c0_i32_47 : BitVec 32 := 0#32
  let c1_i32_49 : BitVec 32 := 1#32
  let arg19 : BitVec 32 := Scf.iv c0_i32_47 c1_i32_49 k1_t1
  let v172 : BitVec 32 := Scalar.muli c2_i32_115 arg19
  let c1_i32_174 : BitVec 32 := 1#32
  let v250 : BitVec 32 := Scalar.subi v172 c1_i32_174
  let v251 : BitVec 32 := Scalar.maxsi c0_i32_175 v250
  let v252 : BitVec 32 := Scalar.minsi arg2 v251
  let c512_i32_176 : BitVec 32 := 512#32
  let v253 : BitVec 32 := Scalar.muli v252 c512_i32_176
  v253
def k1_off3 (i : grid1.Coords) (k1_t1 : Fin (k1_t1_loop i).trips) : Fin 2 → Nat :=
  let c0_177 : Index := 0#32
  let arg2 : BitVec 32 := BitVec.ofNat 32 (i 2).val
  let c0_i32_175 : BitVec 32 := 0#32
  let c2_i32_115 : BitVec 32 := 2#32
  let c0_i32_47 : BitVec 32 := 0#32
  let c1_i32_49 : BitVec 32 := 1#32
  let arg19 : BitVec 32 := Scf.iv c0_i32_47 c1_i32_49 k1_t1
  let v172 : BitVec 32 := Scalar.muli c2_i32_115 arg19
  let c1_i32_174 : BitVec 32 := 1#32
  let v250 : BitVec 32 := Scalar.subi v172 c1_i32_174
  let v251 : BitVec 32 := Scalar.maxsi c0_i32_175 v250
  let v252 : BitVec 32 := Scalar.minsi arg2 v251
  let c512_i32_176 : BitVec 32 := 512#32
  let v253 : BitVec 32 := Scalar.muli v252 c512_i32_176
  let v254 : BitVec 32 := v253
  let v255 : Index := Scalar.indexCast v254
  ![0, v255.toNat]
def k1_mult4 (i : grid1.Coords) (k1_t1 : Fin (k1_t1_loop i).trips) : BitVec 32 :=
  let arg2 : BitVec 32 := BitVec.ofNat 32 (i 2).val
  let c0_i32_205 : BitVec 32 := 0#32
  let c2_i32_115 : BitVec 32 := 2#32
  let c0_i32_47 : BitVec 32 := 0#32
  let c1_i32_49 : BitVec 32 := 1#32
  let arg19 : BitVec 32 := Scf.iv c0_i32_47 c1_i32_49 k1_t1
  let v172 : BitVec 32 := Scalar.muli c2_i32_115 arg19
  let c2_i32_204 : BitVec 32 := 2#32
  let v283 : BitVec 32 := Scalar.addi v172 c2_i32_204
  let v284 : BitVec 32 := Scalar.maxsi c0_i32_205 v283
  let v285 : BitVec 32 := Scalar.minsi arg2 v284
  let c512_i32_206 : BitVec 32 := 512#32
  let v286 : BitVec 32 := Scalar.muli v285 c512_i32_206
  v286
def k1_mult5 (i : grid1.Coords) (k1_t1 : Fin (k1_t1_loop i).trips) : BitVec 32 :=
  let arg2 : BitVec 32 := BitVec.ofNat 32 (i 2).val
  let c0_i32_263 : BitVec 32 := 0#32
  let c2_i32_115 : BitVec 32 := 2#32
  let c0_i32_47 : BitVec 32 := 0#32
  let c1_i32_49 : BitVec 32 := 1#32
  let arg19 : BitVec 32 := Scf.iv c0_i32_47 c1_i32_49 k1_t1
  let v172 : BitVec 32 := Scalar.muli c2_i32_115 arg19
  let v361 : BitVec 32 := Scalar.maxsi c0_i32_263 v172
  let v362 : BitVec 32 := Scalar.minsi arg2 v361
  let c512_i32_264 : BitVec 32 := 512#32
  let v363 : BitVec 32 := Scalar.muli v362 c512_i32_264
  v363
def k1_off4 (i : grid1.Coords) (k1_t1 : Fin (k1_t1_loop i).trips) : Fin 2 → Nat :=
  let c0_265 : Index := 0#32
  let arg2 : BitVec 32 := BitVec.ofNat 32 (i 2).val
  let c0_i32_263 : BitVec 32 := 0#32
  let c2_i32_115 : BitVec 32 := 2#32
  let c0_i32_47 : BitVec 32 := 0#32
  let c1_i32_49 : BitVec 32 := 1#32
  let arg19 : BitVec 32 := Scf.iv c0_i32_47 c1_i32_49 k1_t1
  let v172 : BitVec 32 := Scalar.muli c2_i32_115 arg19
  let v361 : BitVec 32 := Scalar.maxsi c0_i32_263 v172
  let v362 : BitVec 32 := Scalar.minsi arg2 v361
  let c512_i32_264 : BitVec 32 := 512#32
  let v363 : BitVec 32 := Scalar.muli v362 c512_i32_264
  let v364 : BitVec 32 := v363
  let v365 : Index := Scalar.indexCast v364
  ![0, v365.toNat]
@[reducible] def k1_t2_loop (i : grid1.Coords) : Scf.Loop 32 :=
  let c0_i32_47 : BitVec 32 := 0#32
  let arg2 : BitVec 32 := BitVec.ofNat 32 (i 2).val
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let v81 : BitVec 32 := Scalar.addi c0_i32_47 v80
  let c1_i32_50 : BitVec 32 := 1#32
  ⟨v84, v81, c1_i32_50⟩
def k1_mult6 (i : grid1.Coords) (k1_t2 : Fin (k1_t2_loop i).trips) : BitVec 32 :=
  let arg2 : BitVec 32 := BitVec.ofNat 32 (i 2).val
  let c0_i32_117 : BitVec 32 := 0#32
  let c2_i32_115 : BitVec 32 := 2#32
  let c0_i32_47 : BitVec 32 := 0#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let c1_i32_50 : BitVec 32 := 1#32
  let arg19 : BitVec 32 := Scf.iv v84 c1_i32_50 k1_t2
  let v172 : BitVec 32 := Scalar.muli c2_i32_115 arg19
  let c1_i32_116 : BitVec 32 := 1#32
  let v173 : BitVec 32 := Scalar.addi v172 c1_i32_116
  let v174 : BitVec 32 := Scalar.maxsi c0_i32_117 v173
  let v175 : BitVec 32 := Scalar.minsi arg2 v174
  let c512_i32_118 : BitVec 32 := 512#32
  let v176 : BitVec 32 := Scalar.muli v175 c512_i32_118
  v176
def k1_off5 (i : grid1.Coords) (k1_t2 : Fin (k1_t2_loop i).trips) (c1_i32_116 : BitVec 32) : Fin 2 → Nat :=
  let arg2 : BitVec 32 := BitVec.ofNat 32 (i 2).val
  let c0_i32_117 : BitVec 32 := 0#32
  let c2_i32_115 : BitVec 32 := 2#32
  let c0_i32_47 : BitVec 32 := 0#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let c1_i32_50 : BitVec 32 := 1#32
  let arg19 : BitVec 32 := Scf.iv v84 c1_i32_50 k1_t2
  let v172 : BitVec 32 := Scalar.muli c2_i32_115 arg19
  let v173 : BitVec 32 := Scalar.addi v172 c1_i32_116
  let v174 : BitVec 32 := Scalar.maxsi c0_i32_117 v173
  let v175 : BitVec 32 := Scalar.minsi arg2 v174
  let c512_i32_118 : BitVec 32 := 512#32
  let v176 : BitVec 32 := Scalar.muli v175 c512_i32_118
  let v177 : BitVec 32 := v176
  let v178 : Index := Scalar.indexCast v177
  let c0_119 : Index := 0#32
  ![v178.toNat, 0]
def k1_mult7 (i : grid1.Coords) (k1_t2 : Fin (k1_t2_loop i).trips) : BitVec 32 :=
  let arg2 : BitVec 32 := BitVec.ofNat 32 (i 2).val
  let c0_i32_175 : BitVec 32 := 0#32
  let c2_i32_115 : BitVec 32 := 2#32
  let c0_i32_47 : BitVec 32 := 0#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let c1_i32_50 : BitVec 32 := 1#32
  let arg19 : BitVec 32 := Scf.iv v84 c1_i32_50 k1_t2
  let v172 : BitVec 32 := Scalar.muli c2_i32_115 arg19
  let c1_i32_174 : BitVec 32 := 1#32
  let v250 : BitVec 32 := Scalar.subi v172 c1_i32_174
  let v251 : BitVec 32 := Scalar.maxsi c0_i32_175 v250
  let v252 : BitVec 32 := Scalar.minsi arg2 v251
  let c512_i32_176 : BitVec 32 := 512#32
  let v253 : BitVec 32 := Scalar.muli v252 c512_i32_176
  v253
def k1_off6 (i : grid1.Coords) (k1_t2 : Fin (k1_t2_loop i).trips) : Fin 2 → Nat :=
  let c0_177 : Index := 0#32
  let arg2 : BitVec 32 := BitVec.ofNat 32 (i 2).val
  let c0_i32_175 : BitVec 32 := 0#32
  let c2_i32_115 : BitVec 32 := 2#32
  let c0_i32_47 : BitVec 32 := 0#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let c1_i32_50 : BitVec 32 := 1#32
  let arg19 : BitVec 32 := Scf.iv v84 c1_i32_50 k1_t2
  let v172 : BitVec 32 := Scalar.muli c2_i32_115 arg19
  let c1_i32_174 : BitVec 32 := 1#32
  let v250 : BitVec 32 := Scalar.subi v172 c1_i32_174
  let v251 : BitVec 32 := Scalar.maxsi c0_i32_175 v250
  let v252 : BitVec 32 := Scalar.minsi arg2 v251
  let c512_i32_176 : BitVec 32 := 512#32
  let v253 : BitVec 32 := Scalar.muli v252 c512_i32_176
  let v254 : BitVec 32 := v253
  let v255 : Index := Scalar.indexCast v254
  ![0, v255.toNat]
def k1_mult8 (i : grid1.Coords) (k1_t2 : Fin (k1_t2_loop i).trips) : BitVec 32 :=
  let arg2 : BitVec 32 := BitVec.ofNat 32 (i 2).val
  let c0_i32_205 : BitVec 32 := 0#32
  let c2_i32_115 : BitVec 32 := 2#32
  let c0_i32_47 : BitVec 32 := 0#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let c1_i32_50 : BitVec 32 := 1#32
  let arg19 : BitVec 32 := Scf.iv v84 c1_i32_50 k1_t2
  let v172 : BitVec 32 := Scalar.muli c2_i32_115 arg19
  let c2_i32_204 : BitVec 32 := 2#32
  let v283 : BitVec 32 := Scalar.addi v172 c2_i32_204
  let v284 : BitVec 32 := Scalar.maxsi c0_i32_205 v283
  let v285 : BitVec 32 := Scalar.minsi arg2 v284
  let c512_i32_206 : BitVec 32 := 512#32
  let v286 : BitVec 32 := Scalar.muli v285 c512_i32_206
  v286
def k1_mult9 (i : grid1.Coords) (k1_t2 : Fin (k1_t2_loop i).trips) : BitVec 32 :=
  let arg2 : BitVec 32 := BitVec.ofNat 32 (i 2).val
  let c0_i32_263 : BitVec 32 := 0#32
  let c2_i32_115 : BitVec 32 := 2#32
  let c0_i32_47 : BitVec 32 := 0#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let c1_i32_50 : BitVec 32 := 1#32
  let arg19 : BitVec 32 := Scf.iv v84 c1_i32_50 k1_t2
  let v172 : BitVec 32 := Scalar.muli c2_i32_115 arg19
  let v361 : BitVec 32 := Scalar.maxsi c0_i32_263 v172
  let v362 : BitVec 32 := Scalar.minsi arg2 v361
  let c512_i32_264 : BitVec 32 := 512#32
  let v363 : BitVec 32 := Scalar.muli v362 c512_i32_264
  v363
def k1_off7 (i : grid1.Coords) (k1_t2 : Fin (k1_t2_loop i).trips) : Fin 2 → Nat :=
  let c0_265 : Index := 0#32
  let arg2 : BitVec 32 := BitVec.ofNat 32 (i 2).val
  let c0_i32_263 : BitVec 32 := 0#32
  let c2_i32_115 : BitVec 32 := 2#32
  let c0_i32_47 : BitVec 32 := 0#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let v80 : BitVec 32 := Scalar.subi v65 c0_i32_47
  let c1_i32_48 : BitVec 32 := 1#32
  let v82 : BitVec 32 := Scalar.divsi v80 c1_i32_48
  let v83 : BitVec 32 := Scalar.muli v82 c1_i32_48
  let v84 : BitVec 32 := Scalar.addi c0_i32_47 v83
  let c1_i32_50 : BitVec 32 := 1#32
  let arg19 : BitVec 32 := Scf.iv v84 c1_i32_50 k1_t2
  let v172 : BitVec 32 := Scalar.muli c2_i32_115 arg19
  let v361 : BitVec 32 := Scalar.maxsi c0_i32_263 v172
  let v362 : BitVec 32 := Scalar.minsi arg2 v361
  let c512_i32_264 : BitVec 32 := 512#32
  let v363 : BitVec 32 := Scalar.muli v362 c512_i32_264
  let v364 : BitVec 32 := v363
  let v365 : Index := Scalar.indexCast v364
  ![0, v365.toNat]
@[reducible] def k1_t3_loop (i : grid1.Coords) : Scf.Loop 32 :=
  let arg2 : BitVec 32 := BitVec.ofNat 32 (i 2).val
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_53 : BitVec 32 := 1#32
  ⟨v65, v89, c1_i32_53⟩
def k1_mult10 (i : grid1.Coords) (k1_t3 : Fin (k1_t3_loop i).trips) : BitVec 32 :=
  let arg2 : BitVec 32 := BitVec.ofNat 32 (i 2).val
  let c0_i32_117 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let c1_i32_116 : BitVec 32 := 1#32
  let v173 : BitVec 32 := Scalar.addi v172 c1_i32_116
  let v174 : BitVec 32 := Scalar.maxsi c0_i32_117 v173
  let v175 : BitVec 32 := Scalar.minsi arg2 v174
  let c512_i32_118 : BitVec 32 := 512#32
  let v176 : BitVec 32 := Scalar.muli v175 c512_i32_118
  v176
def k1_off8 (i : grid1.Coords) (k1_t3 : Fin (k1_t3_loop i).trips) (c1_i32_116 : BitVec 32) : Fin 2 → Nat :=
  let arg2 : BitVec 32 := BitVec.ofNat 32 (i 2).val
  let c0_i32_117 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let v173 : BitVec 32 := Scalar.addi v172 c1_i32_116
  let v174 : BitVec 32 := Scalar.maxsi c0_i32_117 v173
  let v175 : BitVec 32 := Scalar.minsi arg2 v174
  let c512_i32_118 : BitVec 32 := 512#32
  let v176 : BitVec 32 := Scalar.muli v175 c512_i32_118
  let v177 : BitVec 32 := v176
  let v178 : Index := Scalar.indexCast v177
  let c0_119 : Index := 0#32
  ![v178.toNat, 0]
def k1_off9 (i : grid1.Coords) (k1_t3 : Fin (k1_t3_loop i).trips) : Fin 4 → Nat :=
  let c0_130 : Index := 0#32
  let c3_i32 : BitVec 32 := 3#32
  let c0_i32_129 : BitVec 32 := 0#32
  let c2_i32_115 : BitVec 32 := 2#32
  let arg2 : BitVec 32 := BitVec.ofNat 32 (i 2).val
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let v188 : BitVec 32 := Scalar.subi v172 arg2
  let c2_i32_128 : BitVec 32 := 2#32
  let v189 : BitVec 32 := Scalar.addi v188 c2_i32_128
  let v190 : BitVec 32 := Scalar.maxsi c0_i32_129 v189
  let v191 : BitVec 32 := Scalar.minsi c3_i32 v190
  let v192 : Index := Scalar.indexCast v191
  let c0_131 : Index := 0#32
  let c0_132 : Index := 0#32
  ![0, v192.toNat, 0, 0]
def k1_mult11 (i : grid1.Coords) (k1_t3 : Fin (k1_t3_loop i).trips) : BitVec 32 :=
  let arg2 : BitVec 32 := BitVec.ofNat 32 (i 2).val
  let c0_i32_180 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let c1_i32_179 : BitVec 32 := 1#32
  let v259 : BitVec 32 := Scalar.subi v172 c1_i32_179
  let v260 : BitVec 32 := Scalar.maxsi c0_i32_180 v259
  let v261 : BitVec 32 := Scalar.minsi arg2 v260
  let c512_i32_181 : BitVec 32 := 512#32
  let v262 : BitVec 32 := Scalar.muli v261 c512_i32_181
  v262
def k1_off10 (i : grid1.Coords) (k1_t3 : Fin (k1_t3_loop i).trips) : Fin 2 → Nat :=
  let c0_182 : Index := 0#32
  let arg2 : BitVec 32 := BitVec.ofNat 32 (i 2).val
  let c0_i32_180 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let c1_i32_179 : BitVec 32 := 1#32
  let v259 : BitVec 32 := Scalar.subi v172 c1_i32_179
  let v260 : BitVec 32 := Scalar.maxsi c0_i32_180 v259
  let v261 : BitVec 32 := Scalar.minsi arg2 v260
  let c512_i32_181 : BitVec 32 := 512#32
  let v262 : BitVec 32 := Scalar.muli v261 c512_i32_181
  let v263 : BitVec 32 := v262
  let v264 : Index := Scalar.indexCast v263
  ![0, v264.toNat]
def k1_mult12 (i : grid1.Coords) (k1_t3 : Fin (k1_t3_loop i).trips) : BitVec 32 :=
  let arg2 : BitVec 32 := BitVec.ofNat 32 (i 2).val
  let c0_i32_210 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let c2_i32_209 : BitVec 32 := 2#32
  let v292 : BitVec 32 := Scalar.addi v172 c2_i32_209
  let v293 : BitVec 32 := Scalar.maxsi c0_i32_210 v292
  let v294 : BitVec 32 := Scalar.minsi arg2 v293
  let c512_i32_211 : BitVec 32 := 512#32
  let v295 : BitVec 32 := Scalar.muli v294 c512_i32_211
  v295
def k1_off11 (i : grid1.Coords) (k1_t3 : Fin (k1_t3_loop i).trips) : Fin 4 → Nat :=
  let c0_225 : Index := 0#32
  let c3_i32_224 : BitVec 32 := 3#32
  let c0_i32_223 : BitVec 32 := 0#32
  let c2_i32_115 : BitVec 32 := 2#32
  let arg2 : BitVec 32 := BitVec.ofNat 32 (i 2).val
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let c1_i32_221 : BitVec 32 := 1#32
  let v307 : BitVec 32 := Scalar.addi v172 c1_i32_221
  let v308 : BitVec 32 := Scalar.subi v307 arg2
  let c2_i32_222 : BitVec 32 := 2#32
  let v309 : BitVec 32 := Scalar.addi v308 c2_i32_222
  let v310 : BitVec 32 := Scalar.maxsi c0_i32_223 v309
  let v311 : BitVec 32 := Scalar.minsi c3_i32_224 v310
  let v312 : Index := Scalar.indexCast v311
  let c0_226 : Index := 0#32
  let c0_227 : Index := 0#32
  ![0, v312.toNat, 0, 0]
def k1_mult13 (i : grid1.Coords) (k1_t3 : Fin (k1_t3_loop i).trips) : BitVec 32 :=
  let arg2 : BitVec 32 := BitVec.ofNat 32 (i 2).val
  let c0_i32_274 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let v379 : BitVec 32 := Scalar.maxsi c0_i32_274 v172
  let v380 : BitVec 32 := Scalar.minsi arg2 v379
  let c512_i32_275 : BitVec 32 := 512#32
  let v381 : BitVec 32 := Scalar.muli v380 c512_i32_275
  v381
def k1_off12 (i : grid1.Coords) (k1_t3 : Fin (k1_t3_loop i).trips) : Fin 2 → Nat :=
  let c0_276 : Index := 0#32
  let arg2 : BitVec 32 := BitVec.ofNat 32 (i 2).val
  let c0_i32_274 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c1_i32_53 : BitVec 32 := 1#32
  let arg19 : BitVec 32 := Scf.iv v65 c1_i32_53 k1_t3
  let v172 : BitVec 32 := Scalar.muli c2_i32_115 arg19
  let v379 : BitVec 32 := Scalar.maxsi c0_i32_274 v172
  let v380 : BitVec 32 := Scalar.minsi arg2 v379
  let c512_i32_275 : BitVec 32 := 512#32
  let v381 : BitVec 32 := Scalar.muli v380 c512_i32_275
  let v382 : BitVec 32 := v381
  let v383 : Index := Scalar.indexCast v382
  ![0, v383.toNat]
@[reducible] def k1_t4_loop (i : grid1.Coords) : Scf.Loop 32 :=
  let arg2 : BitVec 32 := BitVec.ofNat 32 (i 2).val
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let v86 : BitVec 32 := Scalar.addi v65 v85
  let c1_i32_54 : BitVec 32 := 1#32
  ⟨v89, v86, c1_i32_54⟩
def k1_mult14 (i : grid1.Coords) (k1_t4 : Fin (k1_t4_loop i).trips) : BitVec 32 :=
  let arg2 : BitVec 32 := BitVec.ofNat 32 (i 2).val
  let c0_i32_117 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let c1_i32_116 : BitVec 32 := 1#32
  let v173 : BitVec 32 := Scalar.addi v172 c1_i32_116
  let v174 : BitVec 32 := Scalar.maxsi c0_i32_117 v173
  let v175 : BitVec 32 := Scalar.minsi arg2 v174
  let c512_i32_118 : BitVec 32 := 512#32
  let v176 : BitVec 32 := Scalar.muli v175 c512_i32_118
  v176
def k1_off13 (i : grid1.Coords) (k1_t4 : Fin (k1_t4_loop i).trips) (c1_i32_116 : BitVec 32) : Fin 2 → Nat :=
  let arg2 : BitVec 32 := BitVec.ofNat 32 (i 2).val
  let c0_i32_117 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let v173 : BitVec 32 := Scalar.addi v172 c1_i32_116
  let v174 : BitVec 32 := Scalar.maxsi c0_i32_117 v173
  let v175 : BitVec 32 := Scalar.minsi arg2 v174
  let c512_i32_118 : BitVec 32 := 512#32
  let v176 : BitVec 32 := Scalar.muli v175 c512_i32_118
  let v177 : BitVec 32 := v176
  let v178 : Index := Scalar.indexCast v177
  let c0_119 : Index := 0#32
  ![v178.toNat, 0]
def k1_off14 (i : grid1.Coords) (k1_t4 : Fin (k1_t4_loop i).trips) : Fin 4 → Nat :=
  let c0_130 : Index := 0#32
  let c3_i32 : BitVec 32 := 3#32
  let c0_i32_129 : BitVec 32 := 0#32
  let c2_i32_115 : BitVec 32 := 2#32
  let arg2 : BitVec 32 := BitVec.ofNat 32 (i 2).val
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let v188 : BitVec 32 := Scalar.subi v172 arg2
  let c2_i32_128 : BitVec 32 := 2#32
  let v189 : BitVec 32 := Scalar.addi v188 c2_i32_128
  let v190 : BitVec 32 := Scalar.maxsi c0_i32_129 v189
  let v191 : BitVec 32 := Scalar.minsi c3_i32 v190
  let v192 : Index := Scalar.indexCast v191
  let c0_131 : Index := 0#32
  let c0_132 : Index := 0#32
  ![0, v192.toNat, 0, 0]
def k1_mult15 (i : grid1.Coords) (k1_t4 : Fin (k1_t4_loop i).trips) : BitVec 32 :=
  let arg2 : BitVec 32 := BitVec.ofNat 32 (i 2).val
  let c0_i32_180 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let c1_i32_179 : BitVec 32 := 1#32
  let v259 : BitVec 32 := Scalar.subi v172 c1_i32_179
  let v260 : BitVec 32 := Scalar.maxsi c0_i32_180 v259
  let v261 : BitVec 32 := Scalar.minsi arg2 v260
  let c512_i32_181 : BitVec 32 := 512#32
  let v262 : BitVec 32 := Scalar.muli v261 c512_i32_181
  v262
def k1_off15 (i : grid1.Coords) (k1_t4 : Fin (k1_t4_loop i).trips) : Fin 2 → Nat :=
  let c0_182 : Index := 0#32
  let arg2 : BitVec 32 := BitVec.ofNat 32 (i 2).val
  let c0_i32_180 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let c1_i32_179 : BitVec 32 := 1#32
  let v259 : BitVec 32 := Scalar.subi v172 c1_i32_179
  let v260 : BitVec 32 := Scalar.maxsi c0_i32_180 v259
  let v261 : BitVec 32 := Scalar.minsi arg2 v260
  let c512_i32_181 : BitVec 32 := 512#32
  let v262 : BitVec 32 := Scalar.muli v261 c512_i32_181
  let v263 : BitVec 32 := v262
  let v264 : Index := Scalar.indexCast v263
  ![0, v264.toNat]
def k1_mult16 (i : grid1.Coords) (k1_t4 : Fin (k1_t4_loop i).trips) : BitVec 32 :=
  let arg2 : BitVec 32 := BitVec.ofNat 32 (i 2).val
  let c0_i32_210 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let c2_i32_209 : BitVec 32 := 2#32
  let v292 : BitVec 32 := Scalar.addi v172 c2_i32_209
  let v293 : BitVec 32 := Scalar.maxsi c0_i32_210 v292
  let v294 : BitVec 32 := Scalar.minsi arg2 v293
  let c512_i32_211 : BitVec 32 := 512#32
  let v295 : BitVec 32 := Scalar.muli v294 c512_i32_211
  v295
def k1_off16 (i : grid1.Coords) (k1_t4 : Fin (k1_t4_loop i).trips) : Fin 4 → Nat :=
  let c0_225 : Index := 0#32
  let c3_i32_224 : BitVec 32 := 3#32
  let c0_i32_223 : BitVec 32 := 0#32
  let c2_i32_115 : BitVec 32 := 2#32
  let arg2 : BitVec 32 := BitVec.ofNat 32 (i 2).val
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let c1_i32_221 : BitVec 32 := 1#32
  let v307 : BitVec 32 := Scalar.addi v172 c1_i32_221
  let v308 : BitVec 32 := Scalar.subi v307 arg2
  let c2_i32_222 : BitVec 32 := 2#32
  let v309 : BitVec 32 := Scalar.addi v308 c2_i32_222
  let v310 : BitVec 32 := Scalar.maxsi c0_i32_223 v309
  let v311 : BitVec 32 := Scalar.minsi c3_i32_224 v310
  let v312 : Index := Scalar.indexCast v311
  let c0_226 : Index := 0#32
  let c0_227 : Index := 0#32
  ![0, v312.toNat, 0, 0]
def k1_mult17 (i : grid1.Coords) (k1_t4 : Fin (k1_t4_loop i).trips) : BitVec 32 :=
  let arg2 : BitVec 32 := BitVec.ofNat 32 (i 2).val
  let c0_i32_274 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let v379 : BitVec 32 := Scalar.maxsi c0_i32_274 v172
  let v380 : BitVec 32 := Scalar.minsi arg2 v379
  let c512_i32_275 : BitVec 32 := 512#32
  let v381 : BitVec 32 := Scalar.muli v380 c512_i32_275
  v381
def k1_off17 (i : grid1.Coords) (k1_t4 : Fin (k1_t4_loop i).trips) : Fin 2 → Nat :=
  let c0_276 : Index := 0#32
  let arg2 : BitVec 32 := BitVec.ofNat 32 (i 2).val
  let c0_i32_274 : BitVec 32 := 0#32
  let c2_i32_115 : BitVec 32 := 2#32
  let c1_i32_27 : BitVec 32 := 1#32
  let v47 : BitVec 32 := Scalar.subi arg2 c1_i32_27
  let c0_i32_28 : BitVec 32 := 0#32
  let v48 : BitVec 32 := Scalar.maxsi v47 c0_i32_28
  let c0_i32_30 : BitVec 32 := 0#32
  let v50 : BitVec 1 := Scalar.cmpi .sgt v48 c0_i32_30
  let v51 : BitVec 32 := Scalar.extui v50
  let c0_i32_31 : BitVec 32 := 0#32
  let v52 : BitVec 1 := Scalar.cmpi .slt v48 c0_i32_31
  let v53 : BitVec 32 := Scalar.extui v52
  let v54 : BitVec 32 := Scalar.subi v51 v53
  let c2_i32_29 : BitVec 32 := 2#32
  let c0_i32_32 : BitVec 32 := 0#32
  let v55 : BitVec 1 := Scalar.cmpi .sgt c2_i32_29 c0_i32_32
  let v56 : BitVec 32 := Scalar.extui v55
  let c0_i32_33 : BitVec 32 := 0#32
  let v57 : BitVec 1 := Scalar.cmpi .slt c2_i32_29 c0_i32_33
  let v58 : BitVec 32 := Scalar.extui v57
  let v59 : BitVec 32 := Scalar.subi v56 v58
  let v60 : BitVec 1 := Scalar.cmpi .ne v54 v59
  let v61 : BitVec 32 := Scalar.remsi v48 c2_i32_29
  let c0_i32_34 : BitVec 32 := 0#32
  let v62 : BitVec 1 := Scalar.cmpi .ne v61 c0_i32_34
  let v63 : BitVec 1 := Scalar.andi v60 v62
  let v49 : BitVec 32 := Scalar.divsi v48 c2_i32_29
  let c1_i32_35 : BitVec 32 := 1#32
  let v64 : BitVec 32 := Scalar.subi v49 c1_i32_35
  let v65 : BitVec 32 := Scalar.select v63 v64 v49
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v85 : BitVec 32 := Scalar.subi v46 v65
  let c1_i32_52 : BitVec 32 := 1#32
  let v87 : BitVec 32 := Scalar.divsi v85 c1_i32_52
  let v88 : BitVec 32 := Scalar.muli v87 c1_i32_52
  let v89 : BitVec 32 := Scalar.addi v65 v88
  let c1_i32_54 : BitVec 32 := 1#32
  let arg19 : BitVec 32 := Scf.iv v89 c1_i32_54 k1_t4
  let v172 : BitVec 32 := Scalar.muli c2_i32_115 arg19
  let v379 : BitVec 32 := Scalar.maxsi c0_i32_274 v172
  let v380 : BitVec 32 := Scalar.minsi arg2 v379
  let c512_i32_275 : BitVec 32 := 512#32
  let v381 : BitVec 32 := Scalar.muli v380 c512_i32_275
  let v382 : BitVec 32 := v381
  let v383 : Index := Scalar.indexCast v382
  ![0, v383.toNat]
def k1_mult18 (i : grid1.Coords) : BitVec 32 :=
  let arg2 : BitVec 32 := BitVec.ofNat 32 (i 2).val
  let c0_i32_57 : BitVec 32 := 0#32
  let c2_i32_55 : BitVec 32 := 2#32
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v90 : BitVec 32 := Scalar.muli c2_i32_55 v46
  let c1_i32_56 : BitVec 32 := 1#32
  let v91 : BitVec 32 := Scalar.subi v90 c1_i32_56
  let v92 : BitVec 32 := Scalar.maxsi c0_i32_57 v91
  let v93 : BitVec 32 := Scalar.minsi arg2 v92
  let c512_i32_58 : BitVec 32 := 512#32
  let v94 : BitVec 32 := Scalar.muli v93 c512_i32_58
  v94
def k1_off18 (i : grid1.Coords) : Fin 2 → Nat :=
  let c0_59 : Index := 0#32
  let arg2 : BitVec 32 := BitVec.ofNat 32 (i 2).val
  let c0_i32_57 : BitVec 32 := 0#32
  let c2_i32_55 : BitVec 32 := 2#32
  let c2_i32 : BitVec 32 := 2#32
  let v29 : BitVec 32 := Scalar.addi arg2 c2_i32
  let c0_i32 : BitVec 32 := 0#32
  let v31 : BitVec 1 := Scalar.cmpi .sgt v29 c0_i32
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c2_i32_22 : BitVec 32 := 2#32
  let c0_i32_24 : BitVec 32 := 0#32
  let v36 : BitVec 1 := Scalar.cmpi .sgt c2_i32_22 c0_i32_24
  let v37 : BitVec 32 := Scalar.extui v36
  let c0_i32_25 : BitVec 32 := 0#32
  let v38 : BitVec 1 := Scalar.cmpi .slt c2_i32_22 c0_i32_25
  let v39 : BitVec 32 := Scalar.extui v38
  let v40 : BitVec 32 := Scalar.subi v37 v39
  let v41 : BitVec 1 := Scalar.cmpi .ne v35 v40
  let v42 : BitVec 32 := Scalar.remsi v29 c2_i32_22
  let c0_i32_26 : BitVec 32 := 0#32
  let v43 : BitVec 1 := Scalar.cmpi .ne v42 c0_i32_26
  let v44 : BitVec 1 := Scalar.andi v41 v43
  let v30 : BitVec 32 := Scalar.divsi v29 c2_i32_22
  let c1_i32 : BitVec 32 := 1#32
  let v45 : BitVec 32 := Scalar.subi v30 c1_i32
  let v46 : BitVec 32 := Scalar.select v44 v45 v30
  let v90 : BitVec 32 := Scalar.muli c2_i32_55 v46
  let c1_i32_56 : BitVec 32 := 1#32
  let v91 : BitVec 32 := Scalar.subi v90 c1_i32_56
  let v92 : BitVec 32 := Scalar.maxsi c0_i32_57 v91
  let v93 : BitVec 32 := Scalar.minsi arg2 v92
  let c512_i32_58 : BitVec 32 := 512#32
  let v94 : BitVec 32 := Scalar.muli v93 c512_i32_58
  let v95 : BitVec 32 := v94
  let v96 : Index := Scalar.indexCast v95
  ![0, v96.toNat]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage1_0 : Fin 1 → Memref sig .tc .vmem S4x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S128x8192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x4x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "LOG2E" => some (((Real.log 2)⁻¹ : ℝ) : EReal)
  | _ => none
-- ==== ReferenceIdeal.lean ====
abbrev S16384x1024 : Shape := ⟨2, ![16384, 1024]⟩
abbrev S1024x16384 : Shape := ⟨2, ![1024, 16384]⟩
abbrev S32x8 : Shape := ⟨2, ![32, 8]⟩
abbrev S4x64 : Shape := ⟨2, ![4, 64]⟩
abbrev S128 : Shape := ⟨1, ![128]⟩
abbrev S_ : Shape := ⟨0, ![]⟩
abbrev S2x8192x8x2x64 : Shape := ⟨5, ![2, 8192, 8, 2, 64]⟩
abbrev S2x8192x8x128 : Shape := ⟨4, ![2, 8192, 8, 128]⟩
abbrev S1x64 : Shape := ⟨2, ![1, 64]⟩
abbrev S64 : Shape := ⟨1, ![64]⟩
abbrev S8192 : Shape := ⟨1, ![8192]⟩
abbrev S2x8x2x8192x8192 : Shape := ⟨5, ![2, 8, 2, 8192, 8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8192x8192x8 : Shape := ⟨3, ![8192, 8192, 8]⟩
abbrev S8x8192x8192 : Shape := ⟨3, ![8, 8192, 8192]⟩
abbrev S1x8x1x8192x8192 : Shape := ⟨5, ![1, 8, 1, 8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 138
  | .vmem => 0
  | .smem => 0
  | _ => 0

abbrev hbmTy0_0 (i : Nat) : BufTy := match i % 128 with
  | 0 => ⟨S16384x1024, .bf16⟩
  | 1 => ⟨S16384x1024, .bf16⟩
  | 2 => ⟨S1024x16384, .bf16⟩
  | 3 => ⟨S32x8, .f32⟩
  | 4 => ⟨S4x64, .f32⟩
  | 5 => ⟨S128, .f32⟩
  | 6 => ⟨S16384x1024, .f32⟩
  | 7 => ⟨S_, .f32⟩
  | 8 => ⟨S_, .f32⟩
  | 9 => ⟨S16384x1024, .f32⟩
  | 10 => ⟨S16384x1024, .f32⟩
  | 11 => ⟨S2x8192x8x2x64, .f32⟩
  | 12 => ⟨S16384x1024, .f32⟩
  | 13 => ⟨S2x8192x8x2x64, .f32⟩
  | 14 => ⟨S1024x16384, .f32⟩
  | 15 => ⟨S16384x1024, .f32⟩
  | 16 => ⟨S2x8192x8x128, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S1x64, .f32⟩
  | 26 => ⟨S64, .f32⟩
  | 27 => ⟨S1x64, .f32⟩
  | 28 => ⟨S64, .f32⟩
  | 29 => ⟨S64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S8192, .i32⟩
  | 37 => ⟨S2x8x2x8192x8192, .f32⟩
  | 38 => ⟨S8192x1, .i32⟩
  | 39 => ⟨S1x8192, .i32⟩
  | 40 => ⟨S8192x8192, .i32⟩
  | 41 => ⟨S8192x8192, .i32⟩
  | 42 => ⟨S8192x8192, .i32⟩
  | 43 => ⟨S_, .i32⟩
  | 44 => ⟨S8192x8192, .i32⟩
  | 45 => ⟨S8192x8192, .i32⟩
  | 46 => ⟨S_, .i32⟩
  | 47 => ⟨S8192x8192, .i32⟩
  | 48 => ⟨S8192x8192, .i32⟩
  | 49 => ⟨S8192x8192, .f32⟩
  | 50 => ⟨S_, .f32⟩
  | 51 => ⟨S8192x8192, .f32⟩
  | 52 => ⟨S8192x8192, .f32⟩
  | 53 => ⟨S8192x8192, .f32⟩
  | 54 => ⟨S_, .f32⟩
  | 55 => ⟨S8192x8192, .f32⟩
  | 56 => ⟨S8192x8192, .f32⟩
  | 57 => ⟨S_, .f32⟩
  | 58 => ⟨S8192x8192, .f32⟩
  | 59 => ⟨S8192x8192, .f32⟩
  | 60 => ⟨S8192x8192, .i32⟩
  | 61 => ⟨S_, .i32⟩
  | 62 => ⟨S8192x8192, .i32⟩
  | 63 => ⟨S8192x8192, .i32⟩
  | 64 => ⟨S_, .i32⟩
  | 65 => ⟨S8192x8192, .i32⟩
  | 66 => ⟨S8192x8192, .i32⟩
  | 67 => ⟨S_, .i32⟩
  | 68 => ⟨S8192x8192, .i32⟩
  | 69 => ⟨S8192x8192, .i1⟩
  | 70 => ⟨S8192x8192, .i32⟩
  | 71 => ⟨S_, .i32⟩
  | 72 => ⟨S8192x8192, .i32⟩
  | 73 => ⟨S8192x8192, .i1⟩
  | 74 => ⟨S_, .i32⟩
  | 75 => ⟨S8192x8192, .i32⟩
  | 76 => ⟨S8192x8192, .i32⟩
  | 77 => ⟨S8192x8192, .i32⟩
  | 78 => ⟨S8192x8192x1, .i32⟩
  | 79 => ⟨S8192x8192x8, .f32⟩
  | 80 => ⟨S8x8192x8192, .f32⟩
  | 81 => ⟨S1x8x1x8192x8192, .f32⟩
  | 82 => ⟨S2x8x2x8192x8192, .f32⟩
  | 83 => ⟨S2x8x2x8192x8192, .f32⟩
  | 84 => ⟨S1x8192, .i32⟩
  | 85 => ⟨S8192x1, .i32⟩
  | 86 => ⟨S8192x8192, .i32⟩
  | 87 => ⟨S8192x8192, .i32⟩
  | 88 => ⟨S8192x8192, .i1⟩
  | 89 => ⟨S_, .f32⟩
  | 90 => ⟨S_, .f32⟩
  | 91 => ⟨S2x8x2x8192x8192, .i1⟩
  | 92 => ⟨S2x8x2x8192x8192, .f32⟩
  | 93 => ⟨S2x8x2x8192x8192, .f32⟩
  | 94 => ⟨S_, .f32⟩
  | 95 => ⟨S2x8x2x8192, .f32⟩
  | 96 => ⟨S_, .f32⟩
  | 97 => ⟨S2x8x2x8192, .f32⟩
  | 98 => ⟨S2x8x2x8192, .f32⟩
  | 99 => ⟨S2x8x2x8192x1, .f32⟩
  | 100 => ⟨S2x8x2x8192x8192, .f32⟩
  | 101 => ⟨S2x8x2x8192x8192, .f32⟩
  | 102 => ⟨S2x8x2x8192x8192, .f32⟩
  | 103 => ⟨S_, .f32⟩
  | 104 => ⟨S2x8x2x8192, .f32⟩
  | 105 => ⟨S2x8x2x8192x1, .f32⟩
  | 106 => ⟨S2x8x2x8192x8192, .f32⟩
  | 107 => ⟨S2x8x2x8192x8192, .f32⟩
  | 108 => ⟨S2x8x1x8192x8192, .f32⟩
  | 109 => ⟨S2x8x8192x8192, .f32⟩
  | 110 => ⟨S2x8x1x8192x8192, .f32⟩
  | 111 => ⟨S2x8x8192x8192, .f32⟩
  | 112 => ⟨S2x8x8192x8192, .f32⟩
  | 113 => ⟨S2x8x8192x8192, .f32⟩
  | 114 => ⟨S2x8x8192x8192, .f32⟩
  | 115 => ⟨S2x8x128x8192, .f32⟩
  | 116 => ⟨S2x8192x8x128, .f32⟩
  | 117 => ⟨S2x8192x8x128, .f32⟩
  | 118 => ⟨S_, .f32⟩
  | 119 => ⟨S2x8192x8, .f32⟩
  | 120 => ⟨S2x8192x8x1, .f32⟩
  | 121 => ⟨S_, .f32⟩
  | 122 => ⟨S2x8192x8x1, .f32⟩
  | 123 => ⟨S2x8192x8x1, .f32⟩
  | 124 => ⟨S_, .f32⟩
  | 125 => ⟨S2x8192x8x1, .f32⟩
  | 126 => ⟨S2x8192x8x1, .f32⟩
  | 127 => ⟨S2x8192x8x1, .f32⟩
  | _ => ⟨S16384x1024, .bf16⟩

abbrev hbmTy0_1 (i : Nat) : BufTy := match i % 128 with
  | 0 => ⟨S2x8192x8x128, .f32⟩
  | 1 => ⟨S2x8192x8x128, .f32⟩
  | 2 => ⟨S1x1x1x128, .f32⟩
  | 3 => ⟨S2x8192x8x128, .f32⟩
  | 4 => ⟨S2x8192x8x128, .f32⟩
  | 5 => ⟨S_, .f32⟩
  | 6 => ⟨S2x8192x8x128, .f32⟩
  | 7 => ⟨S2x8192x8x128, .f32⟩
  | 8 => ⟨S16384x1024, .f32⟩
  | 9 => ⟨S16384x1024, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_c_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_19 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩

abbrev nD : Nat := 1
abbrev τ : Topo := Topo.v7x

variable {F : FTy → Type} [FloatOps F]
-- ==== KernelIn.lean ====
abbrev S2x8192x1024 : Shape := ⟨3, ![2, 8192, 1024]⟩
abbrev S1024 : Shape := ⟨1, ![1024]⟩
abbrev S2x1x1024 : Shape := ⟨3, ![2, 1, 1024]⟩
abbrev S1024x5760 : Shape := ⟨2, ![1024, 5760]⟩
abbrev S1x1024 : Shape := ⟨2, ![1, 1024]⟩
abbrev S16384x5760 : Shape := ⟨2, ![16384, 5760]⟩
abbrev S1x512x1024 : Shape := ⟨3, ![1, 512, 1024]⟩
abbrev S1x1x1024 : Shape := ⟨3, ![1, 1, 1024]⟩
abbrev S1024x1920 : Shape := ⟨2, ![1024, 1920]⟩
abbrev S512x1920 : Shape := ⟨2, ![512, 1920]⟩
abbrev S512x1024 : Shape := ⟨2, ![512, 1024]⟩
abbrev S1x512 : Shape := ⟨2, ![1, 512]⟩
abbrev S1x512x1 : Shape := ⟨3, ![1, 512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x5760, .bf16⟩
  | .hbm, ⟨5, _⟩ => ⟨S1x1024, .f32⟩
  | .hbm, ⟨6, _⟩ => ⟨S16384x5760, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1920, .bf16⟩
  | .local _ .vmem, ⟨8, _⟩ => ⟨S1024x1920, .bf16⟩
  | .local _ .vmem, ⟨9, _⟩ => ⟨S512x1920, .f32⟩
  | .local _ .vmem, ⟨10, _⟩ => ⟨S512x1920, .f32⟩
  | .local _ .vmem, ⟨11, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceInIdeal.lean ====
abbrev S2x8192x1024 : Shape := ⟨3, ![2, 8192, 1024]⟩
abbrev S1024 : Shape := ⟨1, ![1024]⟩
abbrev S2x1x1024 : Shape := ⟨3, ![2, 1, 1024]⟩
abbrev S1024x5760 : Shape := ⟨2, ![1024, 5760]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5760 : Shape := ⟨3, ![2, 8192, 5760]⟩
abbrev S16384x5760 : Shape := ⟨2, ![16384, 5760]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x5760, .bf16⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S1024x5760, .f32⟩
  | .hbm, ⟨29, _⟩ => ⟨S2x8192x5760, .f32⟩
  | .hbm, ⟨30, _⟩ => ⟨S16384x5760, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== KernelOut.lean ====
abbrev S16384x3072 : Shape := ⟨2, ![16384, 3072]⟩
abbrev S3072x1024 : Shape := ⟨2, ![3072, 1024]⟩
abbrev S2x8192x1024 : Shape := ⟨3, ![2, 8192, 1024]⟩
abbrev S2x1x1024 : Shape := ⟨3, ![2, 1, 1024]⟩
abbrev S1024 : Shape := ⟨1, ![1024]⟩
abbrev S1x1024 : Shape := ⟨2, ![1, 1024]⟩
abbrev S16384x1024 : Shape := ⟨2, ![16384, 1024]⟩
abbrev S512x3072 : Shape := ⟨2, ![512, 3072]⟩
abbrev S1x512x1024 : Shape := ⟨3, ![1, 512, 1024]⟩
abbrev S1x1x1024 : Shape := ⟨3, ![1, 1, 1024]⟩
abbrev S512x1024 : Shape := ⟨2, ![512, 1024]⟩
abbrev S1x512 : Shape := ⟨2, ![1, 512]⟩
abbrev S1x512x1 : Shape := ⟨3, ![1, 512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x3072, .bf16⟩
  | .hbm, ⟨1, _⟩ => ⟨S3072x1024, .bf16⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S2x8192x1024, .f32⟩
  | .hbm, ⟨9, _⟩ => ⟨S16384x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelOutIdeal.lean ====
abbrev S16384x3072 : Shape := ⟨2, ![16384, 3072]⟩
abbrev S3072x1024 : Shape := ⟨2, ![3072, 1024]⟩
abbrev S2x8192x1024 : Shape := ⟨3, ![2, 8192, 1024]⟩
abbrev S2x1x1024 : Shape := ⟨3, ![2, 1, 1024]⟩
abbrev S1024 : Shape := ⟨1, ![1024]⟩
abbrev S1x1024 : Shape := ⟨2, ![1, 1024]⟩
abbrev S16384x1024 : Shape := ⟨2, ![16384, 1024]⟩
abbrev S512x3072 : Shape := ⟨2, ![512, 3072]⟩
abbrev S1x512x1024 : Shape := ⟨3, ![1, 512, 1024]⟩
abbrev S1x1x1024 : Shape := ⟨3, ![1, 1, 1024]⟩
abbrev S512x1024 : Shape := ⟨2, ![512, 1024]⟩
abbrev S1x512 : Shape := ⟨2, ![1, 512]⟩
abbrev S1x512x1 : Shape := ⟨3, ![1, 512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x3072, .bf16⟩
  | .hbm, ⟨1, _⟩ => ⟨S3072x1024, .bf16⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S2x8192x1024, .f32⟩
  | .hbm, ⟨9, _⟩ => ⟨S16384x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceOutIdeal.lean ====
abbrev S16384x3072 : Shape := ⟨2, ![16384, 3072]⟩
abbrev S3072x1024 : Shape := ⟨2, ![3072, 1024]⟩
abbrev S2x8192x1024 : Shape := ⟨3, ![2, 8192, 1024]⟩
abbrev S2x1x1024 : Shape := ⟨3, ![2, 1, 1024]⟩
abbrev S1024 : Shape := ⟨1, ![1024]⟩
abbrev S2x8192x3072 : Shape := ⟨3, ![2, 8192, 3072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S3072x1024, .bf16⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S16384x3072, .f32⟩
  | .hbm, ⟨8, _⟩ => ⟨S2x8192x3072, .f32⟩
  | .hbm, ⟨9, _⟩ => ⟨S3072x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S16384x1024, .f32⟩
  | .hbm, ⟨38, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== KernelOut2.lean ====
abbrev S16384x1024 : Shape := ⟨2, ![16384, 1024]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1x1024 : Shape := ⟨2, ![1, 1024]⟩
abbrev S512x1024 : Shape := ⟨2, ![512, 1024]⟩
abbrev S1x512x1024 : Shape := ⟨3, ![1, 512, 1024]⟩
abbrev S1x1x1024 : Shape := ⟨3, ![1, 1, 1024]⟩
abbrev S1x512 : Shape := ⟨2, ![1, 512]⟩
abbrev S1x512x1 : Shape := ⟨3, ![1, 512, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S1x1024, .f32⟩
  | .hbm, ⟨8, _⟩ => ⟨S2x8192x1024, .f32⟩
  | .hbm, ⟨9, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceOut2Ideal.lean ====
abbrev S16384x1024 : Shape := ⟨2, ![16384, 1024]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S2x1x1024, .f32⟩
  | .hbm, ⟨6, _⟩ => ⟨S2x1x1024, .f32⟩
  | .hbm, ⟨7, _⟩ => ⟨S16384x1024, .f32⟩
  | .hbm, ⟨8, _⟩ => ⟨S2x8192x1024, .f32⟩
  | .hbm, ⟨9, _⟩ => ⟨S1024x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S16384x1024, .f32⟩
  | .hbm, ⟨38, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== KernelAda.lean ====
abbrev S136x1024 : Shape := ⟨2, ![136, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x136x6144 : Shape := ⟨3, ![2, 136, 6144]⟩
abbrev S1x1024x512 : Shape := ⟨3, ![1, 1024, 512]⟩
abbrev S1x1x512 : Shape := ⟨3, ![1, 1, 512]⟩
abbrev S1x136x512 : Shape := ⟨3, ![1, 136, 512]⟩
abbrev S1024x512 : Shape := ⟨2, ![1024, 512]⟩
abbrev S136x512 : Shape := ⟨2, ![136, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x136x6144, .f32⟩
  | .local _ .vmem, ⟨0, _⟩ => ⟨S136x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x136x512, .f32⟩
  | .local _ .vmem, ⟨6, _⟩ => ⟨S1x136x512, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAdaIdeal.lean ====
abbrev S136x1024 : Shape := ⟨2, ![136, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S136x6144 : Shape := ⟨2, ![136, 6144]⟩
abbrev S1x6144 : Shape := ⟨2, ![1, 6144]⟩
abbrev S6144 : Shape := ⟨1, ![6144]⟩
abbrev S1x136x6144 : Shape := ⟨3, ![1, 136, 6144]⟩
abbrev S2x136x6144 : Shape := ⟨3, ![2, 136, 6144]⟩

abbrev nBuf : Space → Nat
  | .hbm => 31
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S2x1024x6144, .f32⟩
  | .hbm, ⟨2, _⟩ => ⟨S2x6144, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S1x1024x6144, .f32⟩
  | .hbm, ⟨13, _⟩ => ⟨S1024x6144, .f32⟩
  | .hbm, ⟨14, _⟩ => ⟨S136x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S136x6144, .f32⟩
  | .hbm, ⟨19, _⟩ => ⟨S136x6144, .f32⟩
  | .hbm, ⟨20, _⟩ => ⟨S1x1024x6144, .f32⟩
  | .hbm, ⟨21, _⟩ => ⟨S1024x6144, .f32⟩
  | .hbm, ⟨22, _⟩ => ⟨S136x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S136x6144, .f32⟩
  | .hbm, ⟨27, _⟩ => ⟨S136x6144, .f32⟩
  | .hbm, ⟨28, _⟩ => ⟨S1x136x6144, .f32⟩
  | .hbm, ⟨29, _⟩ => ⟨S1x136x6144, .f32⟩
  | .hbm, ⟨30, _⟩ => ⟨S2x136x6144, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Body.lean ====
/-
  The attention's two loops, as invariants over their trips.
-/
module

public import proofs.«01_k».proof.Proof.Trip
public import Idealize.ShloMosaic.Lib.Tactic

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)
  (arg2 : BitVec 32) (v5 : Vec F S512x128 .bf16) (v8 : FVec F S512x128 .bf16) (v46 v65 v67 : BitVec 32)

/-- What trip `k` of the loop over the far pairs makes of the six carried buffers (nothing, past the last trip). -/
def step1 (f5 : Bf F c arg5) (f6 : Bf F c arg6) (k : ℕ) (s : Bf F c arg10 × Bf F c arg11 × Bf F c arg12 × Bf F c arg13 × Bf F c arg16 × Bf F c arg18) : Bf F c arg10 × Bf F c arg11 × Bf F c arg12 × Bf F c arg13 × Bf F c arg16 × Bf F c arg18 :=
  if h : k < (k1_t1_loop i).trips then
    let W := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 ⟨k, h⟩ f5 f6 s.1 s.2.1 s.2.2.1 s.2.2.2.1 s.2.2.2.2.1 s.2.2.2.2.2).1
    (W.1, W.2.1, W.2.2.1, W.2.2.2.1, W.2.2.2.2.2.2.1, W.2.2.2.2.2.2.2.2)
  else s

/-- What the six carried buffers hold before trip `k` of the loop over the far pairs, from `s` before the first. -/
def st1 (f5 : Bf F c arg5) (f6 : Bf F c arg6) (s : Bf F c arg10 × Bf F c arg11 × Bf F c arg12 × Bf F c arg13 × Bf F c arg16 × Bf F c arg18) (k : ℕ) : Bf F c arg10 × Bf F c arg11 × Bf F c arg12 × Bf F c arg13 × Bf F c arg16 × Bf F c arg18 :=
  Nat.rec (motive := fun _ => Bf F c arg10 × Bf F c arg11 × Bf F c arg12 × Bf F c arg13 × Bf F c arg16 × Bf F c arg18) s (fun k s => step1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 k s) k

/-- `arg10`'s contents before trip `k`: its first ones, then those the trip before left. -/
abbrev c1_10 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg10 :=
  Nat.rec (motive := fun _ => Bf F c arg10) f10 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) (k + 1)).1) k

theorem c1_10_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) k).1 := by
  cases k <;> rfl

/-- `arg11`'s contents before trip `k`: its first ones, then those the trip before left. -/
abbrev c1_11 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg11 :=
  Nat.rec (motive := fun _ => Bf F c arg11) f11 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) (k + 1)).2.1) k

theorem c1_11_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) k).2.1 := by
  cases k <;> rfl

/-- `arg12`'s contents before trip `k`: its first ones, then those the trip before left. -/
abbrev c1_12 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg12 :=
  Nat.rec (motive := fun _ => Bf F c arg12) f12 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) (k + 1)).2.2.1) k

theorem c1_12_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) k).2.2.1 := by
  cases k <;> rfl

/-- `arg13`'s contents before trip `k`: its first ones, then those the trip before left. -/
abbrev c1_13 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg13 :=
  Nat.rec (motive := fun _ => Bf F c arg13) f13 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) (k + 1)).2.2.2.1) k

theorem c1_13_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) k).2.2.2.1 := by
  cases k <;> rfl

/-- `arg16`'s contents before trip `k`: its first ones, then those the trip before left. -/
abbrev c1_16 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg16 :=
  Nat.rec (motive := fun _ => Bf F c arg16) f16 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) (k + 1)).2.2.2.2.1) k

theorem c1_16_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) k).2.2.2.2.1 := by
  cases k <;> rfl

/-- `arg18`'s contents before trip `k`: its first ones, then those the trip before left. -/
abbrev c1_18 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg18 :=
  Nat.rec (motive := fun _ => Bf F c arg18) f18 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) (k + 1)).2.2.2.2.2) k

theorem c1_18_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) k).2.2.2.2.2 := by
  cases k <;> rfl

set_option warn.classDefReducibility false in
/-- The loop over the far pairs: the carried buffers at their recursion, the other three at anything. -/
@[sl_loop] def loopInv1 (E : Set ℕ) (f5 : Bf F c arg5) (f6 : Bf F c arg6) (f10 : Bf F c arg10) (f11 : Bf F c arg11) (f12 : Bf F c arg12) (f13 : Bf F c arg13) (f16 : Bf F c arg16) (f18 : Bf F c arg18) :
    LoopInvTy_k1_t1 (F := F) Unit ℕ UU ℕ 𝒱₀ c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 where
  inv k _ := iprop(∃ (f14 : Bf F c arg14) (f15 : Bf F c arg15) (f17 : Bf F c arg17), pt c arg5 f5 ∗ pt c arg6 f6 ∗ pt c arg10 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k) ∗ pt c arg11 (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k) ∗ pt c arg12 (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k) ∗ pt c arg13 (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k) ∗ pt c arg14 f14 ∗ pt c arg15 f15 ∗ pt c arg16 (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k) ∗ pt c arg17 f17 ∗ pt c arg18 (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f10 f11 f12 f13 f16 f18 k))
  step k _ := by
    rw [c1_10_eq, c1_11_eq, c1_12_eq, c1_13_eq, c1_16_eq, c1_18_eq]
    iintro ⟨%f14, %f15, %f17, H5, H6, H10, H11, H12, H13, H14, H15, H16, H17, H18⟩
    iapply ((trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 k f5 f6 _ _ _ _ _ _).2 f14 f15 f17 E _)
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H5, H6, H10, H11, H12, H13, H14, H15, H16, H17, H18⟩
    iexists _, _, _
    rw [c1_10_eq, c1_11_eq, c1_12_eq, c1_13_eq, c1_16_eq, c1_18_eq]
    rw [show st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) (k.val + 1) = step1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 k.val (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 (f10, f11, f12, f13, f16, f18) k.val) from rfl, step1, dif_pos k.isLt]
    dsimp only
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- What trip `k` of the loop over the near pairs makes of the six carried buffers (nothing, past the last trip). -/
def step3 (f5 : Bf F c arg5) (f6 : Bf F c arg6) (f7 : Bf F c arg7) (k : ℕ) (s : Bf F c arg10 × Bf F c arg11 × Bf F c arg12 × Bf F c arg13 × Bf F c arg16 × Bf F c arg18) : Bf F c arg10 × Bf F c arg11 × Bf F c arg12 × Bf F c arg13 × Bf F c arg16 × Bf F c arg18 :=
  if h : k < (k1_t3_loop i).trips then
    let W := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 ⟨k, h⟩ f5 f6 f7 s.1 s.2.1 s.2.2.1 s.2.2.2.1 s.2.2.2.2.1 s.2.2.2.2.2).1
    (W.1, W.2.1, W.2.2.1, W.2.2.2.1, W.2.2.2.2.2.2.1, W.2.2.2.2.2.2.2.2)
  else s

/-- What the six carried buffers hold before trip `k` of the loop over the near pairs, from `s` before the first. -/
def st3 (f5 : Bf F c arg5) (f6 : Bf F c arg6) (f7 : Bf F c arg7) (s : Bf F c arg10 × Bf F c arg11 × Bf F c arg12 × Bf F c arg13 × Bf F c arg16 × Bf F c arg18) (k : ℕ) : Bf F c arg10 × Bf F c arg11 × Bf F c arg12 × Bf F c arg13 × Bf F c arg16 × Bf F c arg18 :=
  Nat.rec (motive := fun _ => Bf F c arg10 × Bf F c arg11 × Bf F c arg12 × Bf F c arg13 × Bf F c arg16 × Bf F c arg18) s (fun k s => step3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 k s) k

/-- `arg10`'s contents before trip `k`: its first ones, then those the trip before left. -/
abbrev c3_10 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg10 :=
  Nat.rec (motive := fun _ => Bf F c arg10) f10 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) (k + 1)).1) k

theorem c3_10_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) k).1 := by
  cases k <;> rfl

/-- `arg11`'s contents before trip `k`: its first ones, then those the trip before left. -/
abbrev c3_11 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg11 :=
  Nat.rec (motive := fun _ => Bf F c arg11) f11 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) (k + 1)).2.1) k

theorem c3_11_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) k).2.1 := by
  cases k <;> rfl

/-- `arg12`'s contents before trip `k`: its first ones, then those the trip before left. -/
abbrev c3_12 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg12 :=
  Nat.rec (motive := fun _ => Bf F c arg12) f12 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) (k + 1)).2.2.1) k

theorem c3_12_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) k).2.2.1 := by
  cases k <;> rfl

/-- `arg13`'s contents before trip `k`: its first ones, then those the trip before left. -/
abbrev c3_13 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg13 :=
  Nat.rec (motive := fun _ => Bf F c arg13) f13 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) (k + 1)).2.2.2.1) k

theorem c3_13_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) k).2.2.2.1 := by
  cases k <;> rfl

/-- `arg16`'s contents before trip `k`: its first ones, then those the trip before left. -/
abbrev c3_16 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg16 :=
  Nat.rec (motive := fun _ => Bf F c arg16) f16 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) (k + 1)).2.2.2.2.1) k

theorem c3_16_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) k).2.2.2.2.1 := by
  cases k <;> rfl

/-- `arg18`'s contents before trip `k`: its first ones, then those the trip before left. -/
abbrev c3_18 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg18 :=
  Nat.rec (motive := fun _ => Bf F c arg18) f18 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) (k + 1)).2.2.2.2.2) k

theorem c3_18_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) k).2.2.2.2.2 := by
  cases k <;> rfl

set_option warn.classDefReducibility false in
/-- The loop over the near pairs: the carried buffers at their recursion, the other three at anything. -/
@[sl_loop] def loopInv3 (E : Set ℕ) (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) :
    LoopInvTy_k1_t3 (F := F) Unit ℕ UU ℕ 𝒱₀ c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 where
  inv k _ := iprop(∃ (f14 : Bf F c arg14) (f15 : Bf F c arg15) (f17 : Bf F c arg17), pt c arg5 f5 ∗ pt c arg6 f6 ∗ pt c arg7 f7 ∗ pt c arg10 (c3_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k) ∗ pt c arg11 (c3_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k) ∗ pt c arg12 (c3_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k) ∗ pt c arg13 (c3_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k) ∗ pt c arg14 f14 ∗ pt c arg15 f15 ∗ pt c arg16 (c3_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k) ∗ pt c arg17 f17 ∗ pt c arg18 (c3_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 f10 f11 f12 f13 f16 f18 k))
  step k _ := by
    rw [c3_10_eq, c3_11_eq, c3_12_eq, c3_13_eq, c3_16_eq, c3_18_eq]
    iintro ⟨%f14, %f15, %f17, H5, H6, H7, H10, H11, H12, H13, H14, H15, H16, H17, H18⟩
    iapply ((trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 k f5 f6 f7 _ _ _ _ _ _).2 f14 f15 f17 E _)
    isplitl [H5]; · iexact H5
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H5, H6, H7, H10, H11, H12, H13, H14, H15, H16, H17, H18⟩
    iexists _, _, _
    rw [c3_10_eq, c3_11_eq, c3_12_eq, c3_13_eq, c3_16_eq, c3_18_eq]
    rw [show st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) (k.val + 1) = step3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 k.val (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 f5 f6 f7 (f10, f11, f12, f13, f16, f18) k.val) from rfl, step3, dif_pos k.isLt]
    dsimp only
    isplitl [H5]; · iexact H5
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Cert.Kernel.Attn
-- ==== Proof.IdealTrip.lean ====
/-
  One trip of the attention's two loops over pairs of key blocks, run by the executor. (The idealized program.)
-/
module

public import proofs.«01_k».proof.Proof.Gen.KernelIdeal.Launch
public import proofs.«01_k».proof.Proof.Gen.KernelIdeal.Loops
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the certificate. -/
abbrev UU : Type := UR sig nD τ

local notation "𝕄" => MT nD τ sig Unit (Elt F) ℕ UU ℕ

/-- No variant is counted. -/
abbrev 𝒱₀ : Variants := Variants.none

/-- What core `c`'s buffer of the memref `M` may hold. -/
abbrev Bf (F : FTy → Type) (c : Dev nD) {sp : Space} {S : Shape} {e : EltTy} (M : Memref sig .tc sp S e) : Type :=
  Buf (Elt F) (M.view.loc (c : Thread nD τ))

/-- Core `c` holds the memref `M`'s buffer whole, at `f`. -/
abbrev pt (c : Dev nD) {sp : Space} {S : Shape} {e : EltTy} (M : Memref sig .tc sp S e) (f : Bf F c M) : sProp 𝕄 :=
  M.view.loc (c : Thread nD τ) ↦{fullShare} f

variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)
  (arg2 : BitVec 32) (v5 : Vec F S512x128 .bf16) (v8 : FVec F S512x128 .bf16) (v46 v65 v67 : BitVec 32)

/-- One trip of the loop over the far pairs of key blocks: what it leaves in the nine scratch buffers, as a function of
    the blocks it reads and of the six buffers whose contents it takes over from the trip before (the running maxima,
    the running sums, the accumulators, the scores of the pair's first block, and the weights and rescalings of the
    previous pair's second block), with the proof that from any contents of the other three it runs to its end and leaves that. -/
def trip1 (k : Fin (k1_t1_loop i).trips) (f5 : Bf F c arg5) (f6 : Bf F c arg6) (f10 : Bf F c arg10) (f11 : Bf F c arg11) (f12 : Bf F c arg12) (f13 : Bf F c arg13) (f16 : Bf F c arg16) (f18 : Bf F c arg18) :
    { W : Bf F c arg10 × Bf F c arg11 × Bf F c arg12 × Bf F c arg13 × Bf F c arg14 × Bf F c arg15 × Bf F c arg16 × Bf F c arg17 × Bf F c arg18 // ∀ (f14 : Bf F c arg14) (f15 : Bf F c arg15) (f17 : Bf F c arg17) (E : Set ℕ) (Q : Unit → sProp 𝕄),
      iprop(pt c arg5 f5 ∗ pt c arg6 f6 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗
        (iprop(pt c arg5 f5 ∗ pt c arg6 f6 ∗ pt c arg10 W.1 ∗ pt c arg11 W.2.1 ∗ pt c arg12 W.2.2.1 ∗ pt c arg13 W.2.2.2.1 ∗ pt c arg14 W.2.2.2.2.1 ∗ pt c arg15 W.2.2.2.2.2.1 ∗ pt c arg16 W.2.2.2.2.2.2.1 ∗ pt c arg17 W.2.2.2.2.2.2.2.1 ∗ pt c arg18 W.2.2.2.2.2.2.2.2) -∗ Q ()))
      ⊢ wp frame (wpE (defs₀ (F := F)) 𝒱₀ c none) E (k1_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 k ()) Q } := by
  refine ⟨⟨?m10, ?m11, ?m12, ?m13, ?m14, ?m15, ?m16, ?m17, ?m18⟩, fun f14 f15 f17 E Q => ?run⟩
  case run =>
    unfold k1_t1_body
    iintro ⟨H5, H6, H10, H11, H12, H13, H14, H15, H16, H17, H18, Hk⟩
    sl_exec!
    sl_step
    iapply Hk
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- One trip of the loop over the near pairs of key blocks: what it leaves in the nine scratch buffers, as a function of
    the blocks it reads and of the six buffers whose contents it takes over from the trip before (the running maxima,
    the running sums, the accumulators, the scores of the pair's first block, and the weights and rescalings of the
    previous pair's second block), with the proof that from any contents of the other three it runs to its end and leaves that. -/
def trip3 (k : Fin (k1_t3_loop i).trips) (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) :
    { W : Bf F c arg10 × Bf F c arg11 × Bf F c arg12 × Bf F c arg13 × Bf F c arg14 × Bf F c arg15 × Bf F c arg16 × Bf F c arg17 × Bf F c arg18 // ∀ (f14 : Bf F c arg14) (f15 : Bf F c arg15) (f17 : Bf F c arg17) (E : Set ℕ) (Q : Unit → sProp 𝕄),
      iprop(pt c arg5 f5 ∗ pt c arg6 f6 ∗ pt c arg7 f7 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗
        (iprop(pt c arg5 f5 ∗ pt c arg6 f6 ∗ pt c arg7 f7 ∗ pt c arg10 W.1 ∗ pt c arg11 W.2.1 ∗ pt c arg12 W.2.2.1 ∗ pt c arg13 W.2.2.2.1 ∗ pt c arg14 W.2.2.2.2.1 ∗ pt c arg15 W.2.2.2.2.2.1 ∗ pt c arg16 W.2.2.2.2.2.2.1 ∗ pt c arg17 W.2.2.2.2.2.2.2.1 ∗ pt c arg18 W.2.2.2.2.2.2.2.2) -∗ Q ()))
      ⊢ wp frame (wpE (defs₀ (F := F)) 𝒱₀ c none) E (k1_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v46 v65 v67 k ()) Q } := by
  refine ⟨⟨?m10, ?m11, ?m12, ?m13, ?m14, ?m15, ?m16, ?m17, ?m18⟩, fun f14 f15 f17 E Q => ?run⟩
  case run =>
    unfold k1_t3_body
    iintro ⟨H5, H6, H7, H10, H11, H12, H13, H14, H15, H16, H17, H18, Hk⟩
    sl_exec!
    sl_step
    iapply Hk
    isplitl [H5]; · iexact H5
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Cert.KernelIdeal.Attn
-- ==== Proof.IdealBody.lean ====
/-
  The attention's two loops, as invariants over their trips. (The idealized program.)
-/
module

public import proofs.«01_k».proof.Proof.IdealTrip
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)
  (arg2 : BitVec 32) (v5 : Vec F S512x128 .bf16) (v8 : FVec F S512x128 .bf16)

/-- What trip `k` of the loop over the far pairs makes of the six carried buffers (nothing, past the last trip). -/
def step1 (f5 : Bf F c arg5) (f6 : Bf F c arg6) (k : ℕ) (s : Bf F c arg10 × Bf F c arg11 × Bf F c arg12 × Bf F c arg13 × Bf F c arg16 × Bf F c arg18) : Bf F c arg10 × Bf F c arg11 × Bf F c arg12 × Bf F c arg13 × Bf F c arg16 × Bf F c arg18 :=
  if h : k < (k1_t1_loop i).trips then
    let W := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 0#32 0#32 ⟨k, h⟩ f5 f6 s.1 s.2.1 s.2.2.1 s.2.2.2.1 s.2.2.2.2.1 s.2.2.2.2.2).1
    (W.1, W.2.1, W.2.2.1, W.2.2.2.1, W.2.2.2.2.2.2.1, W.2.2.2.2.2.2.2.2)
  else s

/-- What the six carried buffers hold before trip `k` of the loop over the far pairs, from `s` before the first. -/
def st1 (f5 : Bf F c arg5) (f6 : Bf F c arg6) (s : Bf F c arg10 × Bf F c arg11 × Bf F c arg12 × Bf F c arg13 × Bf F c arg16 × Bf F c arg18) (k : ℕ) : Bf F c arg10 × Bf F c arg11 × Bf F c arg12 × Bf F c arg13 × Bf F c arg16 × Bf F c arg18 :=
  Nat.rec (motive := fun _ => Bf F c arg10 × Bf F c arg11 × Bf F c arg12 × Bf F c arg13 × Bf F c arg16 × Bf F c arg18) s (fun k s => step1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 k s) k

/-- `arg10`'s contents before trip `k`: its first ones, then those the trip before left. -/
abbrev c1_10 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg10 :=
  Nat.rec (motive := fun _ => Bf F c arg10) f10 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) (k + 1)).1) k

theorem c1_10_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) k).1 := by
  cases k <;> rfl

/-- `arg11`'s contents before trip `k`: its first ones, then those the trip before left. -/
abbrev c1_11 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg11 :=
  Nat.rec (motive := fun _ => Bf F c arg11) f11 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) (k + 1)).2.1) k

theorem c1_11_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) k).2.1 := by
  cases k <;> rfl

/-- `arg12`'s contents before trip `k`: its first ones, then those the trip before left. -/
abbrev c1_12 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg12 :=
  Nat.rec (motive := fun _ => Bf F c arg12) f12 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) (k + 1)).2.2.1) k

theorem c1_12_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) k).2.2.1 := by
  cases k <;> rfl

/-- `arg13`'s contents before trip `k`: its first ones, then those the trip before left. -/
abbrev c1_13 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg13 :=
  Nat.rec (motive := fun _ => Bf F c arg13) f13 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) (k + 1)).2.2.2.1) k

theorem c1_13_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) k).2.2.2.1 := by
  cases k <;> rfl

/-- `arg16`'s contents before trip `k`: its first ones, then those the trip before left. -/
abbrev c1_16 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg16 :=
  Nat.rec (motive := fun _ => Bf F c arg16) f16 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) (k + 1)).2.2.2.2.1) k

theorem c1_16_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) k).2.2.2.2.1 := by
  cases k <;> rfl

/-- `arg18`'s contents before trip `k`: its first ones, then those the trip before left. -/
abbrev c1_18 (f5 : Bf F c arg5) (f6 : Bf F c arg6) (f10 : Bf F c arg10) (f11 : Bf F c arg11) (f12 : Bf F c arg12) (f13 : Bf F c arg13) (f16 : Bf F c arg16) (f18 : Bf F c arg18) (k : ℕ) : Bf F c arg18 :=
  Nat.rec (motive := fun _ => Bf F c arg18) f18 (fun k _ => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) (k + 1)).2.2.2.2.2) k

theorem c1_18_eq (f5 : Bf F c arg5) (f6 : Bf F c arg6) (f10 : Bf F c arg10) (f11 : Bf F c arg11) (f12 : Bf F c arg12) (f13 : Bf F c arg13) (f16 : Bf F c arg16) (f18 : Bf F c arg18) (k : ℕ) : c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) k).2.2.2.2.2 := by
  cases k <;> rfl

set_option warn.classDefReducibility false in
/-- The loop over the far pairs: the carried buffers at their recursion, the other three at anything. -/
@[sl_loop] def loopInv1 (E : Set ℕ) (f5 : Bf F c arg5) (f6 : Bf F c arg6) (f10 : Bf F c arg10) (f11 : Bf F c arg11) (f12 : Bf F c arg12) (f13 : Bf F c arg13) (f16 : Bf F c arg16) (f18 : Bf F c arg18) :
    LoopInvTy_k1_t1 (F := F) Unit ℕ UU ℕ 𝒱₀ c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 0#32 0#32 where
  inv k _ := iprop(∃ (f14 : Bf F c arg14) (f15 : Bf F c arg15) (f17 : Bf F c arg17), pt c arg5 f5 ∗ pt c arg6 f6 ∗ pt c arg10 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k) ∗ pt c arg11 (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k) ∗ pt c arg12 (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k) ∗ pt c arg13 (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k) ∗ pt c arg14 f14 ∗ pt c arg15 f15 ∗ pt c arg16 (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k) ∗ pt c arg17 f17 ∗ pt c arg18 (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 f10 f11 f12 f13 f16 f18 k))
  step k _ := by
    rw [c1_10_eq, c1_11_eq, c1_12_eq, c1_13_eq, c1_16_eq, c1_18_eq]
    iintro ⟨%f14, %f15, %f17, H5, H6, H10, H11, H12, H13, H14, H15, H16, H17, H18⟩
    iapply ((trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 0#32 0#32 k f5 f6 _ _ _ _ _ _).2 f14 f15 f17 E _)
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H5, H6, H10, H11, H12, H13, H14, H15, H16, H17, H18⟩
    iexists _, _, _
    rw [c1_10_eq, c1_11_eq, c1_12_eq, c1_13_eq, c1_16_eq, c1_18_eq]
    rw [show st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) (k.val + 1) = step1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 k.val (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 (f10, f11, f12, f13, f16, f18) k.val) from rfl, step1, dif_pos k.isLt]
    dsimp only
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

variable (v65 : BitVec 32)

/-- What trip `k` of the loop over the near pairs makes of the six carried buffers (nothing, past the last trip). -/
def step3 (f5 : Bf F c arg5) (f6 : Bf F c arg6) (f7 : Bf F c arg7) (k : ℕ) (s : Bf F c arg10 × Bf F c arg11 × Bf F c arg12 × Bf F c arg13 × Bf F c arg16 × Bf F c arg18) : Bf F c arg10 × Bf F c arg11 × Bf F c arg12 × Bf F c arg13 × Bf F c arg16 × Bf F c arg18 :=
  if h : k < (k1_t3_loop i).trips then
    let W := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 v65 0#32 ⟨k, h⟩ f5 f6 f7 s.1 s.2.1 s.2.2.1 s.2.2.2.1 s.2.2.2.2.1 s.2.2.2.2.2).1
    (W.1, W.2.1, W.2.2.1, W.2.2.2.1, W.2.2.2.2.2.2.1, W.2.2.2.2.2.2.2.2)
  else s

/-- What the six carried buffers hold before trip `k` of the loop over the near pairs, from `s` before the first. -/
def st3 (f5 : Bf F c arg5) (f6 : Bf F c arg6) (f7 : Bf F c arg7) (s : Bf F c arg10 × Bf F c arg11 × Bf F c arg12 × Bf F c arg13 × Bf F c arg16 × Bf F c arg18) (k : ℕ) : Bf F c arg10 × Bf F c arg11 × Bf F c arg12 × Bf F c arg13 × Bf F c arg16 × Bf F c arg18 :=
  Nat.rec (motive := fun _ => Bf F c arg10 × Bf F c arg11 × Bf F c arg12 × Bf F c arg13 × Bf F c arg16 × Bf F c arg18) s (fun k s => step3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 k s) k

/-- `arg10`'s contents before trip `k`: its first ones, then those the trip before left. -/
abbrev c3_10 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg10 :=
  Nat.rec (motive := fun _ => Bf F c arg10) f10 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) (k + 1)).1) k

theorem c3_10_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) k).1 := by
  cases k <;> rfl

/-- `arg11`'s contents before trip `k`: its first ones, then those the trip before left. -/
abbrev c3_11 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg11 :=
  Nat.rec (motive := fun _ => Bf F c arg11) f11 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) (k + 1)).2.1) k

theorem c3_11_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) k).2.1 := by
  cases k <;> rfl

/-- `arg12`'s contents before trip `k`: its first ones, then those the trip before left. -/
abbrev c3_12 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg12 :=
  Nat.rec (motive := fun _ => Bf F c arg12) f12 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) (k + 1)).2.2.1) k

theorem c3_12_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) k).2.2.1 := by
  cases k <;> rfl

/-- `arg13`'s contents before trip `k`: its first ones, then those the trip before left. -/
abbrev c3_13 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg13 :=
  Nat.rec (motive := fun _ => Bf F c arg13) f13 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) (k + 1)).2.2.2.1) k

theorem c3_13_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) k).2.2.2.1 := by
  cases k <;> rfl

/-- `arg16`'s contents before trip `k`: its first ones, then those the trip before left. -/
abbrev c3_16 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg16 :=
  Nat.rec (motive := fun _ => Bf F c arg16) f16 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) (k + 1)).2.2.2.2.1) k

theorem c3_16_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) k).2.2.2.2.1 := by
  cases k <;> rfl

/-- `arg18`'s contents before trip `k`: its first ones, then those the trip before left. -/
abbrev c3_18 (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : Bf F c arg18 :=
  Nat.rec (motive := fun _ => Bf F c arg18) f18 (fun k _ => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) (k + 1)).2.2.2.2.2) k

theorem c3_18_eq (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) (k : ℕ) : c3_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) k).2.2.2.2.2 := by
  cases k <;> rfl

set_option warn.classDefReducibility false in
/-- The loop over the near pairs: the carried buffers at their recursion, the other three at anything. -/
@[sl_loop] def loopInv3 (E : Set ℕ) (f5 : Bf F c arg5) (f6 : Bf F c arg6) (f7 : Bf F c arg7) (f10 : Bf F c arg10) (f11 : Bf F c arg11) (f12 : Bf F c arg12) (f13 : Bf F c arg13) (f16 : Bf F c arg16) (f18 : Bf F c arg18) :
    LoopInvTy_k1_t3 (F := F) Unit ℕ UU ℕ 𝒱₀ c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 v65 0#32 where
  inv k _ := iprop(∃ (f14 : Bf F c arg14) (f15 : Bf F c arg15) (f17 : Bf F c arg17), pt c arg5 f5 ∗ pt c arg6 f6 ∗ pt c arg7 f7 ∗ pt c arg10 (c3_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k) ∗ pt c arg11 (c3_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k) ∗ pt c arg12 (c3_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k) ∗ pt c arg13 (c3_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k) ∗ pt c arg14 f14 ∗ pt c arg15 f15 ∗ pt c arg16 (c3_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k) ∗ pt c arg17 f17 ∗ pt c arg18 (c3_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 f10 f11 f12 f13 f16 f18 k))
  step k _ := by
    rw [c3_10_eq, c3_11_eq, c3_12_eq, c3_13_eq, c3_16_eq, c3_18_eq]
    iintro ⟨%f14, %f15, %f17, H5, H6, H7, H10, H11, H12, H13, H14, H15, H16, H17, H18⟩
    iapply ((trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 v65 0#32 k f5 f6 f7 _ _ _ _ _ _).2 f14 f15 f17 E _)
    isplitl [H5]; · iexact H5
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H5, H6, H7, H10, H11, H12, H13, H14, H15, H16, H17, H18⟩
    iexists _, _, _
    rw [c3_10_eq, c3_11_eq, c3_12_eq, c3_13_eq, c3_16_eq, c3_18_eq]
    rw [show st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) (k.val + 1) = step3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 k.val (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 (f10, f11, f12, f13, f16, f18) k.val) from rfl, step3, dif_pos k.isLt]
    dsimp only
    isplitl [H5]; · iexact H5
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Cert.KernelIdeal.Attn
-- ==== Proof.IdealRun.lean ====
/-
  The attention's body, run. (The idealized program.)
-/
module

public import proofs.«01_k».proof.Proof.IdealBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- The far loop's step is one, so what remains of it after its whole trips is nothing. -/
theorem trips2 (i : grid1.Coords) : (k1_t2_loop i).trips = 0 := by
  have h : ∀ j : Fin 16, ∀ (i : grid1.Coords), i 2 = j → (k1_t2_loop i).trips = 0 := by
    intro j i hi; unfold k1_t2_loop; rw [hi]; clear hi i; revert j; decide +kernel
  exact h _ i rfl

/-- The near loop's likewise. -/
theorem trips4 (i : grid1.Coords) : (k1_t4_loop i).trips = 0 := by
  have h : ∀ j : Fin 16, ∀ (i : grid1.Coords), i 2 = j → (k1_t4_loop i).trips = 0 := by
    intro j i hi; unfold k1_t4_loop; rw [hi]; clear hi i; revert j; decide +kernel
  exact h _ i rfl

variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)

/-- The attention's body: what it leaves in the result's staging buffer as a function of the six blocks it reads, with the proof
    that from any contents of the result's buffer and of the nine scratch buffers it runs to its end and leaves that. -/
def attnRun (f3 : Bf F c arg3) (f4 : Bf F c arg4) (f5 : Bf F c arg5) (f6 : Bf F c arg6) (f7 : Bf F c arg7) (f8 : Bf F c arg8) :
    { W : Bf F c arg9 // ∀ (f9 : Bf F c arg9) (f10 : Bf F c arg10) (f11 : Bf F c arg11) (f12 : Bf F c arg12) (f13 : Bf F c arg13) (f14 : Bf F c arg14) (f15 : Bf F c arg15) (f16 : Bf F c arg16) (f17 : Bf F c arg17) (f18 : Bf F c arg18) (E : Set ℕ) (Q : PUnit → sProp 𝕄),
      iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗
        (iprop(pt c arg3 f3 ∗ pt c arg4 f4 ∗ pt c arg5 f5 ∗ pt c arg6 f6 ∗ pt c arg7 f7 ∗ pt c arg8 f8 ∗ pt c arg9 W ∗ (∃ g, pt c arg10 g) ∗ (∃ g, pt c arg11 g) ∗ (∃ g, pt c arg12 g) ∗ (∃ g, pt c arg13 g) ∗ (∃ g, pt c arg14 g) ∗ (∃ g, pt c arg15 g) ∗ (∃ g, pt c arg16 g) ∗ (∃ g, pt c arg17 g) ∗ (∃ g, pt c arg18 g)) -∗ Q ⟨⟩))
      ⊢ wp frame (wpE (defs₀ (F := F)) 𝒱₀ c none) E (cc1_diff_attn_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q } := by
  refine ⟨?m9, fun f9 f10 f11 f12 f13 f14 f15 f16 f17 f18 E Q => ?run⟩
  case run =>
    have htr2 := trips2 i
    have htr4 := trips4 i
    iintro ⟨H3, H4, H5, H6, H7, H8, H9, H10, H11, H12, H13, H14, H15, H16, H17, H18, Hk⟩
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.KernelIdeal.Attn
-- ==== Proof.IdealBias.lean ====
/-
  The bias call's body, run. (The idealized program.)
-/
module

public import proofs.«01_k».proof.Proof.Gen.KernelIdeal.Launch
public import proofs.«01_k».proof.Proof.Gen.KernelIdeal.Skeleton
public import proofs.«01_k».proof.Proof.IdealRun
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD) (i : grid0.Coords) (arg1 : Memref sig .tc .smem S32x8 .f32) (harg1 : arg1.IsWhole) (arg2 : Memref sig .tc .vmem S1x4x512x512 .f32) (harg2 : arg2.IsWhole)

set_option maxHeartbeats 2000000 in
/-- The bias call's body: what it leaves in the tiles' staging buffer as a function of the table it reads, with the proof that from
    any contents of that buffer it runs to its end and leaves that. -/
def biasRun (f1 : Bf F c arg1) :
    { W : Bf F c arg2 // ∀ (f2 : Bf F c arg2) (E : Set ℕ) (Q : PUnit → sProp 𝕄),
      iprop(pt c arg1 f1 ∗ pt c arg2 f2 ∗ (iprop(pt c arg1 f1 ∗ pt c arg2 W) -∗ Q ⟨⟩))
      ⊢ wp frame (wpE (defs₀ (F := F)) 𝒱₀ c none) E (cc0_bias_tiles (F := F) i arg1 harg1 arg2 harg2) Q } := by
  refine ⟨?m, fun f2 E Q => ?run⟩
  case run =>
    simp only [cc0_bias_tiles_eq_skeleton]; unfold cc0_bias_tiles_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    iintro ⟨H1, H2, Hk⟩
    sl_exec!
    sl_step
    iapply Hk
    isplitl [H1]; · iexact H1
    iexact H2

end Cert.KernelIdeal.Attn
-- ==== Proof.IdealRegion.lean ====
/-
  The two calls' pipelines: what every point leaves. (The idealized program.)
-/
module

public import proofs.«01_k».proof.Proof.Gen.KernelIdeal.Points
public import proofs.«01_k».proof.Proof.Gen.KernelIdeal.Regions
public import proofs.«01_k».proof.Proof.IdealBias
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The bodies over owned memrefs -/

/-- A whole memref owned at `X` is its buffer held at the contents that read `X`. -/
theorem pt_of_owns (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns; rw [h.set_eq_univ]
  iintro ⟨%f, %hf, H⟩
  obtain rfl := h.eq_unread hf
  iexact H

/-- And back. -/
theorem owns_of_pt (c : Dev nD) {sp : Space} {S : Shape} {e : EltTy} (M : Memref sig .tc sp S e) (h : M.IsWhole) (f : Bf F c M) :
    (pt c M f : sProp 𝕄) ⊢ owns (c : Thread nD τ) M fullShare (M.view.read (Elt F) f) := by
  unfold owns; rw [h.set_eq_univ]
  iintro H
  iexists _; isplitr; swap; · iexact H
  ipureintro; rfl

theorem owns_unread (c : Dev nD) {sp : Space} {S : Shape} {e : EltTy} (M : Memref sig .tc sp S e) (h : M.IsWhole) (X : S.Idx → Elt F e) :
    (pt c M (h.unread X) : sProp 𝕄) ⊢ owns (c : Thread nD τ) M fullShare X := by
  refine (owns_of_pt c M h _).trans ?_
  rw [h.read_unread]

section
variable (c : Dev nD) (i : grid0.Coords) (arg1 : Memref sig .tc .smem S32x8 .f32) (harg1 : arg1.IsWhole) (arg2 : Memref sig .tc .vmem S1x4x512x512 .f32) (harg2 : arg2.IsWhole)

theorem biasRun_owns (x1 : S32x8.Idx → Elt F .f32) (E : Set ℕ) (Q : PUnit → sProp 𝕄) :
    iprop(owns (c : Thread nD τ) arg1 fullShare x1 ∗ (∃ d, owns (c : Thread nD τ) arg2 fullShare d)
        ∗ (iprop(owns (c : Thread nD τ) arg1 fullShare x1 ∗ owns (c : Thread nD τ) arg2 fullShare (arg2.view.read (Elt F) (biasRun (F := F) c i arg1 harg1 arg2 harg2 (harg1.unread x1)).1)) -∗ Q ⟨⟩))
      ⊢ wp frame (wpE (defs₀ (F := F)) 𝒱₀ c none) E (cc0_bias_tiles (F := F) i arg1 harg1 arg2 harg2) Q := by
  iintro ⟨H1, ⟨%d, H2⟩, Hk⟩
  ihave H1 := (pt_of_owns c arg1 harg1 x1) $$ H1
  ihave H2 := (pt_of_owns c arg2 harg2 d) $$ H2
  iapply ((biasRun (F := F) c i arg1 harg1 arg2 harg2 (harg1.unread x1)).2 _ E Q)
  isplitl [H1]; · iexact H1
  isplitl [H2]; · iexact H2
  iintro ⟨H1, H2⟩
  iapply Hk
  isplitl [H1]
  · iapply (owns_unread c arg1 harg1 x1); iexact H1
  iapply (owns_of_pt c arg2 harg2); iexact H2

end

section
variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)

set_option maxHeartbeats 1000000 in
theorem attnRun_owns (x3 : S4x64.Idx → Elt F .f32) (x4 : S512x128.Idx → Elt F .bf16) (x5 : S8192x128.Idx → Elt F .bf16) (x6 : S128x8192.Idx → Elt F .bf16) (x7 : S1x4x512x512.Idx → Elt F .f32) (x8 : S128x512.Idx → Elt F .f32) (E : Set ℕ) (Q : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ g, pt c arg10 g) ∗ (∃ g, pt c arg11 g) ∗ (∃ g, pt c arg12 g) ∗ (∃ g, pt c arg13 g) ∗ (∃ g, pt c arg14 g) ∗ (∃ g, pt c arg15 g) ∗ (∃ g, pt c arg16 g) ∗ (∃ g, pt c arg17 g) ∗ (∃ g, pt c arg18 g)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (arg9.view.read (Elt F) (attnRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x3) (harg4.unread x4) (harg5.unread x5) (harg6.unread x6) (harg7.unread x7) (harg8.unread x8)).1) ∗ (∃ g, pt c arg10 g) ∗ (∃ g, pt c arg11 g) ∗ (∃ g, pt c arg12 g) ∗ (∃ g, pt c arg13 g) ∗ (∃ g, pt c arg14 g) ∗ (∃ g, pt c arg15 g) ∗ (∃ g, pt c arg16 g) ∗ (∃ g, pt c arg17 g) ∗ (∃ g, pt c arg18 g)) -∗ Q ⟨⟩))
      ⊢ wp frame (wpE (defs₀ (F := F)) 𝒱₀ c none) E (cc1_diff_attn_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  iintro ⟨H3, H4, H5, H6, H7, H8, ⟨%d, H9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, Hk⟩
  ihave H3 := (pt_of_owns c arg3 harg3 x3) $$ H3
  ihave H4 := (pt_of_owns c arg4 harg4 x4) $$ H4
  ihave H5 := (pt_of_owns c arg5 harg5 x5) $$ H5
  ihave H6 := (pt_of_owns c arg6 harg6 x6) $$ H6
  ihave H7 := (pt_of_owns c arg7 harg7 x7) $$ H7
  ihave H8 := (pt_of_owns c arg8 harg8 x8) $$ H8
  ihave H9 := (pt_of_owns c arg9 harg9 d) $$ H9
  iapply ((attnRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x3) (harg4.unread x4) (harg5.unread x5) (harg6.unread x6) (harg7.unread x7) (harg8.unread x8)).2 _ s10 s11 s12 s13 s14 s15 s16 s17 s18 E Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  iintro ⟨H3, H4, H5, H6, H7, H8, H9, S10, S11, S12, S13, S14, S15, S16, S17, S18⟩
  iapply Hk
  isplitl [H3]
  · iapply (owns_unread c arg3 harg3 x3); iexact H3
  isplitl [H4]
  · iapply (owns_unread c arg4 harg4 x4); iexact H4
  isplitl [H5]
  · iapply (owns_unread c arg5 harg5 x5); iexact H5
  isplitl [H6]
  · iapply (owns_unread c arg6 harg6 x6); iexact H6
  isplitl [H7]
  · iapply (owns_unread c arg7 harg7 x7); iexact H7
  isplitl [H8]
  · iapply (owns_unread c arg8 harg8 x8); iexact H8
  isplitl [H9]
  · iapply (owns_of_pt c arg9 harg9); iexact H9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  iexact S18

end

/-- Any contents of the core's buffers. -/
abbrev Vals (F : FTy → Type) : Type := (c : Dev nD) → (b : Ref sig .tc) → Buf (Elt F) ((c : Thread nD τ).loc b)

variable (V : Vals F)

/-! ## The bias call -/

/-- A window's block of the bias call at a point, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the bias call's body leaves at a point. -/
abbrev run0 (c : Dev nD) (t : Fin cfg0.N) := biasRun (F := F) c (grid0.coords t) (win0_0.stage (cfg0.slots t 0)) (hstage0_0 ((cfg0.slots t 0).cast nbuf0_0)) (win0_1.stage (cfg0.slots t 1)) (hstage0_1 ((cfg0.slots t 1).cast nbuf0_1)) ((hstage0_0 ((cfg0.slots t 0).cast nbuf0_0)).unread (blk0 V c 0 t))

/-- What the staging buffer of the tiles holds after a point. -/
def out0 (c : Dev nD) (t : Fin cfg0.N) : S1x4x512x512.Idx → Elt F .f32 :=
  (win0_1.stage (cfg0.slots t 1)).view.read (Elt F) (run0 V c t).1

/-- The proof data of the bias call's pipeline, entered with the buffers at `V`. -/
def dat0 (c : Dev nD) : Dat τ (Elt F) Unit ℕ UU ℕ cfg0 c where
  A w := V c (Pipeline.arrRef spec0 w)
  after w t := match w with
    | ⟨0, _⟩ => blk0 V c 0 t
    | ⟨1, _⟩ => out0 V c t
  Φ _ := Pipeline.scopedRest (Ix := Unit) (Name := ℕ) (U := UU) (Lvl := ℕ) (Val := Elt F) spec0 c
  q _ := fullShare
  owed _ := 0

/-- The table's staging buffer holds the table at every point. -/
theorem before0_0 (c : Dev nD) (t : Fin cfg0.N) (d) : (dat0 V c).before 0 t d = blk0 V c 0 t :=
  ((dat0 V c).before_in_eq_fetched 0 rfl (fun _ => rfl) (fun _ _ _ => rfl) (fun t => by dsimp only [dat0]; unfold Dat.blockOf blk0; rfl) t d).trans
    (by unfold Dat.fetched Dat.blockOf blk0; rfl)

theorem body0 (c : Dev nD) : BodyObligation (dat0 V c) (defs₀ (F := F)) 𝒱₀ () Set.univ := fun t => by
  rw [bigSep_W0, bigSep_W0, show defs₀ (F := F) .tc cfg0.body (cfg0.bodyArgs t (cfg0.slots t)) = bodyAt0 t from by unfold defs₀; rw [Defs.onTc_tc]]
  rw [show (dat0 V c).Φ t.succ = (dat0 V c).Φ t.castSucc from rfl, show (dat0 V c).owesAt () t.succ = (dat0 V c).owesAt () t.castSucc from rfl]
  simp only [before0_0]
  rw [show (dat0 V c).after 0 t = blk0 V c 0 t from rfl, show (dat0 V c).after 1 t = out0 V c t from rfl]
  iintro ⟨HΦ, Howes, ⟨%d0, H0⟩, ⟨%d1, H1⟩⟩
  iapply (biasRun_owns c (grid0.coords t) (win0_0.stage (cfg0.slots t 0)) (hstage0_0 ((cfg0.slots t 0).cast nbuf0_0)) (win0_1.stage (cfg0.slots t 1)) (hstage0_1 ((cfg0.slots t 1).cast nbuf0_1)) (blk0 V c 0 t) Set.univ _)
  isplitl [H0]; · iexact H0
  isplitl [H1]; · iexists _; iexact H1
  iintro ⟨H0, H1⟩
  isplitl [HΦ]; · iexact HΦ
  isplitl [Howes]; · iexact Howes
  isplitl [H0]; · iexact H0
  iexact H1

/-! ## The attention -/

/-- A window's block of the attention at a point, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the attention's body leaves at a point. -/
abbrev run1 (c : Dev nD) (t : Fin cfg1.N) := attnRun (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) ((hstage1_0 ((cfg1.slots t 0).cast nbuf1_0)).unread (blk1 V c 0 t)) ((hstage1_1 ((cfg1.slots t 1).cast nbuf1_1)).unread (blk1 V c 1 t)) ((hstage1_2 ((cfg1.slots t 2).cast nbuf1_2)).unread (blk1 V c 2 t)) ((hstage1_3 ((cfg1.slots t 3).cast nbuf1_3)).unread (blk1 V c 3 t)) ((hstage1_4 ((cfg1.slots t 4).cast nbuf1_4)).unread (blk1 V c 4 t)) ((hstage1_5 ((cfg1.slots t 5).cast nbuf1_5)).unread (blk1 V c 5 t))

/-- What the staging buffer of the result holds after a point. -/
def out1 (c : Dev nD) (t : Fin cfg1.N) : S512x128.Idx → Elt F .bf16 :=
  (win1_6.stage (cfg1.slots t 6)).view.read (Elt F) (run1 V c t).1

/-- The proof data of the attention's pipeline, entered with the buffers at `V`. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => out1 V c t
  Φ _ := Pipeline.scopedRest (Ix := Unit) (Name := ℕ) (U := UU) (Lvl := ℕ) (Val := Elt F) spec1 c
  q _ := fullShare
  owed _ := 0

/-! Each input's staging buffer holds its block at every point, fetched there or not. -/

theorem before1_0 (c : Dev nD) (t : Fin cfg1.N) (d) : (dat1 V c).before 0 t d = blk1 V c 0 t :=
  ((dat1 V c).before_in_eq_fetched 0 rfl (fun _ => rfl) (fun _ _ _ => rfl) (fun t => by dsimp only [dat1]; unfold Dat.blockOf blk1; rfl) t d).trans
    (by unfold Dat.fetched Dat.blockOf blk1; rfl)

theorem before1_1 (c : Dev nD) (t : Fin cfg1.N) (d) : (dat1 V c).before 1 t d = blk1 V c 1 t :=
  ((dat1 V c).before_in_eq_fetched 1 rfl (fun _ => rfl) (fun _ _ _ => rfl) (fun t => by dsimp only [dat1]; unfold Dat.blockOf blk1; rfl) t d).trans
    (by unfold Dat.fetched Dat.blockOf blk1; rfl)

theorem before1_2 (c : Dev nD) (t : Fin cfg1.N) (d) : (dat1 V c).before 2 t d = blk1 V c 2 t :=
  ((dat1 V c).before_in_eq_fetched 2 rfl (fun _ => rfl) (fun _ _ _ => rfl) (fun t => by dsimp only [dat1]; unfold Dat.blockOf blk1; rfl) t d).trans
    (by unfold Dat.fetched Dat.blockOf blk1; rfl)

theorem before1_3 (c : Dev nD) (t : Fin cfg1.N) (d) : (dat1 V c).before 3 t d = blk1 V c 3 t :=
  ((dat1 V c).before_in_eq_fetched 3 rfl (fun _ => rfl) (fun _ _ _ => rfl) (fun t => by dsimp only [dat1]; unfold Dat.blockOf blk1; rfl) t d).trans
    (by unfold Dat.fetched Dat.blockOf blk1; rfl)

theorem before1_4 (c : Dev nD) (t : Fin cfg1.N) (d) : (dat1 V c).before 4 t d = blk1 V c 4 t :=
  ((dat1 V c).before_in_eq_fetched 4 rfl (fun _ => rfl) (fun _ _ _ => rfl) (fun t => by dsimp only [dat1]; unfold Dat.blockOf blk1; rfl) t d).trans
    (by unfold Dat.fetched Dat.blockOf blk1; rfl)

theorem before1_5 (c : Dev nD) (t : Fin cfg1.N) (d) : (dat1 V c).before 5 t d = blk1 V c 5 t :=
  ((dat1 V c).before_in_eq_fetched 5 rfl (fun _ => rfl) (fun _ _ _ => rfl) (fun t => by dsimp only [dat1]; unfold Dat.blockOf blk1; rfl) t d).trans
    (by unfold Dat.fetched Dat.blockOf blk1; rfl)

set_option maxHeartbeats 1000000 in
theorem body1 (c : Dev nD) : BodyObligation (dat1 V c) (defs₀ (F := F)) 𝒱₀ () Set.univ := fun t => by
  rw [bigSep_W1, bigSep_W1, show defs₀ (F := F) .tc cfg1.body (cfg1.bodyArgs t (cfg1.slots t)) = bodyAt1 t from by unfold defs₀; rw [Defs.onTc_tc]]
  rw [show (dat1 V c).owesAt () t.succ = (dat1 V c).owesAt () t.castSucc from rfl,
    show (dat1 V c).Φ t.castSucc = _ from scopedRest1_eq c, show (dat1 V c).Φ t.succ = _ from scopedRest1_eq c]
  simp only [before1_0, before1_1, before1_2, before1_3, before1_4, before1_5]
  rw [show (dat1 V c).after 0 t = blk1 V c 0 t from rfl, show (dat1 V c).after 1 t = blk1 V c 1 t from rfl, show (dat1 V c).after 2 t = blk1 V c 2 t from rfl, show (dat1 V c).after 3 t = blk1 V c 3 t from rfl, show (dat1 V c).after 4 t = blk1 V c 4 t from rfl, show (dat1 V c).after 5 t = blk1 V c 5 t from rfl, show (dat1 V c).after 6 t = out1 V c t from rfl]
  iintro ⟨⟨Ra, Rb, S10, S11, S12, S13, S14, S15, S16, S17, S18, Rc⟩, Howes, ⟨%d0, H0⟩, ⟨%d1, H1⟩, ⟨%d2, H2⟩, ⟨%d3, H3⟩, ⟨%d4, H4⟩, ⟨%d5, H5⟩, ⟨%d6, H6⟩⟩
  iapply (attnRun_owns c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (blk1 V c 0 t) (blk1 V c 1 t) (blk1 V c 2 t) (blk1 V c 3 t) (blk1 V c 4 t) (blk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  iintro ⟨H0, H1, H2, H3, H4, H5, H6, S10, S11, S12, S13, S14, S15, S16, S17, S18⟩
  isplitl [Ra Rb Rc S10 S11 S12 S13 S14 S15 S16 S17 S18]
  · isplitl [Ra]; · iexact Ra
    isplitl [Rb]; · iexact Rb
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    iexact Rc
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end Cert.KernelIdeal.Attn
-- ==== Proof.IdealKept.lean ====
/-
  The joined program, run: its frame. (The idealized program.)
-/
module

public import proofs.«01_k».proof.Proof.Gen.KernelIdeal.Points
public import proofs.«01_k».proof.Proof.Gen.KernelIdeal.Regions
public import proofs.«01_k».proof.Proof.IdealRegion
public import Idealize.ShloMosaic.Lib.Pipeline.RegionsLoop
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The buffers between the calls -/

/-- As launched, read per reference. -/
abbrev E0 : Vals F := fun c b => m ((c : Thread nD τ).loc b)
/-- The tiles the first call leaves. -/
def tiles (c : Dev nD) : Buf (Elt F) ((c : Thread nD τ).loc main_v0) := (dat0 (E0 m) c).arrAt 1 cfg0.N
/-- After the first call. -/
def U1 (c : Dev nD) : Valuation τ sig (Elt F) := Function.update (V0 m c) main_v0 (tiles m c)
/-- After the gain is spread over the lanes. -/
def U2 (c : Dev nD) : Valuation τ sig (Elt F) := StableHlo.after hostOps1 (U1 m c)
abbrev X0 : Vals F := fun c b => U1 m c b
abbrev E1 : Vals F := fun c b => U2 m c b
/-- The result the second call leaves. -/
def result (c : Dev nD) : Buf (Elt F) ((c : Thread nD τ).loc main_v3) := (dat1 (E1 m) c).arrAt 6 cfg1.N
/-- At the end. -/
def U3 (c : Dev nD) : Valuation τ sig (Elt F) := Function.update (U2 m c) main_v3 (result m c)
abbrev X1 : Vals F := fun c b => U3 m c b

theorem X0_out (c : Dev nD) : X0 m c main_v0 = tiles m c := Function.update_self ..
theorem X0_ne (c : Dev nD) (b : Ref sig .tc) (h : b ≠ main_v0) : X0 m c b = E0 m c b :=
  Function.update_of_ne (StableHlo.devRef_ne_of_ne h : (Proc.devRef .tc b : DevRef τ sig) ≠ Proc.devRef .tc main_v0) ..
theorem X1_out (c : Dev nD) : X1 m c main_v3 = result m c := Function.update_self ..
theorem X1_ne (c : Dev nD) (b : Ref sig .tc) (h : b ≠ main_v3) : X1 m c b = E1 m c b :=
  Function.update_of_ne (StableHlo.devRef_ne_of_ne h : (Proc.devRef .tc b : DevRef τ sig) ≠ Proc.devRef .tc main_v3) ..
theorem E1_of (c : Dev nD) (b : Ref sig .tc) (h : b ∉ hostOps1_W) : E1 m c b = X0 m c b :=
  StableHlo.after_of_writes_sub hostOps1 _ hostOps1_writes h
/-- An argument is as launched throughout. -/
theorem E1_arg (c : Dev nD) (b : Ref sig .tc) (h1 : b ≠ main_v0) (h2 : b ∉ hostOps1_W) : E1 m c b = m ((c : Thread nD τ).loc b) :=
  (E1_of m c b h2).trans (X0_ne m c b h1)
theorem X1_arg (c : Dev nD) (b : Ref sig .tc) (h1 : b ≠ main_v0) (h2 : b ∉ hostOps1_W) (h3 : b ≠ main_v3) : X1 m c b = m ((c : Thread nD τ).loc b) :=
  (X1_ne m c b h3).trans (E1_arg m c b h1 h2)

/-! ## The segments -/

/-- No core owes another anything: no level is assigned. -/
abbrev L : GSem nD τ sig → Finset Unit := fun _ => ∅
abbrev lv : GSem nD τ sig → Unit → ℕ := fun _ _ => 0
/-- What rides beside the buffers. -/
abbrev R (c : Dev nD) : sProp 𝕄 := iprop(∃ W, owes (c : Thread nD τ) (0 : CellTallies nD τ sig Unit) W)

/-- The two pipelines' proof data. -/
def pdats : (p : Fin 2) → (c : Dev nD) → Dat τ (Elt F) Unit ℕ UU ℕ (Pipeline.pin (pcfgs (F := F)) adm p) c
  | ⟨0, _⟩ => fun c => dat0 (E0 m) c
  | ⟨1, _⟩ => fun c => dat1 (E1 m) c

set_option backward.isDefEq.respectTransparency.types false in
/-- Call 0 as a segment: entered with every unscoped buffer at `V0 m c` and left with `main_v0` at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 _ c).loose
  hwaits := Pipeline.hwaits_of_owed_zero _ _ _ _ L lv 0 fun _ _ => rfl
  pre c := iprop(unscopedBufs c (E0 m c) ∗ R c)
  post c := iprop(unscopedBufs c (X0 m c) ∗ R c)
  X _ := BI.emp
  Y _ := BI.emp
  Z c := Pipeline.unscopedRest (Ix := Unit) (Name := ℕ) (U := UU) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (E0 m c) (X0 m c) ((pdats m 0 c).arrAt · cfg0.N)
      (fun w => by
        fin_cases w
        · exact ((pdats m 0 c).arrAt_in 0 rfl _).trans (X0_ne m c main_arg3 (by decide)).symm
        · exact (X0_out m c).symm)
      (fun b hb => X0_ne m c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Call 1 as a segment: entered with every unscoped buffer at `U2 m c` and left with `main_v3` at what the write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 _ c).loose
  hwaits := Pipeline.hwaits_of_owed_zero _ _ _ _ L lv 1 fun _ _ => rfl
  pre c := iprop(unscopedBufs c (E1 m c) ∗ R c)
  post c := iprop(unscopedBufs c (X1 m c) ∗ R c)
  X _ := BI.emp
  Y _ := BI.emp
  Z c := Pipeline.unscopedRest (Ix := Unit) (Name := ℕ) (U := UU) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (E1 m c) (X1 m c) ((pdats m 1 c).arrAt · cfg1.N)
      (fun w => by
        fin_cases w
        · exact ((pdats m 1 c).arrAt_in 0 rfl _).trans (X1_ne m c main_arg4 (by decide)).symm
        · exact ((pdats m 1 c).arrAt_in 1 rfl _).trans (X1_ne m c main_arg0 (by decide)).symm
        · exact ((pdats m 1 c).arrAt_in 2 rfl _).trans (X1_ne m c main_arg1 (by decide)).symm
        · exact ((pdats m 1 c).arrAt_in 3 rfl _).trans (X1_ne m c main_arg2 (by decide)).symm
        · exact ((pdats m 1 c).arrAt_in 4 rfl _).trans (X1_ne m c main_v0 (by decide)).symm
        · exact ((pdats m 1 c).arrAt_in 5 rfl _).trans (X1_ne m c main_v2 (by decide)).symm
        · exact (X1_out m c).symm)
      (fun b hb => X1_ne m c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The host operations between the calls. -/
def host1 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) R

abbrev segments : List (Pipeline.Seg (pcfgs (F := F)) adm (pdats m) () defs₀ 𝒱₀ L lv) := [.region (reg0 m), .host (host1 m), .region (reg1 m)]

/-! ## The run -/

set_option backward.isDefEq.respectTransparency.types false in
/-- Every weakly fair execution from zero counters ends; at the end every unscoped buffer is at `U3` and every counter at zero. -/
theorem run_main : θ_run defs (onTc (τ := τ) (main (F := F))) ⟨m, fun _ => 0, ρ⟩ (fun r =>
    (∀ (c : Dev nD) (b : Ref sig .tc), b.isScoped = false → r.2.mem ((c : Thread nD τ).loc b) = X1 m c b) ∧ r.2.sem = fun _ => 0) :=
  Pipeline.θ_run_regions_kit_sems (pcfgs (F := F)) adm (pdats m) () cellOf_inj emb₁ defs₀ 𝒱₀ L lv m ρ main (segments m)
    (fun c Q => by rw [main_segs adm (pdats m) () 𝒱₀ L lv (host1 m) (reg0 m) (reg1 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (E0 m c) ∗ R c)) (Tₙ := fun c => StableHlo.held (c : Thread nD τ) (Pipeline.ucRefs τ sig) (U3 m c))
    (hch := ⟨fun _ => .rfl,
      fun c => sep_mono (Entails.of_eq (Pipeline.unscopedBufs_held (Ix := Unit) (Name := ℕ) (U := UU) (Lvl := ℕ) c (U1 m c))) .rfl,
      fun c => sep_mono (Entails.of_eq (Pipeline.unscopedBufs_held (Ix := Unit) (Name := ℕ) (U := UU) (Lvl := ℕ) c (U2 m c)).symm) .rfl,
      fun c => sep_mono (Entails.of_eq (Pipeline.unscopedBufs_held (Ix := Unit) (Name := ℕ) (U := UU) (Lvl := ℕ) c (U3 m c))) .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ b : Ref sig .tc, b.isScoped = false → s.mem ((c : Thread nD τ).loc b) = X1 m c b)
    (hfin := fun c s' => by
      unfold StableHlo.held
      iintro ⟨Hh, HSI⟩
      ihave Hr := (pointsTo_read_all (Pipeline.ucRefs τ sig) (fun b => ((c : Thread nD τ).1, b)) (U3 m c) s') $$ [Hh HSI]
      · isplitl [Hh] <;> iassumption
      icases Hr with ⟨%h, HSI⟩
      imodintro
      isplitr
      · ipureintro
        intro b hb
        exact h (Proc.devRef .tc b) (Finset.mem_filter.mpr ⟨StableHlo.devRef_mem_tcRefs b, fun hs => Bool.false_ne_true (hb.symm.trans hs)⟩)
      iexact HSI)
    (hQ := fun _ h hz => ⟨h, funext fun g => hz g (.inr (regions_no_unscoped g.2))⟩)

/-- The frame: every argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, h.2⟩) (run_main m ρ)
  have key : ∀ b : Ref sig .tc, b.isScoped = false → b ≠ main_v0 → b ∉ hostOps1_W → b ≠ main_v3 → r.2.mem ((c : Thread nD τ).loc b) = m ((c : Thread nD τ).loc b) :=
    fun b h0 h1 h2 h3 => (h.1 c b h0).trans (X1_arg m c b h1 h2 h3)
  exact ⟨key main_arg0 rfl (by decide) (by decide) (by decide), key main_arg1 rfl (by decide) (by decide) (by decide), key main_arg2 rfl (by decide) (by decide) (by decide),
    key main_arg3 rfl (by decide) (by decide) (by decide), key main_arg4 rfl (by decide) (by decide) (by decide), key main_arg5 rfl (by decide) (by decide) (by decide)⟩

end Cert.KernelIdeal.Attn
-- ==== Proof.IdealReads.lean ====
/-
  What a trip of the attention's two loops leaves, read at one query column. (The idealized program.)
-/
module
public import proofs.«01_k».proof.Proof.IdealTrip
public import Idealize.ShloMosaic.Lib.Pointwise
public import Idealize.ShloMosaic.Lib.WritesUnit

@[expose] public section

set_option maxRecDepth 16384

noncomputable section

namespace Cert.KernelIdeal.Attn

open Cert.KernelIdeal Cert.KernelIdeal.Gen
open Idealize.ShloMosaic Idealize.ShloMosaic.TcCoe

section Reads

variable {sig : RefSig} {κ : Kind} {sp : Space} {e : EltTy}

/-- A load of half 0 of a two-half buffer. -/
theorem at0_1 (v : View sig κ sp S2x1x512 e) (f : v.ty.Contents (Elt Ideal)) (inb : ∀ d, (![0, 0, 0] : Fin 3 → ℕ) d + (![1, 1, 512] : Fin 3 → ℕ) d ≤ S2x1x512.size d) (z : Fin 1) (r : Fin 1) (l : Fin 512) :
    v.readAt (Elt Ideal) (Rect.unit (s := S2x1x512) ![0, 0, 0] ![1, 1, 512] inb).toLoadRect f (ix3 z r l) = v.read (Elt Ideal) f (ix3 0 r l) := by
  refine congrArg (v.read (Elt Ideal) f) (funext fun d => Fin.ext ?_)
  fin_cases d <;> simp [LoadRect.idx, Rect.toLoadRect, Rect.unit, ix3]

/-- The same of a load after writes. -/
theorem cov0_1 (v : View sig κ sp S2x1x512 e) (L : List (View.Piece (Elt Ideal) S2x1x512 e)) (inb : ∀ d, (![0, 0, 0] : Fin 3 → ℕ) d + (![1, 1, 512] : Fin 3 → ℕ) d ≤ S2x1x512.size d) (z : Fin 1) (r : Fin 1) (l : Fin 512) :
    v.readCov L (Rect.unit (s := S2x1x512) ![0, 0, 0] ![1, 1, 512] inb).toLoadRect (ix3 z r l) = v.read (Elt Ideal) (v.writes (Elt Ideal) v.junk L) (ix3 0 r l) :=
  at0_1 v _ inb z r l

/-- Half 0 after a write of it is what was written. -/
theorem hit0_1 (v : View sig κ sp S2x1x512 e) (f : v.ty.Contents (Elt Ideal)) (inb : ∀ d, (![0, 0, 0] : Fin 3 → ℕ) d + (![1, 1, 512] : Fin 3 → ℕ) d ≤ S2x1x512.size d) (w : S1x1x512.Idx → Elt Ideal e) (L : List (View.Piece (Elt Ideal) S2x1x512 e)) (r : Fin 1) (l : Fin 512) :
    v.read (Elt Ideal) (v.writes (Elt Ideal) f (⟨Rect.unit (s := S2x1x512) ![0, 0, 0] ![1, 1, 512] inb, w⟩ :: L)) (ix3 0 r l) = w (ix3 0 r l) :=
  View.read_writes_cons_unit_of_mem (s := S2x1x512) v f inb w L (ix3 0 r l) (ix3 0 r l) rfl (by intro d; fin_cases d <;> simp)

/-- Half 1 is not touched by a write of half 0. -/
theorem miss0_1 (v : View sig κ sp S2x1x512 e) (f : v.ty.Contents (Elt Ideal)) (inb : ∀ d, (![0, 0, 0] : Fin 3 → ℕ) d + (![1, 1, 512] : Fin 3 → ℕ) d ≤ S2x1x512.size d) (w : S1x1x512.Idx → Elt Ideal e) (L : List (View.Piece (Elt Ideal) S2x1x512 e)) (r : Fin 1) (l : Fin 512) :
    v.read (Elt Ideal) (v.writes (Elt Ideal) f (⟨Rect.unit (s := S2x1x512) ![0, 0, 0] ![1, 1, 512] inb, w⟩ :: L)) (ix3 1 r l) = v.read (Elt Ideal) (v.writes (Elt Ideal) f L) (ix3 1 r l) :=
  View.read_writes_cons_unit_of_not_mem (s := S2x1x512) v f inb w L (ix3 1 r l) rfl 0 (by simp)

/-- A load of half 1 of a two-half buffer. -/
theorem at1_1 (v : View sig κ sp S2x1x512 e) (f : v.ty.Contents (Elt Ideal)) (inb : ∀ d, (![1, 0, 0] : Fin 3 → ℕ) d + (![1, 1, 512] : Fin 3 → ℕ) d ≤ S2x1x512.size d) (z : Fin 1) (r : Fin 1) (l : Fin 512) :
    v.readAt (Elt Ideal) (Rect.unit (s := S2x1x512) ![1, 0, 0] ![1, 1, 512] inb).toLoadRect f (ix3 z r l) = v.read (Elt Ideal) f (ix3 1 r l) := by
  refine congrArg (v.read (Elt Ideal) f) (funext fun d => Fin.ext ?_)
  fin_cases d <;> simp [LoadRect.idx, Rect.toLoadRect, Rect.unit, ix3]

/-- The same of a load after writes. -/
theorem cov1_1 (v : View sig κ sp S2x1x512 e) (L : List (View.Piece (Elt Ideal) S2x1x512 e)) (inb : ∀ d, (![1, 0, 0] : Fin 3 → ℕ) d + (![1, 1, 512] : Fin 3 → ℕ) d ≤ S2x1x512.size d) (z : Fin 1) (r : Fin 1) (l : Fin 512) :
    v.readCov L (Rect.unit (s := S2x1x512) ![1, 0, 0] ![1, 1, 512] inb).toLoadRect (ix3 z r l) = v.read (Elt Ideal) (v.writes (Elt Ideal) v.junk L) (ix3 1 r l) :=
  at1_1 v _ inb z r l

/-- Half 0 is not touched by a write of half 1. -/
theorem miss1_1 (v : View sig κ sp S2x1x512 e) (f : v.ty.Contents (Elt Ideal)) (inb : ∀ d, (![1, 0, 0] : Fin 3 → ℕ) d + (![1, 1, 512] : Fin 3 → ℕ) d ≤ S2x1x512.size d) (w : S1x1x512.Idx → Elt Ideal e) (L : List (View.Piece (Elt Ideal) S2x1x512 e)) (r : Fin 1) (l : Fin 512) :
    v.read (Elt Ideal) (v.writes (Elt Ideal) f (⟨Rect.unit (s := S2x1x512) ![1, 0, 0] ![1, 1, 512] inb, w⟩ :: L)) (ix3 0 r l) = v.read (Elt Ideal) (v.writes (Elt Ideal) f L) (ix3 0 r l) :=
  View.read_writes_cons_unit_of_not_mem (s := S2x1x512) v f inb w L (ix3 0 r l) rfl 0 (by simp)

/-- Half 1 after a write of it is what was written. -/
theorem hit1_1 (v : View sig κ sp S2x1x512 e) (f : v.ty.Contents (Elt Ideal)) (inb : ∀ d, (![1, 0, 0] : Fin 3 → ℕ) d + (![1, 1, 512] : Fin 3 → ℕ) d ≤ S2x1x512.size d) (w : S1x1x512.Idx → Elt Ideal e) (L : List (View.Piece (Elt Ideal) S2x1x512 e)) (r : Fin 1) (l : Fin 512) :
    v.read (Elt Ideal) (v.writes (Elt Ideal) f (⟨Rect.unit (s := S2x1x512) ![1, 0, 0] ![1, 1, 512] inb, w⟩ :: L)) (ix3 1 r l) = w (ix3 0 r l) :=
  View.read_writes_cons_unit_of_mem (s := S2x1x512) v f inb w L (ix3 1 r l) (ix3 0 r l) rfl (by intro d; fin_cases d <;> simp)

/-- A load of half 0 of a two-half buffer. -/
theorem at0_128 (v : View sig κ sp S2x128x512 e) (f : v.ty.Contents (Elt Ideal)) (inb : ∀ d, (![0, 0, 0] : Fin 3 → ℕ) d + (![1, 128, 512] : Fin 3 → ℕ) d ≤ S2x128x512.size d) (z : Fin 1) (r : Fin 128) (l : Fin 512) :
    v.readAt (Elt Ideal) (Rect.unit (s := S2x128x512) ![0, 0, 0] ![1, 128, 512] inb).toLoadRect f (ix3 z r l) = v.read (Elt Ideal) f (ix3 0 r l) := by
  refine congrArg (v.read (Elt Ideal) f) (funext fun d => Fin.ext ?_)
  fin_cases d <;> simp [LoadRect.idx, Rect.toLoadRect, Rect.unit, ix3]

/-- The same of a load after writes. -/
theorem cov0_128 (v : View sig κ sp S2x128x512 e) (L : List (View.Piece (Elt Ideal) S2x128x512 e)) (inb : ∀ d, (![0, 0, 0] : Fin 3 → ℕ) d + (![1, 128, 512] : Fin 3 → ℕ) d ≤ S2x128x512.size d) (z : Fin 1) (r : Fin 128) (l : Fin 512) :
    v.readCov L (Rect.unit (s := S2x128x512) ![0, 0, 0] ![1, 128, 512] inb).toLoadRect (ix3 z r l) = v.read (Elt Ideal) (v.writes (Elt Ideal) v.junk L) (ix3 0 r l) :=
  at0_128 v _ inb z r l

/-- Half 0 after a write of it is what was written. -/
theorem hit0_128 (v : View sig κ sp S2x128x512 e) (f : v.ty.Contents (Elt Ideal)) (inb : ∀ d, (![0, 0, 0] : Fin 3 → ℕ) d + (![1, 128, 512] : Fin 3 → ℕ) d ≤ S2x128x512.size d) (w : S1x128x512.Idx → Elt Ideal e) (L : List (View.Piece (Elt Ideal) S2x128x512 e)) (r : Fin 128) (l : Fin 512) :
    v.read (Elt Ideal) (v.writes (Elt Ideal) f (⟨Rect.unit (s := S2x128x512) ![0, 0, 0] ![1, 128, 512] inb, w⟩ :: L)) (ix3 0 r l) = w (ix3 0 r l) :=
  View.read_writes_cons_unit_of_mem (s := S2x128x512) v f inb w L (ix3 0 r l) (ix3 0 r l) rfl (by intro d; fin_cases d <;> simp)

/-- Half 1 is not touched by a write of half 0. -/
theorem miss0_128 (v : View sig κ sp S2x128x512 e) (f : v.ty.Contents (Elt Ideal)) (inb : ∀ d, (![0, 0, 0] : Fin 3 → ℕ) d + (![1, 128, 512] : Fin 3 → ℕ) d ≤ S2x128x512.size d) (w : S1x128x512.Idx → Elt Ideal e) (L : List (View.Piece (Elt Ideal) S2x128x512 e)) (r : Fin 128) (l : Fin 512) :
    v.read (Elt Ideal) (v.writes (Elt Ideal) f (⟨Rect.unit (s := S2x128x512) ![0, 0, 0] ![1, 128, 512] inb, w⟩ :: L)) (ix3 1 r l) = v.read (Elt Ideal) (v.writes (Elt Ideal) f L) (ix3 1 r l) :=
  View.read_writes_cons_unit_of_not_mem (s := S2x128x512) v f inb w L (ix3 1 r l) rfl 0 (by simp)

/-- A load of half 1 of a two-half buffer. -/
theorem at1_128 (v : View sig κ sp S2x128x512 e) (f : v.ty.Contents (Elt Ideal)) (inb : ∀ d, (![1, 0, 0] : Fin 3 → ℕ) d + (![1, 128, 512] : Fin 3 → ℕ) d ≤ S2x128x512.size d) (z : Fin 1) (r : Fin 128) (l : Fin 512) :
    v.readAt (Elt Ideal) (Rect.unit (s := S2x128x512) ![1, 0, 0] ![1, 128, 512] inb).toLoadRect f (ix3 z r l) = v.read (Elt Ideal) f (ix3 1 r l) := by
  refine congrArg (v.read (Elt Ideal) f) (funext fun d => Fin.ext ?_)
  fin_cases d <;> simp [LoadRect.idx, Rect.toLoadRect, Rect.unit, ix3]

/-- The same of a load after writes. -/
theorem cov1_128 (v : View sig κ sp S2x128x512 e) (L : List (View.Piece (Elt Ideal) S2x128x512 e)) (inb : ∀ d, (![1, 0, 0] : Fin 3 → ℕ) d + (![1, 128, 512] : Fin 3 → ℕ) d ≤ S2x128x512.size d) (z : Fin 1) (r : Fin 128) (l : Fin 512) :
    v.readCov L (Rect.unit (s := S2x128x512) ![1, 0, 0] ![1, 128, 512] inb).toLoadRect (ix3 z r l) = v.read (Elt Ideal) (v.writes (Elt Ideal) v.junk L) (ix3 1 r l) :=
  at1_128 v _ inb z r l

/-- Half 0 is not touched by a write of half 1. -/
theorem miss1_128 (v : View sig κ sp S2x128x512 e) (f : v.ty.Contents (Elt Ideal)) (inb : ∀ d, (![1, 0, 0] : Fin 3 → ℕ) d + (![1, 128, 512] : Fin 3 → ℕ) d ≤ S2x128x512.size d) (w : S1x128x512.Idx → Elt Ideal e) (L : List (View.Piece (Elt Ideal) S2x128x512 e)) (r : Fin 128) (l : Fin 512) :
    v.read (Elt Ideal) (v.writes (Elt Ideal) f (⟨Rect.unit (s := S2x128x512) ![1, 0, 0] ![1, 128, 512] inb, w⟩ :: L)) (ix3 0 r l) = v.read (Elt Ideal) (v.writes (Elt Ideal) f L) (ix3 0 r l) :=
  View.read_writes_cons_unit_of_not_mem (s := S2x128x512) v f inb w L (ix3 0 r l) rfl 0 (by simp)

/-- Half 1 after a write of it is what was written. -/
theorem hit1_128 (v : View sig κ sp S2x128x512 e) (f : v.ty.Contents (Elt Ideal)) (inb : ∀ d, (![1, 0, 0] : Fin 3 → ℕ) d + (![1, 128, 512] : Fin 3 → ℕ) d ≤ S2x128x512.size d) (w : S1x128x512.Idx → Elt Ideal e) (L : List (View.Piece (Elt Ideal) S2x128x512 e)) (r : Fin 128) (l : Fin 512) :
    v.read (Elt Ideal) (v.writes (Elt Ideal) f (⟨Rect.unit (s := S2x128x512) ![1, 0, 0] ![1, 128, 512] inb, w⟩ :: L)) (ix3 1 r l) = w (ix3 0 r l) :=
  View.read_writes_cons_unit_of_mem (s := S2x128x512) v f inb w L (ix3 1 r l) (ix3 0 r l) rfl (by intro d; fin_cases d <;> simp)

/-- A load of half 0 of a two-half buffer. -/
theorem at0_512 (v : View sig κ sp S2x512x512 e) (f : v.ty.Contents (Elt Ideal)) (inb : ∀ d, (![0, 0, 0] : Fin 3 → ℕ) d + (![1, 512, 512] : Fin 3 → ℕ) d ≤ S2x512x512.size d) (z : Fin 1) (r : Fin 512) (l : Fin 512) :
    v.readAt (Elt Ideal) (Rect.unit (s := S2x512x512) ![0, 0, 0] ![1, 512, 512] inb).toLoadRect f (ix3 z r l) = v.read (Elt Ideal) f (ix3 0 r l) := by
  refine congrArg (v.read (Elt Ideal) f) (funext fun d => Fin.ext ?_)
  fin_cases d <;> simp [LoadRect.idx, Rect.toLoadRect, Rect.unit, ix3]

/-- The same of a load after writes. -/
theorem cov0_512 (v : View sig κ sp S2x512x512 e) (L : List (View.Piece (Elt Ideal) S2x512x512 e)) (inb : ∀ d, (![0, 0, 0] : Fin 3 → ℕ) d + (![1, 512, 512] : Fin 3 → ℕ) d ≤ S2x512x512.size d) (z : Fin 1) (r : Fin 512) (l : Fin 512) :
    v.readCov L (Rect.unit (s := S2x512x512) ![0, 0, 0] ![1, 512, 512] inb).toLoadRect (ix3 z r l) = v.read (Elt Ideal) (v.writes (Elt Ideal) v.junk L) (ix3 0 r l) :=
  at0_512 v _ inb z r l

/-- Half 0 after a write of it is what was written. -/
theorem hit0_512 (v : View sig κ sp S2x512x512 e) (f : v.ty.Contents (Elt Ideal)) (inb : ∀ d, (![0, 0, 0] : Fin 3 → ℕ) d + (![1, 512, 512] : Fin 3 → ℕ) d ≤ S2x512x512.size d) (w : S1x512x512.Idx → Elt Ideal e) (L : List (View.Piece (Elt Ideal) S2x512x512 e)) (r : Fin 512) (l : Fin 512) :
    v.read (Elt Ideal) (v.writes (Elt Ideal) f (⟨Rect.unit (s := S2x512x512) ![0, 0, 0] ![1, 512, 512] inb, w⟩ :: L)) (ix3 0 r l) = w (ix3 0 r l) :=
  View.read_writes_cons_unit_of_mem (s := S2x512x512) v f inb w L (ix3 0 r l) (ix3 0 r l) rfl (by intro d; fin_cases d <;> simp)

/-- Half 1 is not touched by a write of half 0. -/
theorem miss0_512 (v : View sig κ sp S2x512x512 e) (f : v.ty.Contents (Elt Ideal)) (inb : ∀ d, (![0, 0, 0] : Fin 3 → ℕ) d + (![1, 512, 512] : Fin 3 → ℕ) d ≤ S2x512x512.size d) (w : S1x512x512.Idx → Elt Ideal e) (L : List (View.Piece (Elt Ideal) S2x512x512 e)) (r : Fin 512) (l : Fin 512) :
    v.read (Elt Ideal) (v.writes (Elt Ideal) f (⟨Rect.unit (s := S2x512x512) ![0, 0, 0] ![1, 512, 512] inb, w⟩ :: L)) (ix3 1 r l) = v.read (Elt Ideal) (v.writes (Elt Ideal) f L) (ix3 1 r l) :=
  View.read_writes_cons_unit_of_not_mem (s := S2x512x512) v f inb w L (ix3 1 r l) rfl 0 (by simp)

/-- A load of half 1 of a two-half buffer. -/
theorem at1_512 (v : View sig κ sp S2x512x512 e) (f : v.ty.Contents (Elt Ideal)) (inb : ∀ d, (![1, 0, 0] : Fin 3 → ℕ) d + (![1, 512, 512] : Fin 3 → ℕ) d ≤ S2x512x512.size d) (z : Fin 1) (r : Fin 512) (l : Fin 512) :
    v.readAt (Elt Ideal) (Rect.unit (s := S2x512x512) ![1, 0, 0] ![1, 512, 512] inb).toLoadRect f (ix3 z r l) = v.read (Elt Ideal) f (ix3 1 r l) := by
  refine congrArg (v.read (Elt Ideal) f) (funext fun d => Fin.ext ?_)
  fin_cases d <;> simp [LoadRect.idx, Rect.toLoadRect, Rect.unit, ix3]

/-- The same of a load after writes. -/
theorem cov1_512 (v : View sig κ sp S2x512x512 e) (L : List (View.Piece (Elt Ideal) S2x512x512 e)) (inb : ∀ d, (![1, 0, 0] : Fin 3 → ℕ) d + (![1, 512, 512] : Fin 3 → ℕ) d ≤ S2x512x512.size d) (z : Fin 1) (r : Fin 512) (l : Fin 512) :
    v.readCov L (Rect.unit (s := S2x512x512) ![1, 0, 0] ![1, 512, 512] inb).toLoadRect (ix3 z r l) = v.read (Elt Ideal) (v.writes (Elt Ideal) v.junk L) (ix3 1 r l) :=
  at1_512 v _ inb z r l

/-- Half 0 is not touched by a write of half 1. -/
theorem miss1_512 (v : View sig κ sp S2x512x512 e) (f : v.ty.Contents (Elt Ideal)) (inb : ∀ d, (![1, 0, 0] : Fin 3 → ℕ) d + (![1, 512, 512] : Fin 3 → ℕ) d ≤ S2x512x512.size d) (w : S1x512x512.Idx → Elt Ideal e) (L : List (View.Piece (Elt Ideal) S2x512x512 e)) (r : Fin 512) (l : Fin 512) :
    v.read (Elt Ideal) (v.writes (Elt Ideal) f (⟨Rect.unit (s := S2x512x512) ![1, 0, 0] ![1, 512, 512] inb, w⟩ :: L)) (ix3 0 r l) = v.read (Elt Ideal) (v.writes (Elt Ideal) f L) (ix3 0 r l) :=
  View.read_writes_cons_unit_of_not_mem (s := S2x512x512) v f inb w L (ix3 0 r l) rfl 0 (by simp)

/-- Half 1 after a write of it is what was written. -/
theorem hit1_512 (v : View sig κ sp S2x512x512 e) (f : v.ty.Contents (Elt Ideal)) (inb : ∀ d, (![1, 0, 0] : Fin 3 → ℕ) d + (![1, 512, 512] : Fin 3 → ℕ) d ≤ S2x512x512.size d) (w : S1x512x512.Idx → Elt Ideal e) (L : List (View.Piece (Elt Ideal) S2x512x512 e)) (r : Fin 512) (l : Fin 512) :
    v.read (Elt Ideal) (v.writes (Elt Ideal) f (⟨Rect.unit (s := S2x512x512) ![1, 0, 0] ![1, 512, 512] inb, w⟩ :: L)) (ix3 1 r l) = w (ix3 0 r l) :=
  View.read_writes_cons_unit_of_mem (s := S2x512x512) v f inb w L (ix3 1 r l) (ix3 0 r l) rfl (by intro d; fin_cases d <;> simp)

/-- Row `p` of the keys. -/
def krow (v : View sig κ sp S8192x128 .bf16) (f : v.ty.Contents (Elt Ideal)) (p : ℕ) (l : Fin 128) : EReal :=
  if h : p < 8192 then v.read (Elt Ideal) f (ix2 ⟨p, h⟩ l) else 0

/-- Column `p` of the values. -/
def vcol (v : View sig κ sp S128x8192 .bf16) (f : v.ty.Contents (Elt Ideal)) (p : ℕ) (r : Fin 128) : EReal :=
  if h : p < 8192 then v.read (Elt Ideal) f (ix2 r ⟨p, h⟩) else 0

/-- Tile `t` of the four bias tiles. -/
def btile (v : View sig κ sp S1x4x512x512 .f32) (f : v.ty.Contents (Elt Ideal)) (t : ℕ) (r l : Fin 512) : EReal :=
  if h : t < 4 then v.read (Elt Ideal) f (ix4 0 ⟨t, h⟩ r l) else 0

theorem at_rows (v : View sig κ sp S8192x128 .bf16) (f : v.ty.Contents (Elt Ideal)) (off : Fin 2 → ℕ) (inb : ∀ d, off d + (![512, 128] : Fin 2 → ℕ) d ≤ S8192x128.size d) (r : Fin 512) (l : Fin 128) (h : off 1 = 0) :
    v.readAt (Elt Ideal) (Rect.unit (s := S8192x128) off ![512, 128] inb).toLoadRect f (ix2 r l) = krow v f (off 0 + r.val) l := by
  have := inb 0; have := r.isLt; change off 0 + 512 ≤ 8192 at *
  refine Eq.trans ?_ (dif_pos (by omega)).symm
  refine congrArg (v.read (Elt Ideal) f) (funext fun d => Fin.ext ?_)
  fin_cases d <;> simp [LoadRect.idx, Rect.toLoadRect, Rect.unit, ix2, h]

theorem at_cols (v : View sig κ sp S128x8192 .bf16) (f : v.ty.Contents (Elt Ideal)) (off : Fin 2 → ℕ) (inb : ∀ d, off d + (![128, 512] : Fin 2 → ℕ) d ≤ S128x8192.size d) (r : Fin 128) (l : Fin 512) (h : off 0 = 0) :
    v.readAt (Elt Ideal) (Rect.unit (s := S128x8192) off ![128, 512] inb).toLoadRect f (ix2 r l) = vcol v f (off 1 + l.val) r := by
  have := inb 1; have := l.isLt; change off 1 + 512 ≤ 8192 at *
  refine Eq.trans ?_ (dif_pos (by omega)).symm
  refine congrArg (v.read (Elt Ideal) f) (funext fun d => Fin.ext ?_)
  fin_cases d <;> simp [LoadRect.idx, Rect.toLoadRect, Rect.unit, ix2, h]

theorem at_tile (v : View sig κ sp S1x4x512x512 .f32) (f : v.ty.Contents (Elt Ideal)) (off : Fin 4 → ℕ) (inb : ∀ d, off d + (![1, 1, 512, 512] : Fin 4 → ℕ) d ≤ S1x4x512x512.size d) (y z : Fin 1) (r l : Fin 512) (h0 : off 0 = 0) (h2 : off 2 = 0) (h3 : off 3 = 0) :
    v.readAt (Elt Ideal) (Rect.unit (s := S1x4x512x512) off ![1, 1, 512, 512] inb).toLoadRect f (ix4 y z r l) = btile v f (off 1) r l := by
  have := inb 1; change off 1 + 1 ≤ 4 at *
  refine Eq.trans ?_ (dif_pos (by omega)).symm
  refine congrArg (v.read (Elt Ideal) f) (funext fun d => Fin.ext ?_)
  fin_cases d <;> simp [LoadRect.idx, Rect.toLoadRect, Rect.unit, ix4, h0, h2, h3]

theorem exp2_f32 (x : EReal) : FloatOps.exp2 (F := Ideal) (φ := .f32) x = Ideal.exp2 x := rfl

theorem ofBits_neg : Ideal.ofBits .f32 0xFF800000#32 = ⊥ := by decide

end Reads

/-- What the six carried buffers hold of one query column. -/
@[ext] structure Col where
  m : EReal
  l : EReal
  acc : Fin 128 → EReal
  sa : Fin 512 → EReal
  pb : Fin 512 → EReal
  al : EReal

/-- A trip on a column: two blocks' scores `sa + bA` and `sB + bB` in turn, the values' sums one block behind. -/
def Col.trip (x : Col) (bA sB bB sN : Fin 512 → EReal) (vP vA : Fin 512 → Fin 128 → EReal) : Col :=
  let m1 := max x.m (Finset.univ.fold max ⊥ fun k => x.sa k + bA k)
  let m2 := max m1 (Finset.univ.fold max ⊥ fun k => sB k + bB k)
  { m := m2
    l := Ideal.exp2 (m1 - m2) * (Ideal.exp2 (x.m - m1) * x.l + ∑ k, Ideal.exp2 (x.sa k + bA k - m1)) + ∑ k, Ideal.exp2 (sB k + bB k - m2)
    acc := fun d => Ideal.exp2 (x.m - m1) * (x.al * x.acc d + ∑ k, vP k d * x.pb k) + ∑ k, vA k d * Ideal.exp2 (x.sa k + bA k - m1)
    sa := sN
    pb := fun k => Ideal.exp2 (sB k + bB k - m2)
    al := Ideal.exp2 (m1 - m2) }

/-- A block's scores of a query row against the keys from row `o`. -/
def dots (K : ℕ → Fin 128 → EReal) (q : Fin 128 → EReal) (o : ℕ) (k : Fin 512) : EReal := ∑ c, K (o + k.val) c * q c

/-- The column `(mi, j)` of the carried buffers. -/
def col (c : Dev nD) (arg10 arg11 : Memref sig .tc .vmem S2x1x512 .f32) (arg12 : Memref sig .tc .vmem S2x128x512 .f32) (arg13 : Memref sig .tc .vmem S2x512x512 .f32) (arg16 : Memref sig .tc .vmem S2x512x512 .bf16) (arg18 : Memref sig .tc .vmem S2x1x512 .f32)
    (f10 : Bf Ideal c arg10) (f11 : Bf Ideal c arg11) (f12 : Bf Ideal c arg12) (f13 : Bf Ideal c arg13) (f16 : Bf Ideal c arg16) (f18 : Bf Ideal c arg18) (mi : Fin 2) (j : Fin 512) : Col where
  m := arg10.view.read (Elt Ideal) f10 (ix3 mi 0 j)
  l := arg11.view.read (Elt Ideal) f11 (ix3 mi 0 j)
  acc := fun d => arg12.view.read (Elt Ideal) f12 (ix3 mi d j)
  sa := fun k => arg13.view.read (Elt Ideal) f13 (ix3 mi k j)
  pb := fun k => arg16.view.read (Elt Ideal) f16 (ix3 mi k j)
  al := arg18.view.read (Elt Ideal) f18 (ix3 mi 0 j)

end Cert.KernelIdeal.Attn
-- ==== Proof.IdealTiles.lean ====
/-
  The bias call's body, read at one place of its four tiles. (The idealized program.)
-/
module
public import proofs.«01_k».proof.Proof.IdealBias
public import proofs.«01_k».proof.Proof.IdealReads
public import Idealize.ShloMosaic.Lib.Pointwise
public import Idealize.ShloMosaic.Lib.WritesUnit

@[expose] public section

set_option maxRecDepth 16384

noncomputable section

namespace Cert.KernelIdeal.Attn

open Cert.KernelIdeal Cert.KernelIdeal.Gen
open Idealize.ShloMosaic Idealize.ShloMosaic.TcCoe

/-- The bucket a distance falls in. -/
def bucket (d : ℕ) : ℕ :=
  if d < 16 then d else 16 + (if 19 ≤ d then 1 else 0) + (if 21 ≤ d then 1 else 0) + (if 24 ≤ d then 1 else 0) + (if 27 ≤ d then 1 else 0)
    + (if 31 ≤ d then 1 else 0) + (if 35 ≤ d then 1 else 0) + (if 40 ≤ d then 1 else 0) + (if 46 ≤ d then 1 else 0) + (if 52 ≤ d then 1 else 0)
    + (if 59 ≤ d then 1 else 0) + (if 67 ≤ d then 1 else 0) + (if 77 ≤ d then 1 else 0) + (if 87 ≤ d then 1 else 0) + (if 99 ≤ d then 1 else 0)
    + (if 113 ≤ d then 1 else 0)

theorem bucket_le (d : ℕ) : bucket d ≤ 31 := by
  have h : ∀ p : Prop, ∀ [Decidable p], (if p then 1 else 0 : ℕ) ≤ 1 := fun p _ => by split <;> omega
  unfold bucket
  split
  · omega
  · have h1 := h (19 ≤ d); have h2 := h (21 ≤ d); have h3 := h (24 ≤ d); have h4 := h (27 ≤ d); have h5 := h (31 ≤ d)
    have h6 := h (35 ≤ d); have h7 := h (40 ≤ d); have h8 := h (46 ≤ d); have h9 := h (52 ≤ d); have h10 := h (59 ≤ d)
    have h11 := h (67 ≤ d); have h12 := h (77 ≤ d); have h13 := h (87 ≤ d); have h14 := h (99 ≤ d); have h15 := h (113 ≤ d)
    exact le_trans (Nat.add_le_add (Nat.add_le_add (Nat.add_le_add (Nat.add_le_add (Nat.add_le_add (Nat.add_le_add (Nat.add_le_add (Nat.add_le_add (Nat.add_le_add (Nat.add_le_add (Nat.add_le_add (Nat.add_le_add (Nat.add_le_add (Nat.add_le_add (Nat.add_le_add (le_refl 16) h1) h2) h3) h4) h5) h6) h7) h8) h9) h10) h11) h12) h13) h14) h15) (by norm_num)

section Reads

variable {sig : RefSig} {κ : Kind} {sp : Space} {e : EltTy}

/-- An entry of the table of biases. -/
def tab (v : View sig κ sp S32x8 .f32) (f : v.ty.Contents (Elt Ideal)) (b h : ℕ) : EReal :=
  if hb : b < 32 ∧ h < 8 then v.read (Elt Ideal) f (ix2 ⟨b, hb.1⟩ ⟨h, hb.2⟩) else 0

theorem at_tab (v : View sig κ sp S32x8 .f32) (f : v.ty.Contents (Elt Ideal)) (off : Fin 2 → ℕ) (inb : ∀ d, off d + (![1, 1] : Fin 2 → ℕ) d ≤ S32x8.size d) (h) :
    v.readAt (Elt Ideal) (Rect.unit (s := S32x8) off ![1, 1] inb).toLoadRect f (Shape.Idx.first h) = tab v f (off 0) (off 1) := by
  have h0 := inb 0; have h1 := inb 1; change off 0 + 1 ≤ 32 at h0; change off 1 + 1 ≤ 8 at h1
  refine Eq.trans ?_ (dif_pos ⟨by omega, by omega⟩).symm
  refine congrArg (v.read (Elt Ideal) f) (funext fun d => Fin.ext ?_)
  fin_cases d <;> simp [LoadRect.idx, Rect.toLoadRect, Rect.unit, ix2, Shape.Idx.first]

theorem tile00 (v : View sig κ sp S1x4x512x512 e) (f : v.ty.Contents (Elt Ideal)) (inb : ∀ d, (![0, 0, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 0, 0, 0] ![1, 1, 512, 512] inb, w⟩ :: L)) (ix4 0 0 r l) = w (ix4 0 0 r l) :=
  View.read_writes_cons_unit_of_mem (s := S1x4x512x512) v f inb w L (ix4 0 0 r l) (ix4 0 0 r l) rfl (by intro d; fin_cases d <;> simp)

theorem tile10 (v : View sig κ sp S1x4x512x512 e) (f : v.ty.Contents (Elt Ideal)) (inb : ∀ d, (![0, 1, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 1, 0, 0] ![1, 1, 512, 512] inb, w⟩ :: L)) (ix4 0 0 r l) = v.read (Elt Ideal) (v.writes (Elt Ideal) f L) (ix4 0 0 r l) :=
  View.read_writes_cons_unit_of_not_mem (s := S1x4x512x512) v f inb w L (ix4 0 0 r l) rfl 1 (by simp)

theorem tile11 (v : View sig κ sp S1x4x512x512 e) (f : v.ty.Contents (Elt Ideal)) (inb : ∀ d, (![0, 1, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 1, 0, 0] ![1, 1, 512, 512] inb, w⟩ :: L)) (ix4 0 1 r l) = w (ix4 0 0 r l) :=
  View.read_writes_cons_unit_of_mem (s := S1x4x512x512) v f inb w L (ix4 0 1 r l) (ix4 0 0 r l) rfl (by intro d; fin_cases d <;> simp)

theorem tile20 (v : View sig κ sp S1x4x512x512 e) (f : v.ty.Contents (Elt Ideal)) (inb : ∀ d, (![0, 2, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 2, 0, 0] ![1, 1, 512, 512] inb, w⟩ :: L)) (ix4 0 0 r l) = v.read (Elt Ideal) (v.writes (Elt Ideal) f L) (ix4 0 0 r l) :=
  View.read_writes_cons_unit_of_not_mem (s := S1x4x512x512) v f inb w L (ix4 0 0 r l) rfl 1 (by simp)

theorem tile21 (v : View sig κ sp S1x4x512x512 e) (f : v.ty.Contents (Elt Ideal)) (inb : ∀ d, (![0, 2, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 2, 0, 0] ![1, 1, 512, 512] inb, w⟩ :: L)) (ix4 0 1 r l) = v.read (Elt Ideal) (v.writes (Elt Ideal) f L) (ix4 0 1 r l) :=
  View.read_writes_cons_unit_of_not_mem (s := S1x4x512x512) v f inb w L (ix4 0 1 r l) rfl 1 (by simp)

theorem tile22 (v : View sig κ sp S1x4x512x512 e) (f : v.ty.Contents (Elt Ideal)) (inb : ∀ d, (![0, 2, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 2, 0, 0] ![1, 1, 512, 512] inb, w⟩ :: L)) (ix4 0 2 r l) = w (ix4 0 0 r l) :=
  View.read_writes_cons_unit_of_mem (s := S1x4x512x512) v f inb w L (ix4 0 2 r l) (ix4 0 0 r l) rfl (by intro d; fin_cases d <;> simp)

theorem tile30 (v : View sig κ sp S1x4x512x512 e) (f : v.ty.Contents (Elt Ideal)) (inb : ∀ d, (![0, 3, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 3, 0, 0] ![1, 1, 512, 512] inb, w⟩ :: L)) (ix4 0 0 r l) = v.read (Elt Ideal) (v.writes (Elt Ideal) f L) (ix4 0 0 r l) :=
  View.read_writes_cons_unit_of_not_mem (s := S1x4x512x512) v f inb w L (ix4 0 0 r l) rfl 1 (by simp)

theorem tile31 (v : View sig κ sp S1x4x512x512 e) (f : v.ty.Contents (Elt Ideal)) (inb : ∀ d, (![0, 3, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 3, 0, 0] ![1, 1, 512, 512] inb, w⟩ :: L)) (ix4 0 1 r l) = v.read (Elt Ideal) (v.writes (Elt Ideal) f L) (ix4 0 1 r l) :=
  View.read_writes_cons_unit_of_not_mem (s := S1x4x512x512) v f inb w L (ix4 0 1 r l) rfl 1 (by simp)

theorem tile32 (v : View sig κ sp S1x4x512x512 e) (f : v.ty.Contents (Elt Ideal)) (inb : ∀ d, (![0, 3, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 3, 0, 0] ![1, 1, 512, 512] inb, w⟩ :: L)) (ix4 0 2 r l) = v.read (Elt Ideal) (v.writes (Elt Ideal) f L) (ix4 0 2 r l) :=
  View.read_writes_cons_unit_of_not_mem (s := S1x4x512x512) v f inb w L (ix4 0 2 r l) rfl 1 (by simp)

theorem tile33 (v : View sig κ sp S1x4x512x512 e) (f : v.ty.Contents (Elt Ideal)) (inb : ∀ d, (![0, 3, 0, 0] : Fin 4 → ℕ) d + (![1, 1, 512, 512] : Fin 4 → ℕ) d ≤ S1x4x512x512.size d) (w : S1x1x512x512.Idx → Elt Ideal e) (L : List (View.Piece (Elt Ideal) S1x4x512x512 e)) (r : Fin 512) (l : Fin 512) :
    v.read (Elt Ideal) (v.writes (Elt Ideal) f (⟨Rect.unit (s := S1x4x512x512) ![0, 3, 0, 0] ![1, 1, 512, 512] inb, w⟩ :: L)) (ix4 0 3 r l) = w (ix4 0 0 r l) :=
  View.read_writes_cons_unit_of_mem (s := S1x4x512x512) v f inb w L (ix4 0 3 r l) (ix4 0 0 r l) rfl (by intro d; fin_cases d <;> simp)

end Reads

/-- The bucket's word. -/
def bword (d : BitVec 32) : BitVec 32 :=
  Scalar.select (IntOp.cmpi .slt d 16#32) d (16#32 + BitVec.zeroExtend 32 (IntOp.cmpi .sge d 19#32) + BitVec.zeroExtend 32 (IntOp.cmpi .sge d 21#32) + BitVec.zeroExtend 32 (IntOp.cmpi .sge d 24#32) + BitVec.zeroExtend 32 (IntOp.cmpi .sge d 27#32) + BitVec.zeroExtend 32 (IntOp.cmpi .sge d 31#32) + BitVec.zeroExtend 32 (IntOp.cmpi .sge d 35#32) + BitVec.zeroExtend 32 (IntOp.cmpi .sge d 40#32) + BitVec.zeroExtend 32 (IntOp.cmpi .sge d 46#32) + BitVec.zeroExtend 32 (IntOp.cmpi .sge d 52#32) + BitVec.zeroExtend 32 (IntOp.cmpi .sge d 59#32) + BitVec.zeroExtend 32 (IntOp.cmpi .sge d 67#32) + BitVec.zeroExtend 32 (IntOp.cmpi .sge d 77#32) + BitVec.zeroExtend 32 (IntOp.cmpi .sge d 87#32) + BitVec.zeroExtend 32 (IntOp.cmpi .sge d 99#32) + BitVec.zeroExtend 32 (IntOp.cmpi .sge d 113#32))

theorem bword_eq : ∀ d : Fin 1024, bword (BitVec.ofNat 32 d.val) = BitVec.ofNat 32 (bucket d.val) := by decide +kernel

theorem near_dist (r l : Fin 512) : IntOp.maxsi (IntOp.addi 512#32 (IntOp.muli 4294967295#32 (IntOp.subi (BitVec.ofNat 32 r.val) (BitVec.ofNat 32 l.val)))) 0#32 = BitVec.ofNat 32 (512 + l.val - r.val) := by
  have h : IntOp.addi 512#32 (IntOp.muli 4294967295#32 (IntOp.subi (BitVec.ofNat 32 r.val) (BitVec.ofNat 32 l.val))) = BitVec.ofNat 32 (512 + l.val - r.val) := by
    have := r.isLt; have := l.isLt
    apply BitVec.eq_of_toNat_eq
    simp only [IntOp.addi, IntOp.muli, IntOp.subi, BitVec.toNat_add, BitVec.toNat_mul, BitVec.toNat_sub, BitVec.toNat_ofNat]
    omega
  rw [h]
  exact (by decide +kernel : ∀ n : Fin 1024, IntOp.maxsi (BitVec.ofNat 32 n.val) 0#32 = BitVec.ofNat 32 n.val) ⟨512 + l.val - r.val, by have := r.isLt; have := l.isLt; omega⟩

theorem causal_rel (r l : Fin 512) : IntOp.addi 0#32 (IntOp.muli 4294967295#32 (IntOp.subi (BitVec.ofNat 32 r.val) (BitVec.ofNat 32 l.val))) = if r.val ≤ l.val then BitVec.ofNat 32 (l.val - r.val) else - BitVec.ofNat 32 (r.val - l.val) := by
  have := r.isLt; have := l.isLt
  split <;> apply BitVec.eq_of_toNat_eq <;>
    simp only [IntOp.addi, IntOp.muli, IntOp.subi, BitVec.toNat_add, BitVec.toNat_mul, BitVec.toNat_sub, BitVec.toNat_ofNat, BitVec.toNat_neg] <;> omega

theorem causal_dist (r l : Fin 512) : IntOp.maxsi (IntOp.addi 0#32 (IntOp.muli 4294967295#32 (IntOp.subi (BitVec.ofNat 32 r.val) (BitVec.ofNat 32 l.val)))) 0#32 = BitVec.ofNat 32 (l.val - r.val) := by
  have := r.isLt; have := l.isLt
  rw [causal_rel]
  split
  · exact (by decide +kernel : ∀ n : Fin 1024, IntOp.maxsi (BitVec.ofNat 32 n.val) 0#32 = BitVec.ofNat 32 n.val) ⟨l.val - r.val, by omega⟩
  · rw [show l.val - r.val = 0 by omega]
    exact (by decide +kernel : ∀ n : Fin 1024, IntOp.maxsi (- BitVec.ofNat 32 n.val) 0#32 = 0#32) ⟨r.val - l.val, by omega⟩

theorem causal_keep (r l : Fin 512) : IntOp.cmpi .sge (IntOp.addi 0#32 (IntOp.muli 4294967295#32 (IntOp.subi (BitVec.ofNat 32 r.val) (BitVec.ofNat 32 l.val)))) 0#32 = if r.val ≤ l.val then 1#1 else 0#1 := by
  have := r.isLt; have := l.isLt
  rw [causal_rel]
  split
  · exact (by decide +kernel : ∀ n : Fin 1024, IntOp.cmpi .sge (BitVec.ofNat 32 n.val) 0#32 = 1#1) ⟨l.val - r.val, by omega⟩
  · have h := (by decide +kernel : ∀ n : Fin 1024, n.val ≠ 0 → IntOp.cmpi .sge (- BitVec.ofNat 32 n.val) 0#32 = 0#1) ⟨r.val - l.val, by omega⟩
    exact h (by show r.val - l.val ≠ 0; omega)

theorem choose_bucket (n b : ℕ) (hn : n < 32) (hb : b < 32) (x : EReal) : Scalar.select (IntOp.cmpi .eq (BitVec.ofNat 32 n) (BitVec.ofNat 32 b)) x 0 = if n = b then x else 0 := by
  have h : IntOp.cmpi .eq (BitVec.ofNat 32 n) (BitVec.ofNat 32 b) = if n = b then 1#1 else 0#1 :=
    (by decide +kernel : ∀ n b : Fin 32, IntOp.cmpi .eq (BitVec.ofNat 32 n.val) (BitVec.ofNat 32 b.val) = if n.val = b.val then 1#1 else 0#1) ⟨n, hn⟩ ⟨b, hb⟩
  rw [h]; split <;> rfl

theorem select_one (a b : EReal) : Scalar.select 1#1 a b = a := rfl

theorem log2e : (Named.named (F := Ideal) κ "LOG2E" (φ := .f32) 1069066811#32 : EReal) = (((Real.log 2)⁻¹ : ℝ) : EReal) := rfl

variable (c : Dev nD) (i : grid0.Coords) (arg1 : Memref sig .tc .smem S32x8 .f32) (harg1 : arg1.IsWhole) (arg2 : Memref sig .tc .vmem S1x4x512x512 .f32) (harg2 : arg2.IsWhole)

theorem near_bucket (r l : Fin 512) : k0_pay6 biasRun.sl.v14 biasRun.sl.v39 biasRun.sl.v40 (ix2 r l) = BitVec.ofNat 32 (bucket (512 + l.val - r.val)) := by
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, biasRun.sl.v433, biasRun.sl.v445, biasRun.sl.v20, biasRun.sl.v453, biasRun.sl.v451, biasRun.sl.v9, biasRun.sl.v24, biasRun.sl.v469, biasRun.sl.v3, biasRun.sl.v442, biasRun.sl.v13, biasRun.sl.v429, biasRun.sl.v7, biasRun.sl.v447, biasRun.sl.v439, biasRun.sl.v443, biasRun.sl.v4, biasRun.sl.v6, biasRun.sl.v461, biasRun.sl.v23, biasRun.sl.v16, biasRun.sl.v466, biasRun.sl.v14, biasRun.sl.v39, biasRun.sl.v449, biasRun.sl.v30, biasRun.sl.v457, biasRun.sl.v28, biasRun.sl.v450, biasRun.sl.v441, biasRun.sl.v465, biasRun.sl.v455, biasRun.sl.v463, biasRun.sl.v467, biasRun.sl.v34, biasRun.sl.v10, biasRun.sl.v458, biasRun.sl.v459, biasRun.sl.v473, biasRun.sl.v32, biasRun.sl.v31, biasRun.sl.v434, biasRun.sl.v2, biasRun.sl.v22, biasRun.sl.v40, biasRun.sl.v437, biasRun.sl.v38, biasRun.sl.v11, biasRun.sl.v26, biasRun.sl.v18, biasRun.sl.v15, biasRun.sl.v36]
  rw [near_dist]
  exact bword_eq ⟨512 + l.val - r.val, by have := r.isLt; have := l.isLt; omega⟩

theorem causal_bucket (r l : Fin 512) : biasRun.sl.v473 (ix2 r l) = BitVec.ofNat 32 (bucket (l.val - r.val)) := by
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, biasRun.sl.v433, biasRun.sl.v445, biasRun.sl.v20, biasRun.sl.v453, biasRun.sl.v451, biasRun.sl.v9, biasRun.sl.v24, biasRun.sl.v469, biasRun.sl.v3, biasRun.sl.v442, biasRun.sl.v13, biasRun.sl.v429, biasRun.sl.v7, biasRun.sl.v447, biasRun.sl.v439, biasRun.sl.v443, biasRun.sl.v4, biasRun.sl.v6, biasRun.sl.v461, biasRun.sl.v23, biasRun.sl.v16, biasRun.sl.v466, biasRun.sl.v14, biasRun.sl.v39, biasRun.sl.v449, biasRun.sl.v30, biasRun.sl.v457, biasRun.sl.v28, biasRun.sl.v450, biasRun.sl.v441, biasRun.sl.v465, biasRun.sl.v455, biasRun.sl.v463, biasRun.sl.v467, biasRun.sl.v34, biasRun.sl.v10, biasRun.sl.v458, biasRun.sl.v459, biasRun.sl.v473, biasRun.sl.v32, biasRun.sl.v31, biasRun.sl.v434, biasRun.sl.v2, biasRun.sl.v22, biasRun.sl.v40, biasRun.sl.v437, biasRun.sl.v38, biasRun.sl.v11, biasRun.sl.v26, biasRun.sl.v18, biasRun.sl.v15, biasRun.sl.v36]
  rw [causal_dist]
  exact bword_eq ⟨l.val - r.val, by have := r.isLt; have := l.isLt; omega⟩

theorem zero_tile (f1 : Bf Ideal c arg1) (r l : Fin 512) : arg2.view.read (Elt Ideal) (biasRun c i arg1 harg1 arg2 harg2 f1).1 (ix4 0 0 r l) = 0 := by
  pointwise [biasRun, tile00, tile10, tile11, tile20, tile21, tile22, tile30, tile31, tile32, tile33, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, biasRun.sl.v433, biasRun.sl.r_22, biasRun.sl.r_4, biasRun.sl.r_21, biasRun.sl.r_26, biasRun.sl.r_24, biasRun.sl.r_33, biasRun.sl.r_10, biasRun.sl.r_23, biasRun.sl.r_2, biasRun.sl.r_20, biasRun.sl.r_16, biasRun.sl.r_35, biasRun.sl.v445, biasRun.sl.v20, biasRun.sl.r_39, biasRun.sl.v453, biasRun.sl.r_27, biasRun.sl.r_19, biasRun.sl.v451, biasRun.sl.v9, biasRun.sl.v24, biasRun.sl.v469, biasRun.sl.v3, biasRun.sl.v442, biasRun.sl.r_17, biasRun.sl.r_46, biasRun.sl.v13, biasRun.sl.r_53, biasRun.sl.v429, biasRun.sl.r_54, biasRun.sl.v7, biasRun.sl.v447, biasRun.sl.r_15, biasRun.sl.r_42, biasRun.sl.v439, biasRun.sl.v443, biasRun.sl.v4, biasRun.sl.v6, biasRun.sl.r_31, biasRun.sl.r_49, biasRun.sl.r_8, biasRun.sl.H2_4, biasRun.sl.r_43, biasRun.sl.v461, biasRun.sl.r_13, biasRun.sl.v23, biasRun.sl.v16, biasRun.sl.v466, biasRun.sl.v14, biasRun.sl.v39, biasRun.sl.v449, biasRun.sl.r, biasRun.sl.v30, biasRun.sl.r_7, biasRun.sl.r_48, biasRun.sl.r_41, biasRun.sl.v457, biasRun.sl.v28, biasRun.sl.v450, biasRun.sl.v441, biasRun.sl.v465, biasRun.sl.r_44, biasRun.sl.v455, biasRun.sl.v463, biasRun.sl.r_3, biasRun.sl.r_32, biasRun.sl.v467, biasRun.sl.r_29, biasRun.sl.r_28, biasRun.sl.r_14, biasRun.sl.v34, biasRun.sl.v10, biasRun.sl.r_51, biasRun.sl.r_45, biasRun.sl.v458, biasRun.sl.v459, biasRun.sl.v473, biasRun.sl.r_50, biasRun.sl.r_34, biasRun.sl.r_18, biasRun.sl.r_25, biasRun.sl.r_38, biasRun.sl.v32, biasRun.sl.r_1, biasRun.sl.r_47, biasRun.sl.v31, biasRun.sl.r_30, biasRun.sl.v434, biasRun.sl.v2, biasRun.sl.v22, biasRun.sl.r_9, biasRun.sl.v40, biasRun.sl.r_40, biasRun.sl.cst, biasRun.sl.r_12, biasRun.sl.v437, biasRun.sl.cst_189, biasRun.sl.r_5, biasRun.sl.v38, biasRun.sl.v11, biasRun.sl.v26, biasRun.sl.r_52, biasRun.sl.r_37, biasRun.sl.r_11, biasRun.sl.r_36, biasRun.sl.v18, biasRun.sl.r_6, biasRun.sl.v15, biasRun.sl.v36]

theorem neg_tile (f1 : Bf Ideal c arg1) (r l : Fin 512) : arg2.view.read (Elt Ideal) (biasRun c i arg1 harg1 arg2 harg2 f1).1 (ix4 0 3 r l) = ⊥ := by
  pointwise [biasRun, ofBits_neg, tile00, tile10, tile11, tile20, tile21, tile22, tile30, tile31, tile32, tile33, k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, biasRun.sl.v433, biasRun.sl.r_22, biasRun.sl.r_4, biasRun.sl.r_21, biasRun.sl.r_26, biasRun.sl.r_24, biasRun.sl.r_33, biasRun.sl.r_10, biasRun.sl.r_23, biasRun.sl.r_2, biasRun.sl.r_20, biasRun.sl.r_16, biasRun.sl.r_35, biasRun.sl.v445, biasRun.sl.v20, biasRun.sl.r_39, biasRun.sl.v453, biasRun.sl.r_27, biasRun.sl.r_19, biasRun.sl.v451, biasRun.sl.v9, biasRun.sl.v24, biasRun.sl.v469, biasRun.sl.v3, biasRun.sl.v442, biasRun.sl.r_17, biasRun.sl.r_46, biasRun.sl.v13, biasRun.sl.r_53, biasRun.sl.v429, biasRun.sl.r_54, biasRun.sl.v7, biasRun.sl.v447, biasRun.sl.r_15, biasRun.sl.r_42, biasRun.sl.v439, biasRun.sl.v443, biasRun.sl.v4, biasRun.sl.v6, biasRun.sl.r_31, biasRun.sl.r_49, biasRun.sl.r_8, biasRun.sl.H2_4, biasRun.sl.r_43, biasRun.sl.v461, biasRun.sl.r_13, biasRun.sl.v23, biasRun.sl.v16, biasRun.sl.v466, biasRun.sl.v14, biasRun.sl.v39, biasRun.sl.v449, biasRun.sl.r, biasRun.sl.v30, biasRun.sl.r_7, biasRun.sl.r_48, biasRun.sl.r_41, biasRun.sl.v457, biasRun.sl.v28, biasRun.sl.v450, biasRun.sl.v441, biasRun.sl.v465, biasRun.sl.r_44, biasRun.sl.v455, biasRun.sl.v463, biasRun.sl.r_3, biasRun.sl.r_32, biasRun.sl.v467, biasRun.sl.r_29, biasRun.sl.r_28, biasRun.sl.r_14, biasRun.sl.v34, biasRun.sl.v10, biasRun.sl.r_51, biasRun.sl.r_45, biasRun.sl.v458, biasRun.sl.v459, biasRun.sl.v473, biasRun.sl.r_50, biasRun.sl.r_34, biasRun.sl.r_18, biasRun.sl.r_25, biasRun.sl.r_38, biasRun.sl.v32, biasRun.sl.r_1, biasRun.sl.r_47, biasRun.sl.v31, biasRun.sl.r_30, biasRun.sl.v434, biasRun.sl.v2, biasRun.sl.v22, biasRun.sl.r_9, biasRun.sl.v40, biasRun.sl.r_40, biasRun.sl.cst, biasRun.sl.r_12, biasRun.sl.v437, biasRun.sl.cst_189, biasRun.sl.r_5, biasRun.sl.v38, biasRun.sl.v11, biasRun.sl.v26, biasRun.sl.r_52, biasRun.sl.r_37, biasRun.sl.r_11, biasRun.sl.r_36, biasRun.sl.v18, biasRun.sl.r_6, biasRun.sl.v15, biasRun.sl.v36]

theorem near_tile (f1 : Bf Ideal c arg1) (r l : Fin 512) : arg2.view.read (Elt Ideal) (biasRun c i arg1 harg1 arg2 harg2 f1).1 (ix4 0 1 r l)
    = (tab arg1.view f1 (bucket (512 + l.val - r.val)) (i 0).val - tab arg1.view f1 31 (i 0).val) * (((Real.log 2)⁻¹ : ℝ) : EReal) := by
  pointwise [biasRun, near_bucket, at_tab, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, tile00, tile10, tile11, tile20, tile21, tile22, tile30, tile31, tile32, tile33, k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, biasRun.sl.r_22, biasRun.sl.r_4, biasRun.sl.r_21, biasRun.sl.r_26, biasRun.sl.r_24, biasRun.sl.r_33, biasRun.sl.r_10, biasRun.sl.r_23, biasRun.sl.r_2, biasRun.sl.r_20, biasRun.sl.r_16, biasRun.sl.r_35, biasRun.sl.r_39, biasRun.sl.r_27, biasRun.sl.r_19, biasRun.sl.v3, biasRun.sl.r_17, biasRun.sl.r_46, biasRun.sl.v13, biasRun.sl.r_53, biasRun.sl.r_54, biasRun.sl.r_15, biasRun.sl.r_42, biasRun.sl.v4, biasRun.sl.r_31, biasRun.sl.r_49, biasRun.sl.r_8, biasRun.sl.H2_4, biasRun.sl.r_43, biasRun.sl.r_13, biasRun.sl.r, biasRun.sl.r_7, biasRun.sl.r_48, biasRun.sl.r_41, biasRun.sl.r_44, biasRun.sl.r_3, biasRun.sl.r_32, biasRun.sl.r_29, biasRun.sl.r_28, biasRun.sl.r_14, biasRun.sl.r_51, biasRun.sl.r_45, biasRun.sl.r_50, biasRun.sl.r_34, biasRun.sl.r_18, biasRun.sl.r_25, biasRun.sl.r_38, biasRun.sl.r_1, biasRun.sl.r_47, biasRun.sl.r_30, biasRun.sl.v2, biasRun.sl.r_9, biasRun.sl.r_40, biasRun.sl.cst, biasRun.sl.r_12, biasRun.sl.cst_189, biasRun.sl.r_5, biasRun.sl.r_52, biasRun.sl.r_37, biasRun.sl.r_11, biasRun.sl.r_36, biasRun.sl.r_6]
  rw [log2e]
  have hn := bucket_le (512 + l.val - r.val)
  generalize bucket (512 + l.val - r.val) = n at *
  have hn' : n < 32 := by omega
  generalize (((Real.log 2)⁻¹ : ℝ) : EReal) = L
  simp only [choose_bucket n 0 hn' (by decide), choose_bucket n 1 hn' (by decide), choose_bucket n 2 hn' (by decide), choose_bucket n 3 hn' (by decide), choose_bucket n 4 hn' (by decide), choose_bucket n 5 hn' (by decide), choose_bucket n 6 hn' (by decide), choose_bucket n 7 hn' (by decide), choose_bucket n 8 hn' (by decide), choose_bucket n 9 hn' (by decide), choose_bucket n 10 hn' (by decide), choose_bucket n 11 hn' (by decide), choose_bucket n 12 hn' (by decide), choose_bucket n 13 hn' (by decide), choose_bucket n 14 hn' (by decide), choose_bucket n 15 hn' (by decide), choose_bucket n 16 hn' (by decide), choose_bucket n 17 hn' (by decide), choose_bucket n 18 hn' (by decide), choose_bucket n 19 hn' (by decide), choose_bucket n 20 hn' (by decide), choose_bucket n 21 hn' (by decide), choose_bucket n 22 hn' (by decide), choose_bucket n 23 hn' (by decide), choose_bucket n 24 hn' (by decide), choose_bucket n 25 hn' (by decide), choose_bucket n 26 hn' (by decide), choose_bucket n 27 hn' (by decide), choose_bucket n 28 hn' (by decide), choose_bucket n 29 hn' (by decide), choose_bucket n 30 hn' (by decide), choose_bucket n 31 hn' (by decide)]
  generalize tab arg1.view f1 = t
  interval_cases n <;> simp only [Nat.reduceEqDiff, reduceIte, OfNat.ofNat_ne_zero, OfNat.zero_ne_ofNat, OfNat.ofNat_ne_one, OfNat.one_ne_ofNat, one_ne_zero, zero_ne_one, if_true, if_false, add_zero, zero_add]

theorem causal_tile (f1 : Bf Ideal c arg1) (r l : Fin 512) : arg2.view.read (Elt Ideal) (biasRun c i arg1 harg1 arg2 harg2 f1).1 (ix4 0 2 r l)
    = if r.val ≤ l.val then (tab arg1.view f1 (bucket (l.val - r.val)) (i 0).val - tab arg1.view f1 31 (i 0).val) * (((Real.log 2)⁻¹ : ℝ) : EReal) else ⊥ := by
  pointwise [biasRun, ofBits_neg, causal_bucket, at_tab, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, tile00, tile10, tile11, tile20, tile21, tile22, tile30, tile31, tile32, tile33, k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, biasRun.sl.r_22, biasRun.sl.r_4, biasRun.sl.r_21, biasRun.sl.r_26, biasRun.sl.r_24, biasRun.sl.r_33, biasRun.sl.r_10, biasRun.sl.r_23, biasRun.sl.r_2, biasRun.sl.r_20, biasRun.sl.r_16, biasRun.sl.r_35, biasRun.sl.r_39, biasRun.sl.r_27, biasRun.sl.r_19, biasRun.sl.v3, biasRun.sl.r_17, biasRun.sl.r_46, biasRun.sl.v13, biasRun.sl.r_53, biasRun.sl.r_54, biasRun.sl.r_15, biasRun.sl.r_42, biasRun.sl.v4, biasRun.sl.r_31, biasRun.sl.r_49, biasRun.sl.r_8, biasRun.sl.H2_4, biasRun.sl.r_43, biasRun.sl.r_13, biasRun.sl.r, biasRun.sl.r_7, biasRun.sl.r_48, biasRun.sl.r_41, biasRun.sl.r_44, biasRun.sl.r_3, biasRun.sl.r_32, biasRun.sl.r_29, biasRun.sl.r_28, biasRun.sl.r_14, biasRun.sl.r_51, biasRun.sl.r_45, biasRun.sl.r_50, biasRun.sl.r_34, biasRun.sl.r_18, biasRun.sl.r_25, biasRun.sl.r_38, biasRun.sl.r_1, biasRun.sl.r_47, biasRun.sl.r_30, biasRun.sl.v2, biasRun.sl.r_9, biasRun.sl.r_40, biasRun.sl.cst, biasRun.sl.r_12, biasRun.sl.cst_189, biasRun.sl.r_5, biasRun.sl.r_52, biasRun.sl.r_37, biasRun.sl.r_11, biasRun.sl.r_36, biasRun.sl.r_6]
  refine Eq.trans (congrArg (fun w => Scalar.select w _ _) (causal_keep r l)) ?_
  by_cases hc : r.val ≤ l.val
  swap
  · rw [if_neg hc, if_neg hc]; rfl
  rw [if_pos hc, if_pos hc, select_one, log2e]
  have hn := bucket_le (l.val - r.val)
  generalize bucket (l.val - r.val) = n at *
  have hn' : n < 32 := by omega
  generalize (((Real.log 2)⁻¹ : ℝ) : EReal) = L
  simp only [choose_bucket n 0 hn' (by decide), choose_bucket n 1 hn' (by decide), choose_bucket n 2 hn' (by decide), choose_bucket n 3 hn' (by decide), choose_bucket n 4 hn' (by decide), choose_bucket n 5 hn' (by decide), choose_bucket n 6 hn' (by decide), choose_bucket n 7 hn' (by decide), choose_bucket n 8 hn' (by decide), choose_bucket n 9 hn' (by decide), choose_bucket n 10 hn' (by decide), choose_bucket n 11 hn' (by decide), choose_bucket n 12 hn' (by decide), choose_bucket n 13 hn' (by decide), choose_bucket n 14 hn' (by decide), choose_bucket n 15 hn' (by decide), choose_bucket n 16 hn' (by decide), choose_bucket n 17 hn' (by decide), choose_bucket n 18 hn' (by decide), choose_bucket n 19 hn' (by decide), choose_bucket n 20 hn' (by decide), choose_bucket n 21 hn' (by decide), choose_bucket n 22 hn' (by decide), choose_bucket n 23 hn' (by decide), choose_bucket n 24 hn' (by decide), choose_bucket n 25 hn' (by decide), choose_bucket n 26 hn' (by decide), choose_bucket n 27 hn' (by decide), choose_bucket n 28 hn' (by decide), choose_bucket n 29 hn' (by decide), choose_bucket n 30 hn' (by decide), choose_bucket n 31 hn' (by decide)]
  generalize tab arg1.view f1 = t
  interval_cases n <;> simp only [Nat.reduceEqDiff, reduceIte, OfNat.ofNat_ne_zero, OfNat.zero_ne_ofNat, OfNat.ofNat_ne_one, OfNat.one_ne_ofNat, one_ne_zero, zero_ne_one, if_true, if_false, add_zero, zero_add]

end Cert.KernelIdeal.Attn
-- ==== Proof.IdealArrays.lean ====
/-
  The tiles the first call leaves, entry by entry. (The idealized program.)
-/
module

public import proofs.«01_k».proof.Proof.IdealKept
public import proofs.«01_k».proof.Proof.IdealTiles
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat)
open scoped BigOperators

variable (m : (ℓ : Loc nD τ sig) → Buf (Elt Ideal) ℓ) (c : Dev nD)

/-- Where the blocks of the first call lie. -/
theorem idx0 : ∀ t : Fin cfg0.N, win0_0.index t = ![0, 0] ∧ win0_1.index t = ![(grid0.coords t 0).val, 0, 0, 0] ∧ (grid0.coords t 0).val < 8 :=
  (by decide +kernel : ∀ t : Fin grid0.N, _)

/-- Where the blocks of the second call lie. -/
theorem idx1 : ∀ t : Fin cfg1.N, win1_0.index t = ![0, 0]
    ∧ win1_1.index t = ![(grid1.coords t 0).val * 16 + (grid1.coords t 2).val, (grid1.coords t 1).val]
    ∧ win1_2.index t = ![(grid1.coords t 0).val, (grid1.coords t 1).val]
    ∧ win1_3.index t = ![(grid1.coords t 1).val, (grid1.coords t 0).val]
    ∧ win1_4.index t = ![(grid1.coords t 1).val, 0, 0, 0]
    ∧ win1_5.index t = ![0, 0]
    ∧ win1_6.index t = ![(grid1.coords t 0).val * 16 + (grid1.coords t 2).val, (grid1.coords t 1).val]
    ∧ (grid1.coords t 0).val < 2 ∧ (grid1.coords t 1).val < 8 ∧ (grid1.coords t 2).val < 16 :=
  (by decide +kernel : ∀ t : Fin grid1.N, _)

/-- The bias table, zero outside. -/
def table (R : FVec Ideal S32x8 .f32) (b h : ℕ) : EReal := if H : b < 32 ∧ h < 8 then R (ix2 ⟨b, H.1⟩ ⟨h, H.2⟩) else 0

/-- A tile's entry: how much the score's bias is above the far one, in the units of the base two exponent. -/
def tileAt (R : FVec Ideal S32x8 .f32) (h t r l : ℕ) : EReal :=
  if t = 0 then 0
  else if t = 1 then (table R (bucket (512 + l - r)) h - table R 31 h) * (((Real.log 2)⁻¹ : ℝ) : EReal)
  else if t = 2 then if r ≤ l then (table R (bucket (l - r)) h - table R 31 h) * (((Real.log 2)⁻¹ : ℝ) : EReal) else ⊥
  else ⊥

theorem tab_unread {arg1 : Memref sig .tc .smem S32x8 .f32} (harg1 : arg1.IsWhole) (x : FVec Ideal S32x8 .f32) (b h : ℕ) :
    tab arg1.view (harg1.unread x) b h = table x b h := by
  unfold tab table
  rw [harg1.read_unread]

theorem bias_at (i : grid0.Coords) (arg1 : Memref sig .tc .smem S32x8 .f32) (harg1 : arg1.IsWhole) (arg2 : Memref sig .tc .vmem S1x4x512x512 .f32)
    (harg2 : arg2.IsWhole) (x : FVec Ideal S32x8 .f32) (y : S1x4x512x512.Idx) :
    arg2.view.read (Elt Ideal) (biasRun (F := Ideal) c i arg1 harg1 arg2 harg2 (harg1.unread x)).1 y = tileAt x (i 0).val (y 1).val (y 2).val (y 3).val := by
  obtain ⟨z, t, r, l, rfl⟩ : ∃ (z : Fin 1) (t : Fin 4) (r l : Fin 512), y = ix4 z t r l := ⟨y 0, y 1, y 2, y 3, by funext a; fin_cases a <;> rfl⟩
  obtain rfl : z = 0 := Subsingleton.elim _ _
  show _ = tileAt x (i 0).val t.val r.val l.val
  unfold tileAt
  fin_cases t
  · exact zero_tile ..
  · refine (near_tile ..).trans ?_
    rw [tab_unread, tab_unread]; rfl
  · refine (causal_tile ..).trans ?_
    rw [tab_unread, tab_unread]; rfl
  · exact neg_tile ..

theorem out0_eq (V : Vals Ideal) (t : Fin cfg0.N) (y : S1x4x512x512.Idx) :
    out0 V c t y = tileAt (blk0 V c 0 t) (grid0.coords t 0).val (y 1).val (y 2).val (y 3).val := by
  unfold out0
  exact bias_at ..

theorem blk0_eq (t : Fin cfg0.N) : blk0 (E0 m) c 0 t = m ((c : Thread nD τ).loc main_arg3) := by
  funext y
  blk_ext [blk0, idx0 t]

theorem tiles_eq : tiles m c = fun y : S8x4x512x512.Idx =>
    tileAt (m ((c : Thread nD τ).loc main_arg3)) (y 0).val (y 1).val (y 2).val (y 3).val := by
  refine (dat0 (E0 m) c).arrAt_eq_of_covers 1 _ (by decide +kernel) fun t _ y => ?_
  blk_simp [idx0 t]
  rw [show (dat0 (E0 m) c).after 1 t = out0 (E0 m) c t from rfl, out0_eq, blk0_eq]

end Cert.KernelIdeal.Attn
-- ==== Proof.IdealColumn1.lean ====
/-
  A trip of the loop over the far pairs, read at one query column. (The idealized program.)
-/
module
public import proofs.«01_k».proof.Proof.IdealReads

@[expose] public section

set_option maxRecDepth 16384

noncomputable section

namespace Cert.KernelIdeal.Attn

open Cert.KernelIdeal Cert.KernelIdeal.Gen
open Idealize.ShloMosaic Idealize.ShloMosaic.TcCoe

variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)
  (arg2 : BitVec 32) (v5 : Vec Ideal S512x128 .bf16) (v8 : FVec Ideal S512x128 .bf16) (v46 v65 v67 : BitVec 32)

theorem trip1_col0 (k : Fin (k1_t1_loop i).trips) (f5 : Bf Ideal c arg5) (f6 : Bf Ideal c arg6) (f10 : Bf Ideal c arg10) (f11 : Bf Ideal c arg11) (f12 : Bf Ideal c arg12) (f13 : Bf Ideal c arg13) (f16 : Bf Ideal c arg16) (f18 : Bf Ideal c arg18) (j : Fin 512) :
    (let W := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 0#32 0#32 k f5 f6 f10 f11 f12 f13 f16 f18).1
     col c arg10 arg11 arg12 arg13 arg16 arg18 W.1 W.2.1 W.2.2.1 W.2.2.2.1 W.2.2.2.2.2.2.1 W.2.2.2.2.2.2.2.2 0 j)
    = (col c arg10 arg11 arg12 arg13 arg16 arg18 f10 f11 f12 f13 f16 f18 0 j).trip
        (fun _ => 0) (dots (krow arg5.view f5) (fun cc => v5 (ix2 j cc)) (k1_off2 i k 1#32 0)) (fun _ => 0) (dots (krow arg5.view f5) (fun cc => v5 (ix2 j cc)) (k1_off2 i k 2#32 0))
        (fun k' => vcol arg6.view f6 (k1_off3 i k 1 + k'.val)) (fun k' => vcol arg6.view f6 (k1_off4 i k 1 + k'.val)) := by
  have o5 : ∀ w, k1_off2 i k w 1 = 0 := fun _ => rfl
  have oP : k1_off3 i k 0 = 0 := rfl
  have oA : k1_off4 i k 0 = 0 := rfl
  ext
  case acc d => pointwise [col, Col.trip, dots, trip1, add_zero, exp2_f32, ofBits_neg, at_rows, at_cols, at_tile, o5, oP, oA, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay213, trip1.sl.v376, trip1.sl.v363, trip1.sl.v344, trip1.sl.v246, trip1.sl.v337, trip1.sl.v384, trip1.sl.v243, trip1.sl.v245, trip1.sl.v183, trip1.sl.cst_138, trip1.sl.v228, trip1.sl.v302, trip1.sl.v258, trip1.sl.v385, trip1.sl.H11_2, trip1.sl.v205, trip1.sl.v380, trip1.sl.v345, trip1.sl.v361, trip1.sl.cst_187, trip1.sl.v234, trip1.sl.v194, trip1.sl.v273, trip1.sl.H10_3, trip1.sl.v242, trip1.sl.H11_3, trip1.sl.v277, trip1.sl.v379, trip1.sl.v371, trip1.sl.v215, trip1.sl.H12_4, trip1.sl.v196, trip1.sl.v275, trip1.sl.cst_134, trip1.sl.v307, trip1.sl.v236, trip1.sl.H10_2, trip1.sl.v229, trip1.sl.v230, trip1.sl.H12_2, trip1.sl.v288, trip1.sl.v304, trip1.sl.v340, trip1.sl.v296, trip1.sl.v182, trip1.sl.v248, trip1.sl.H12_3, trip1.sl.v346, trip1.sl.v208, trip1.sl.H15_2, trip1.sl.v285, trip1.sl.v271, trip1.sl.v224, trip1.sl.v389, trip1.sl.v315, trip1.sl.v290, trip1.sl.v283, trip1.sl.H11_4, trip1.sl.v269, trip1.sl.v331, trip1.sl.v326, trip1.sl.v386, trip1.sl.v359, trip1.sl.H17_2, trip1.sl.v225, trip1.sl.v199, trip1.sl.v374, trip1.sl.v299, trip1.sl.v375, trip1.sl.v383, trip1.sl.v172, trip1.sl.v189, trip1.sl.v312, trip1.sl.v370, trip1.sl.v198, trip1.sl.v176, trip1.sl.v279, trip1.sl.v178, trip1.sl.v382, trip1.sl.v212, trip1.sl.v306, trip1.sl.v373, trip1.sl.v294, trip1.sl.arg19, trip1.sl.v220, trip1.sl.v358, trip1.sl.v203, trip1.sl.v314, trip1.sl.v173, trip1.sl.v180, trip1.sl.v252, trip1.sl.v187, trip1.sl.v250, trip1.sl.v311, trip1.sl.v313, trip1.sl.v175, trip1.sl.H13_2, trip1.sl.v266, trip1.sl.v261, trip1.sl.v356, trip1.sl.v319, trip1.sl.v214, trip1.sl.v286, trip1.sl.v262, trip1.sl.v305, trip1.sl.v264, trip1.sl.v260, trip1.sl.v265, trip1.sl.v330, trip1.sl.v233, trip1.sl.v221, trip1.sl.v184, trip1.sl.v197, trip1.sl.v360, trip1.sl.v369, trip1.sl.v239, trip1.sl.v218, trip1.sl.v217, trip1.sl.v334, trip1.sl.v174, trip1.sl.v185, trip1.sl.v193, trip1.sl.v204, trip1.sl.v303, trip1.sl.v192, trip1.sl.v381, trip1.sl.v295, trip1.sl.v282, trip1.sl.v211, trip1.sl.v339, trip1.sl.v244, trip1.sl.v272, trip1.sl.v227, trip1.sl.v255, trip1.sl.H14_2, trip1.sl.v357, trip1.sl.v223, trip1.sl.v235, trip1.sl.v222, trip1.sl.v333, trip1.sl.v247, trip1.sl.v342, trip1.sl.v253, trip1.sl.v231, trip1.sl.v249, trip1.sl.v336, trip1.sl.v293, trip1.sl.v354, trip1.sl.v338, trip1.sl.cst_120, trip1.sl.v226, trip1.sl.v308, trip1.sl.v355, trip1.sl.v284, trip1.sl.v310, trip1.sl.v372, trip1.sl.v232, trip1.sl.v332, trip1.sl.v202, trip1.sl.v362, trip1.sl.v186, trip1.sl.v341, trip1.sl.v387, trip1.sl.v301, trip1.sl.v323, trip1.sl.v195, trip1.sl.v353, trip1.sl.v297, trip1.sl.v343, trip1.sl.v367, trip1.sl.v365, trip1.sl.v201, trip1.sl.v191, trip1.sl.v251, trip1.sl.H16_2, trip1.sl.r, trip1.sl.v278, trip1.sl.v300, trip1.sl.v322, trip1.sl.v309, trip1.sl.v274, trip1.sl.v347, trip1.sl.H10_4, trip1.sl.v329, trip1.sl.v335, trip1.sl.v368, trip1.sl.v388, trip1.sl.v316, trip1.sl.H18_2, trip1.sl.v350]
  case sa d => pointwise [col, Col.trip, dots, trip1, add_zero, exp2_f32, ofBits_neg, at_rows, at_cols, at_tile, o5, oP, oA, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay213, trip1.sl.v376, trip1.sl.v363, trip1.sl.v344, trip1.sl.v246, trip1.sl.v337, trip1.sl.v384, trip1.sl.v243, trip1.sl.v245, trip1.sl.v183, trip1.sl.cst_138, trip1.sl.v228, trip1.sl.v302, trip1.sl.v258, trip1.sl.v385, trip1.sl.H11_2, trip1.sl.v205, trip1.sl.v380, trip1.sl.v345, trip1.sl.v361, trip1.sl.cst_187, trip1.sl.v234, trip1.sl.v194, trip1.sl.v273, trip1.sl.H10_3, trip1.sl.v242, trip1.sl.H11_3, trip1.sl.v277, trip1.sl.v379, trip1.sl.v371, trip1.sl.v215, trip1.sl.H12_4, trip1.sl.v196, trip1.sl.v275, trip1.sl.cst_134, trip1.sl.v307, trip1.sl.v236, trip1.sl.H10_2, trip1.sl.v229, trip1.sl.v230, trip1.sl.H12_2, trip1.sl.v288, trip1.sl.v304, trip1.sl.v340, trip1.sl.v296, trip1.sl.v182, trip1.sl.v248, trip1.sl.H12_3, trip1.sl.v346, trip1.sl.v208, trip1.sl.H15_2, trip1.sl.v285, trip1.sl.v271, trip1.sl.v224, trip1.sl.v389, trip1.sl.v315, trip1.sl.v290, trip1.sl.v283, trip1.sl.H11_4, trip1.sl.v269, trip1.sl.v331, trip1.sl.v326, trip1.sl.v386, trip1.sl.v359, trip1.sl.H17_2, trip1.sl.v225, trip1.sl.v199, trip1.sl.v374, trip1.sl.v299, trip1.sl.v375, trip1.sl.v383, trip1.sl.v172, trip1.sl.v189, trip1.sl.v312, trip1.sl.v370, trip1.sl.v198, trip1.sl.v176, trip1.sl.v279, trip1.sl.v178, trip1.sl.v382, trip1.sl.v212, trip1.sl.v306, trip1.sl.v373, trip1.sl.v294, trip1.sl.arg19, trip1.sl.v220, trip1.sl.v358, trip1.sl.v203, trip1.sl.v314, trip1.sl.v173, trip1.sl.v180, trip1.sl.v252, trip1.sl.v187, trip1.sl.v250, trip1.sl.v311, trip1.sl.v313, trip1.sl.v175, trip1.sl.H13_2, trip1.sl.v266, trip1.sl.v261, trip1.sl.v356, trip1.sl.v319, trip1.sl.v214, trip1.sl.v286, trip1.sl.v262, trip1.sl.v305, trip1.sl.v264, trip1.sl.v260, trip1.sl.v265, trip1.sl.v330, trip1.sl.v233, trip1.sl.v221, trip1.sl.v184, trip1.sl.v197, trip1.sl.v360, trip1.sl.v369, trip1.sl.v239, trip1.sl.v218, trip1.sl.v217, trip1.sl.v334, trip1.sl.v174, trip1.sl.v185, trip1.sl.v193, trip1.sl.v204, trip1.sl.v303, trip1.sl.v192, trip1.sl.v381, trip1.sl.v295, trip1.sl.v282, trip1.sl.v211, trip1.sl.v339, trip1.sl.v244, trip1.sl.v272, trip1.sl.v227, trip1.sl.v255, trip1.sl.H14_2, trip1.sl.v357, trip1.sl.v223, trip1.sl.v235, trip1.sl.v222, trip1.sl.v333, trip1.sl.v247, trip1.sl.v342, trip1.sl.v253, trip1.sl.v231, trip1.sl.v249, trip1.sl.v336, trip1.sl.v293, trip1.sl.v354, trip1.sl.v338, trip1.sl.cst_120, trip1.sl.v226, trip1.sl.v308, trip1.sl.v355, trip1.sl.v284, trip1.sl.v310, trip1.sl.v372, trip1.sl.v232, trip1.sl.v332, trip1.sl.v202, trip1.sl.v362, trip1.sl.v186, trip1.sl.v341, trip1.sl.v387, trip1.sl.v301, trip1.sl.v323, trip1.sl.v195, trip1.sl.v353, trip1.sl.v297, trip1.sl.v343, trip1.sl.v367, trip1.sl.v365, trip1.sl.v201, trip1.sl.v191, trip1.sl.v251, trip1.sl.H16_2, trip1.sl.r, trip1.sl.v278, trip1.sl.v300, trip1.sl.v322, trip1.sl.v309, trip1.sl.v274, trip1.sl.v347, trip1.sl.H10_4, trip1.sl.v329, trip1.sl.v335, trip1.sl.v368, trip1.sl.v388, trip1.sl.v316, trip1.sl.H18_2, trip1.sl.v350]
  case pb d => pointwise [col, Col.trip, dots, trip1, add_zero, exp2_f32, ofBits_neg, at_rows, at_cols, at_tile, o5, oP, oA, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay213, trip1.sl.v376, trip1.sl.v363, trip1.sl.v344, trip1.sl.v246, trip1.sl.v337, trip1.sl.v384, trip1.sl.v243, trip1.sl.v245, trip1.sl.v183, trip1.sl.cst_138, trip1.sl.v228, trip1.sl.v302, trip1.sl.v258, trip1.sl.v385, trip1.sl.H11_2, trip1.sl.v205, trip1.sl.v380, trip1.sl.v345, trip1.sl.v361, trip1.sl.cst_187, trip1.sl.v234, trip1.sl.v194, trip1.sl.v273, trip1.sl.H10_3, trip1.sl.v242, trip1.sl.H11_3, trip1.sl.v277, trip1.sl.v379, trip1.sl.v371, trip1.sl.v215, trip1.sl.H12_4, trip1.sl.v196, trip1.sl.v275, trip1.sl.cst_134, trip1.sl.v307, trip1.sl.v236, trip1.sl.H10_2, trip1.sl.v229, trip1.sl.v230, trip1.sl.H12_2, trip1.sl.v288, trip1.sl.v304, trip1.sl.v340, trip1.sl.v296, trip1.sl.v182, trip1.sl.v248, trip1.sl.H12_3, trip1.sl.v346, trip1.sl.v208, trip1.sl.H15_2, trip1.sl.v285, trip1.sl.v271, trip1.sl.v224, trip1.sl.v389, trip1.sl.v315, trip1.sl.v290, trip1.sl.v283, trip1.sl.H11_4, trip1.sl.v269, trip1.sl.v331, trip1.sl.v326, trip1.sl.v386, trip1.sl.v359, trip1.sl.H17_2, trip1.sl.v225, trip1.sl.v199, trip1.sl.v374, trip1.sl.v299, trip1.sl.v375, trip1.sl.v383, trip1.sl.v172, trip1.sl.v189, trip1.sl.v312, trip1.sl.v370, trip1.sl.v198, trip1.sl.v176, trip1.sl.v279, trip1.sl.v178, trip1.sl.v382, trip1.sl.v212, trip1.sl.v306, trip1.sl.v373, trip1.sl.v294, trip1.sl.arg19, trip1.sl.v220, trip1.sl.v358, trip1.sl.v203, trip1.sl.v314, trip1.sl.v173, trip1.sl.v180, trip1.sl.v252, trip1.sl.v187, trip1.sl.v250, trip1.sl.v311, trip1.sl.v313, trip1.sl.v175, trip1.sl.H13_2, trip1.sl.v266, trip1.sl.v261, trip1.sl.v356, trip1.sl.v319, trip1.sl.v214, trip1.sl.v286, trip1.sl.v262, trip1.sl.v305, trip1.sl.v264, trip1.sl.v260, trip1.sl.v265, trip1.sl.v330, trip1.sl.v233, trip1.sl.v221, trip1.sl.v184, trip1.sl.v197, trip1.sl.v360, trip1.sl.v369, trip1.sl.v239, trip1.sl.v218, trip1.sl.v217, trip1.sl.v334, trip1.sl.v174, trip1.sl.v185, trip1.sl.v193, trip1.sl.v204, trip1.sl.v303, trip1.sl.v192, trip1.sl.v381, trip1.sl.v295, trip1.sl.v282, trip1.sl.v211, trip1.sl.v339, trip1.sl.v244, trip1.sl.v272, trip1.sl.v227, trip1.sl.v255, trip1.sl.H14_2, trip1.sl.v357, trip1.sl.v223, trip1.sl.v235, trip1.sl.v222, trip1.sl.v333, trip1.sl.v247, trip1.sl.v342, trip1.sl.v253, trip1.sl.v231, trip1.sl.v249, trip1.sl.v336, trip1.sl.v293, trip1.sl.v354, trip1.sl.v338, trip1.sl.cst_120, trip1.sl.v226, trip1.sl.v308, trip1.sl.v355, trip1.sl.v284, trip1.sl.v310, trip1.sl.v372, trip1.sl.v232, trip1.sl.v332, trip1.sl.v202, trip1.sl.v362, trip1.sl.v186, trip1.sl.v341, trip1.sl.v387, trip1.sl.v301, trip1.sl.v323, trip1.sl.v195, trip1.sl.v353, trip1.sl.v297, trip1.sl.v343, trip1.sl.v367, trip1.sl.v365, trip1.sl.v201, trip1.sl.v191, trip1.sl.v251, trip1.sl.H16_2, trip1.sl.r, trip1.sl.v278, trip1.sl.v300, trip1.sl.v322, trip1.sl.v309, trip1.sl.v274, trip1.sl.v347, trip1.sl.H10_4, trip1.sl.v329, trip1.sl.v335, trip1.sl.v368, trip1.sl.v388, trip1.sl.v316, trip1.sl.H18_2, trip1.sl.v350]
  all_goals pointwise [col, Col.trip, dots, trip1, add_zero, exp2_f32, ofBits_neg, at_rows, at_cols, at_tile, o5, oP, oA, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay213, trip1.sl.v376, trip1.sl.v363, trip1.sl.v344, trip1.sl.v246, trip1.sl.v337, trip1.sl.v384, trip1.sl.v243, trip1.sl.v245, trip1.sl.v183, trip1.sl.cst_138, trip1.sl.v228, trip1.sl.v302, trip1.sl.v258, trip1.sl.v385, trip1.sl.H11_2, trip1.sl.v205, trip1.sl.v380, trip1.sl.v345, trip1.sl.v361, trip1.sl.cst_187, trip1.sl.v234, trip1.sl.v194, trip1.sl.v273, trip1.sl.H10_3, trip1.sl.v242, trip1.sl.H11_3, trip1.sl.v277, trip1.sl.v379, trip1.sl.v371, trip1.sl.v215, trip1.sl.H12_4, trip1.sl.v196, trip1.sl.v275, trip1.sl.cst_134, trip1.sl.v307, trip1.sl.v236, trip1.sl.H10_2, trip1.sl.v229, trip1.sl.v230, trip1.sl.H12_2, trip1.sl.v288, trip1.sl.v304, trip1.sl.v340, trip1.sl.v296, trip1.sl.v182, trip1.sl.v248, trip1.sl.H12_3, trip1.sl.v346, trip1.sl.v208, trip1.sl.H15_2, trip1.sl.v285, trip1.sl.v271, trip1.sl.v224, trip1.sl.v389, trip1.sl.v315, trip1.sl.v290, trip1.sl.v283, trip1.sl.H11_4, trip1.sl.v269, trip1.sl.v331, trip1.sl.v326, trip1.sl.v386, trip1.sl.v359, trip1.sl.H17_2, trip1.sl.v225, trip1.sl.v199, trip1.sl.v374, trip1.sl.v299, trip1.sl.v375, trip1.sl.v383, trip1.sl.v172, trip1.sl.v189, trip1.sl.v312, trip1.sl.v370, trip1.sl.v198, trip1.sl.v176, trip1.sl.v279, trip1.sl.v178, trip1.sl.v382, trip1.sl.v212, trip1.sl.v306, trip1.sl.v373, trip1.sl.v294, trip1.sl.arg19, trip1.sl.v220, trip1.sl.v358, trip1.sl.v203, trip1.sl.v314, trip1.sl.v173, trip1.sl.v180, trip1.sl.v252, trip1.sl.v187, trip1.sl.v250, trip1.sl.v311, trip1.sl.v313, trip1.sl.v175, trip1.sl.H13_2, trip1.sl.v266, trip1.sl.v261, trip1.sl.v356, trip1.sl.v319, trip1.sl.v214, trip1.sl.v286, trip1.sl.v262, trip1.sl.v305, trip1.sl.v264, trip1.sl.v260, trip1.sl.v265, trip1.sl.v330, trip1.sl.v233, trip1.sl.v221, trip1.sl.v184, trip1.sl.v197, trip1.sl.v360, trip1.sl.v369, trip1.sl.v239, trip1.sl.v218, trip1.sl.v217, trip1.sl.v334, trip1.sl.v174, trip1.sl.v185, trip1.sl.v193, trip1.sl.v204, trip1.sl.v303, trip1.sl.v192, trip1.sl.v381, trip1.sl.v295, trip1.sl.v282, trip1.sl.v211, trip1.sl.v339, trip1.sl.v244, trip1.sl.v272, trip1.sl.v227, trip1.sl.v255, trip1.sl.H14_2, trip1.sl.v357, trip1.sl.v223, trip1.sl.v235, trip1.sl.v222, trip1.sl.v333, trip1.sl.v247, trip1.sl.v342, trip1.sl.v253, trip1.sl.v231, trip1.sl.v249, trip1.sl.v336, trip1.sl.v293, trip1.sl.v354, trip1.sl.v338, trip1.sl.cst_120, trip1.sl.v226, trip1.sl.v308, trip1.sl.v355, trip1.sl.v284, trip1.sl.v310, trip1.sl.v372, trip1.sl.v232, trip1.sl.v332, trip1.sl.v202, trip1.sl.v362, trip1.sl.v186, trip1.sl.v341, trip1.sl.v387, trip1.sl.v301, trip1.sl.v323, trip1.sl.v195, trip1.sl.v353, trip1.sl.v297, trip1.sl.v343, trip1.sl.v367, trip1.sl.v365, trip1.sl.v201, trip1.sl.v191, trip1.sl.v251, trip1.sl.H16_2, trip1.sl.r, trip1.sl.v278, trip1.sl.v300, trip1.sl.v322, trip1.sl.v309, trip1.sl.v274, trip1.sl.v347, trip1.sl.H10_4, trip1.sl.v329, trip1.sl.v335, trip1.sl.v368, trip1.sl.v388, trip1.sl.v316, trip1.sl.H18_2, trip1.sl.v350]

theorem trip1_col1 (k : Fin (k1_t1_loop i).trips) (f5 : Bf Ideal c arg5) (f6 : Bf Ideal c arg6) (f10 : Bf Ideal c arg10) (f11 : Bf Ideal c arg11) (f12 : Bf Ideal c arg12) (f13 : Bf Ideal c arg13) (f16 : Bf Ideal c arg16) (f18 : Bf Ideal c arg18) (j : Fin 512) :
    (let W := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 0#32 0#32 k f5 f6 f10 f11 f12 f13 f16 f18).1
     col c arg10 arg11 arg12 arg13 arg16 arg18 W.1 W.2.1 W.2.2.1 W.2.2.2.1 W.2.2.2.2.2.2.1 W.2.2.2.2.2.2.2.2 1 j)
    = (col c arg10 arg11 arg12 arg13 arg16 arg18 f10 f11 f12 f13 f16 f18 1 j).trip
        (fun _ => 0) (dots (krow arg5.view f5) (fun cc => v8 (ix2 j cc)) (k1_off2 i k 1#32 0)) (fun _ => 0) (dots (krow arg5.view f5) (fun cc => v8 (ix2 j cc)) (k1_off2 i k 2#32 0))
        (fun k' => vcol arg6.view f6 (k1_off3 i k 1 + k'.val)) (fun k' => vcol arg6.view f6 (k1_off4 i k 1 + k'.val)) := by
  have o5 : ∀ w, k1_off2 i k w 1 = 0 := fun _ => rfl
  have oP : k1_off3 i k 0 = 0 := rfl
  have oA : k1_off4 i k 0 = 0 := rfl
  ext
  case acc d => pointwise [col, Col.trip, dots, trip1, add_zero, exp2_f32, ofBits_neg, at_rows, at_cols, at_tile, o5, oP, oA, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay213, trip1.sl.v376, trip1.sl.v363, trip1.sl.v344, trip1.sl.v246, trip1.sl.v337, trip1.sl.v384, trip1.sl.v243, trip1.sl.v245, trip1.sl.v183, trip1.sl.cst_138, trip1.sl.v228, trip1.sl.v302, trip1.sl.v258, trip1.sl.v385, trip1.sl.H11_2, trip1.sl.v205, trip1.sl.v380, trip1.sl.v345, trip1.sl.v361, trip1.sl.cst_187, trip1.sl.v234, trip1.sl.v194, trip1.sl.v273, trip1.sl.H10_3, trip1.sl.v242, trip1.sl.H11_3, trip1.sl.v277, trip1.sl.v379, trip1.sl.v371, trip1.sl.v215, trip1.sl.H12_4, trip1.sl.v196, trip1.sl.v275, trip1.sl.cst_134, trip1.sl.v307, trip1.sl.v236, trip1.sl.H10_2, trip1.sl.v229, trip1.sl.v230, trip1.sl.H12_2, trip1.sl.v288, trip1.sl.v304, trip1.sl.v340, trip1.sl.v296, trip1.sl.v182, trip1.sl.v248, trip1.sl.H12_3, trip1.sl.v346, trip1.sl.v208, trip1.sl.H15_2, trip1.sl.v285, trip1.sl.v271, trip1.sl.v224, trip1.sl.v389, trip1.sl.v315, trip1.sl.v290, trip1.sl.v283, trip1.sl.H11_4, trip1.sl.v269, trip1.sl.v331, trip1.sl.v326, trip1.sl.v386, trip1.sl.v359, trip1.sl.H17_2, trip1.sl.v225, trip1.sl.v199, trip1.sl.v374, trip1.sl.v299, trip1.sl.v375, trip1.sl.v383, trip1.sl.v172, trip1.sl.v189, trip1.sl.v312, trip1.sl.v370, trip1.sl.v198, trip1.sl.v176, trip1.sl.v279, trip1.sl.v178, trip1.sl.v382, trip1.sl.v212, trip1.sl.v306, trip1.sl.v373, trip1.sl.v294, trip1.sl.arg19, trip1.sl.v220, trip1.sl.v358, trip1.sl.v203, trip1.sl.v314, trip1.sl.v173, trip1.sl.v180, trip1.sl.v252, trip1.sl.v187, trip1.sl.v250, trip1.sl.v311, trip1.sl.v313, trip1.sl.v175, trip1.sl.H13_2, trip1.sl.v266, trip1.sl.v261, trip1.sl.v356, trip1.sl.v319, trip1.sl.v214, trip1.sl.v286, trip1.sl.v262, trip1.sl.v305, trip1.sl.v264, trip1.sl.v260, trip1.sl.v265, trip1.sl.v330, trip1.sl.v233, trip1.sl.v221, trip1.sl.v184, trip1.sl.v197, trip1.sl.v360, trip1.sl.v369, trip1.sl.v239, trip1.sl.v218, trip1.sl.v217, trip1.sl.v334, trip1.sl.v174, trip1.sl.v185, trip1.sl.v193, trip1.sl.v204, trip1.sl.v303, trip1.sl.v192, trip1.sl.v381, trip1.sl.v295, trip1.sl.v282, trip1.sl.v211, trip1.sl.v339, trip1.sl.v244, trip1.sl.v272, trip1.sl.v227, trip1.sl.v255, trip1.sl.H14_2, trip1.sl.v357, trip1.sl.v223, trip1.sl.v235, trip1.sl.v222, trip1.sl.v333, trip1.sl.v247, trip1.sl.v342, trip1.sl.v253, trip1.sl.v231, trip1.sl.v249, trip1.sl.v336, trip1.sl.v293, trip1.sl.v354, trip1.sl.v338, trip1.sl.cst_120, trip1.sl.v226, trip1.sl.v308, trip1.sl.v355, trip1.sl.v284, trip1.sl.v310, trip1.sl.v372, trip1.sl.v232, trip1.sl.v332, trip1.sl.v202, trip1.sl.v362, trip1.sl.v186, trip1.sl.v341, trip1.sl.v387, trip1.sl.v301, trip1.sl.v323, trip1.sl.v195, trip1.sl.v353, trip1.sl.v297, trip1.sl.v343, trip1.sl.v367, trip1.sl.v365, trip1.sl.v201, trip1.sl.v191, trip1.sl.v251, trip1.sl.H16_2, trip1.sl.r, trip1.sl.v278, trip1.sl.v300, trip1.sl.v322, trip1.sl.v309, trip1.sl.v274, trip1.sl.v347, trip1.sl.H10_4, trip1.sl.v329, trip1.sl.v335, trip1.sl.v368, trip1.sl.v388, trip1.sl.v316, trip1.sl.H18_2, trip1.sl.v350]
  case sa d => pointwise [col, Col.trip, dots, trip1, add_zero, exp2_f32, ofBits_neg, at_rows, at_cols, at_tile, o5, oP, oA, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay213, trip1.sl.v376, trip1.sl.v363, trip1.sl.v344, trip1.sl.v246, trip1.sl.v337, trip1.sl.v384, trip1.sl.v243, trip1.sl.v245, trip1.sl.v183, trip1.sl.cst_138, trip1.sl.v228, trip1.sl.v302, trip1.sl.v258, trip1.sl.v385, trip1.sl.H11_2, trip1.sl.v205, trip1.sl.v380, trip1.sl.v345, trip1.sl.v361, trip1.sl.cst_187, trip1.sl.v234, trip1.sl.v194, trip1.sl.v273, trip1.sl.H10_3, trip1.sl.v242, trip1.sl.H11_3, trip1.sl.v277, trip1.sl.v379, trip1.sl.v371, trip1.sl.v215, trip1.sl.H12_4, trip1.sl.v196, trip1.sl.v275, trip1.sl.cst_134, trip1.sl.v307, trip1.sl.v236, trip1.sl.H10_2, trip1.sl.v229, trip1.sl.v230, trip1.sl.H12_2, trip1.sl.v288, trip1.sl.v304, trip1.sl.v340, trip1.sl.v296, trip1.sl.v182, trip1.sl.v248, trip1.sl.H12_3, trip1.sl.v346, trip1.sl.v208, trip1.sl.H15_2, trip1.sl.v285, trip1.sl.v271, trip1.sl.v224, trip1.sl.v389, trip1.sl.v315, trip1.sl.v290, trip1.sl.v283, trip1.sl.H11_4, trip1.sl.v269, trip1.sl.v331, trip1.sl.v326, trip1.sl.v386, trip1.sl.v359, trip1.sl.H17_2, trip1.sl.v225, trip1.sl.v199, trip1.sl.v374, trip1.sl.v299, trip1.sl.v375, trip1.sl.v383, trip1.sl.v172, trip1.sl.v189, trip1.sl.v312, trip1.sl.v370, trip1.sl.v198, trip1.sl.v176, trip1.sl.v279, trip1.sl.v178, trip1.sl.v382, trip1.sl.v212, trip1.sl.v306, trip1.sl.v373, trip1.sl.v294, trip1.sl.arg19, trip1.sl.v220, trip1.sl.v358, trip1.sl.v203, trip1.sl.v314, trip1.sl.v173, trip1.sl.v180, trip1.sl.v252, trip1.sl.v187, trip1.sl.v250, trip1.sl.v311, trip1.sl.v313, trip1.sl.v175, trip1.sl.H13_2, trip1.sl.v266, trip1.sl.v261, trip1.sl.v356, trip1.sl.v319, trip1.sl.v214, trip1.sl.v286, trip1.sl.v262, trip1.sl.v305, trip1.sl.v264, trip1.sl.v260, trip1.sl.v265, trip1.sl.v330, trip1.sl.v233, trip1.sl.v221, trip1.sl.v184, trip1.sl.v197, trip1.sl.v360, trip1.sl.v369, trip1.sl.v239, trip1.sl.v218, trip1.sl.v217, trip1.sl.v334, trip1.sl.v174, trip1.sl.v185, trip1.sl.v193, trip1.sl.v204, trip1.sl.v303, trip1.sl.v192, trip1.sl.v381, trip1.sl.v295, trip1.sl.v282, trip1.sl.v211, trip1.sl.v339, trip1.sl.v244, trip1.sl.v272, trip1.sl.v227, trip1.sl.v255, trip1.sl.H14_2, trip1.sl.v357, trip1.sl.v223, trip1.sl.v235, trip1.sl.v222, trip1.sl.v333, trip1.sl.v247, trip1.sl.v342, trip1.sl.v253, trip1.sl.v231, trip1.sl.v249, trip1.sl.v336, trip1.sl.v293, trip1.sl.v354, trip1.sl.v338, trip1.sl.cst_120, trip1.sl.v226, trip1.sl.v308, trip1.sl.v355, trip1.sl.v284, trip1.sl.v310, trip1.sl.v372, trip1.sl.v232, trip1.sl.v332, trip1.sl.v202, trip1.sl.v362, trip1.sl.v186, trip1.sl.v341, trip1.sl.v387, trip1.sl.v301, trip1.sl.v323, trip1.sl.v195, trip1.sl.v353, trip1.sl.v297, trip1.sl.v343, trip1.sl.v367, trip1.sl.v365, trip1.sl.v201, trip1.sl.v191, trip1.sl.v251, trip1.sl.H16_2, trip1.sl.r, trip1.sl.v278, trip1.sl.v300, trip1.sl.v322, trip1.sl.v309, trip1.sl.v274, trip1.sl.v347, trip1.sl.H10_4, trip1.sl.v329, trip1.sl.v335, trip1.sl.v368, trip1.sl.v388, trip1.sl.v316, trip1.sl.H18_2, trip1.sl.v350]
  case pb d => pointwise [col, Col.trip, dots, trip1, add_zero, exp2_f32, ofBits_neg, at_rows, at_cols, at_tile, o5, oP, oA, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay213, trip1.sl.v376, trip1.sl.v363, trip1.sl.v344, trip1.sl.v246, trip1.sl.v337, trip1.sl.v384, trip1.sl.v243, trip1.sl.v245, trip1.sl.v183, trip1.sl.cst_138, trip1.sl.v228, trip1.sl.v302, trip1.sl.v258, trip1.sl.v385, trip1.sl.H11_2, trip1.sl.v205, trip1.sl.v380, trip1.sl.v345, trip1.sl.v361, trip1.sl.cst_187, trip1.sl.v234, trip1.sl.v194, trip1.sl.v273, trip1.sl.H10_3, trip1.sl.v242, trip1.sl.H11_3, trip1.sl.v277, trip1.sl.v379, trip1.sl.v371, trip1.sl.v215, trip1.sl.H12_4, trip1.sl.v196, trip1.sl.v275, trip1.sl.cst_134, trip1.sl.v307, trip1.sl.v236, trip1.sl.H10_2, trip1.sl.v229, trip1.sl.v230, trip1.sl.H12_2, trip1.sl.v288, trip1.sl.v304, trip1.sl.v340, trip1.sl.v296, trip1.sl.v182, trip1.sl.v248, trip1.sl.H12_3, trip1.sl.v346, trip1.sl.v208, trip1.sl.H15_2, trip1.sl.v285, trip1.sl.v271, trip1.sl.v224, trip1.sl.v389, trip1.sl.v315, trip1.sl.v290, trip1.sl.v283, trip1.sl.H11_4, trip1.sl.v269, trip1.sl.v331, trip1.sl.v326, trip1.sl.v386, trip1.sl.v359, trip1.sl.H17_2, trip1.sl.v225, trip1.sl.v199, trip1.sl.v374, trip1.sl.v299, trip1.sl.v375, trip1.sl.v383, trip1.sl.v172, trip1.sl.v189, trip1.sl.v312, trip1.sl.v370, trip1.sl.v198, trip1.sl.v176, trip1.sl.v279, trip1.sl.v178, trip1.sl.v382, trip1.sl.v212, trip1.sl.v306, trip1.sl.v373, trip1.sl.v294, trip1.sl.arg19, trip1.sl.v220, trip1.sl.v358, trip1.sl.v203, trip1.sl.v314, trip1.sl.v173, trip1.sl.v180, trip1.sl.v252, trip1.sl.v187, trip1.sl.v250, trip1.sl.v311, trip1.sl.v313, trip1.sl.v175, trip1.sl.H13_2, trip1.sl.v266, trip1.sl.v261, trip1.sl.v356, trip1.sl.v319, trip1.sl.v214, trip1.sl.v286, trip1.sl.v262, trip1.sl.v305, trip1.sl.v264, trip1.sl.v260, trip1.sl.v265, trip1.sl.v330, trip1.sl.v233, trip1.sl.v221, trip1.sl.v184, trip1.sl.v197, trip1.sl.v360, trip1.sl.v369, trip1.sl.v239, trip1.sl.v218, trip1.sl.v217, trip1.sl.v334, trip1.sl.v174, trip1.sl.v185, trip1.sl.v193, trip1.sl.v204, trip1.sl.v303, trip1.sl.v192, trip1.sl.v381, trip1.sl.v295, trip1.sl.v282, trip1.sl.v211, trip1.sl.v339, trip1.sl.v244, trip1.sl.v272, trip1.sl.v227, trip1.sl.v255, trip1.sl.H14_2, trip1.sl.v357, trip1.sl.v223, trip1.sl.v235, trip1.sl.v222, trip1.sl.v333, trip1.sl.v247, trip1.sl.v342, trip1.sl.v253, trip1.sl.v231, trip1.sl.v249, trip1.sl.v336, trip1.sl.v293, trip1.sl.v354, trip1.sl.v338, trip1.sl.cst_120, trip1.sl.v226, trip1.sl.v308, trip1.sl.v355, trip1.sl.v284, trip1.sl.v310, trip1.sl.v372, trip1.sl.v232, trip1.sl.v332, trip1.sl.v202, trip1.sl.v362, trip1.sl.v186, trip1.sl.v341, trip1.sl.v387, trip1.sl.v301, trip1.sl.v323, trip1.sl.v195, trip1.sl.v353, trip1.sl.v297, trip1.sl.v343, trip1.sl.v367, trip1.sl.v365, trip1.sl.v201, trip1.sl.v191, trip1.sl.v251, trip1.sl.H16_2, trip1.sl.r, trip1.sl.v278, trip1.sl.v300, trip1.sl.v322, trip1.sl.v309, trip1.sl.v274, trip1.sl.v347, trip1.sl.H10_4, trip1.sl.v329, trip1.sl.v335, trip1.sl.v368, trip1.sl.v388, trip1.sl.v316, trip1.sl.H18_2, trip1.sl.v350]
  all_goals pointwise [col, Col.trip, dots, trip1, add_zero, exp2_f32, ofBits_neg, at_rows, at_cols, at_tile, o5, oP, oA, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay213, trip1.sl.v376, trip1.sl.v363, trip1.sl.v344, trip1.sl.v246, trip1.sl.v337, trip1.sl.v384, trip1.sl.v243, trip1.sl.v245, trip1.sl.v183, trip1.sl.cst_138, trip1.sl.v228, trip1.sl.v302, trip1.sl.v258, trip1.sl.v385, trip1.sl.H11_2, trip1.sl.v205, trip1.sl.v380, trip1.sl.v345, trip1.sl.v361, trip1.sl.cst_187, trip1.sl.v234, trip1.sl.v194, trip1.sl.v273, trip1.sl.H10_3, trip1.sl.v242, trip1.sl.H11_3, trip1.sl.v277, trip1.sl.v379, trip1.sl.v371, trip1.sl.v215, trip1.sl.H12_4, trip1.sl.v196, trip1.sl.v275, trip1.sl.cst_134, trip1.sl.v307, trip1.sl.v236, trip1.sl.H10_2, trip1.sl.v229, trip1.sl.v230, trip1.sl.H12_2, trip1.sl.v288, trip1.sl.v304, trip1.sl.v340, trip1.sl.v296, trip1.sl.v182, trip1.sl.v248, trip1.sl.H12_3, trip1.sl.v346, trip1.sl.v208, trip1.sl.H15_2, trip1.sl.v285, trip1.sl.v271, trip1.sl.v224, trip1.sl.v389, trip1.sl.v315, trip1.sl.v290, trip1.sl.v283, trip1.sl.H11_4, trip1.sl.v269, trip1.sl.v331, trip1.sl.v326, trip1.sl.v386, trip1.sl.v359, trip1.sl.H17_2, trip1.sl.v225, trip1.sl.v199, trip1.sl.v374, trip1.sl.v299, trip1.sl.v375, trip1.sl.v383, trip1.sl.v172, trip1.sl.v189, trip1.sl.v312, trip1.sl.v370, trip1.sl.v198, trip1.sl.v176, trip1.sl.v279, trip1.sl.v178, trip1.sl.v382, trip1.sl.v212, trip1.sl.v306, trip1.sl.v373, trip1.sl.v294, trip1.sl.arg19, trip1.sl.v220, trip1.sl.v358, trip1.sl.v203, trip1.sl.v314, trip1.sl.v173, trip1.sl.v180, trip1.sl.v252, trip1.sl.v187, trip1.sl.v250, trip1.sl.v311, trip1.sl.v313, trip1.sl.v175, trip1.sl.H13_2, trip1.sl.v266, trip1.sl.v261, trip1.sl.v356, trip1.sl.v319, trip1.sl.v214, trip1.sl.v286, trip1.sl.v262, trip1.sl.v305, trip1.sl.v264, trip1.sl.v260, trip1.sl.v265, trip1.sl.v330, trip1.sl.v233, trip1.sl.v221, trip1.sl.v184, trip1.sl.v197, trip1.sl.v360, trip1.sl.v369, trip1.sl.v239, trip1.sl.v218, trip1.sl.v217, trip1.sl.v334, trip1.sl.v174, trip1.sl.v185, trip1.sl.v193, trip1.sl.v204, trip1.sl.v303, trip1.sl.v192, trip1.sl.v381, trip1.sl.v295, trip1.sl.v282, trip1.sl.v211, trip1.sl.v339, trip1.sl.v244, trip1.sl.v272, trip1.sl.v227, trip1.sl.v255, trip1.sl.H14_2, trip1.sl.v357, trip1.sl.v223, trip1.sl.v235, trip1.sl.v222, trip1.sl.v333, trip1.sl.v247, trip1.sl.v342, trip1.sl.v253, trip1.sl.v231, trip1.sl.v249, trip1.sl.v336, trip1.sl.v293, trip1.sl.v354, trip1.sl.v338, trip1.sl.cst_120, trip1.sl.v226, trip1.sl.v308, trip1.sl.v355, trip1.sl.v284, trip1.sl.v310, trip1.sl.v372, trip1.sl.v232, trip1.sl.v332, trip1.sl.v202, trip1.sl.v362, trip1.sl.v186, trip1.sl.v341, trip1.sl.v387, trip1.sl.v301, trip1.sl.v323, trip1.sl.v195, trip1.sl.v353, trip1.sl.v297, trip1.sl.v343, trip1.sl.v367, trip1.sl.v365, trip1.sl.v201, trip1.sl.v191, trip1.sl.v251, trip1.sl.H16_2, trip1.sl.r, trip1.sl.v278, trip1.sl.v300, trip1.sl.v322, trip1.sl.v309, trip1.sl.v274, trip1.sl.v347, trip1.sl.H10_4, trip1.sl.v329, trip1.sl.v335, trip1.sl.v368, trip1.sl.v388, trip1.sl.v316, trip1.sl.H18_2, trip1.sl.v350]

end Cert.KernelIdeal.Attn
-- ==== Proof.IdealColumn3.lean ====
/-
  A trip of the loop over the near pairs, read at one query column. (The idealized program.)
-/
module
public import proofs.«01_k».proof.Proof.IdealReads

@[expose] public section

set_option maxRecDepth 16384

noncomputable section

namespace Cert.KernelIdeal.Attn

open Cert.KernelIdeal Cert.KernelIdeal.Gen
open Idealize.ShloMosaic Idealize.ShloMosaic.TcCoe

variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)
  (arg2 : BitVec 32) (v5 : Vec Ideal S512x128 .bf16) (v8 : FVec Ideal S512x128 .bf16) (v46 v65 v67 : BitVec 32)

theorem trip3_col0 (k : Fin (k1_t3_loop i).trips) (f5 : Bf Ideal c arg5) (f6 : Bf Ideal c arg6) (f7 : Bf Ideal c arg7) (f10 : Bf Ideal c arg10) (f11 : Bf Ideal c arg11) (f12 : Bf Ideal c arg12) (f13 : Bf Ideal c arg13) (f16 : Bf Ideal c arg16) (f18 : Bf Ideal c arg18) (j : Fin 512) :
    (let W := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 v65 0#32 k f5 f6 f7 f10 f11 f12 f13 f16 f18).1
     col c arg10 arg11 arg12 arg13 arg16 arg18 W.1 W.2.1 W.2.2.1 W.2.2.2.1 W.2.2.2.2.2.2.1 W.2.2.2.2.2.2.2.2 0 j)
    = (col c arg10 arg11 arg12 arg13 arg16 arg18 f10 f11 f12 f13 f16 f18 0 j).trip
        (fun k' => btile arg7.view f7 (k1_off9 i k 1) k' j) (dots (krow arg5.view f5) (fun cc => v5 (ix2 j cc)) (k1_off8 i k 1#32 0)) (fun k' => btile arg7.view f7 (k1_off11 i k 1) k' j) (dots (krow arg5.view f5) (fun cc => v5 (ix2 j cc)) (k1_off8 i k 2#32 0))
        (fun k' => vcol arg6.view f6 (k1_off10 i k 1 + k'.val)) (fun k' => vcol arg6.view f6 (k1_off12 i k 1 + k'.val)) := by
  have o5 : ∀ w, k1_off8 i k w 1 = 0 := fun _ => rfl
  have oP : k1_off10 i k 0 = 0 := rfl
  have oA : k1_off12 i k 0 = 0 := rfl
  have o9 : k1_off9 i k 0 = 0 ∧ k1_off9 i k 2 = 0 ∧ k1_off9 i k 3 = 0 := ⟨rfl, rfl, rfl⟩
  have o11 : k1_off11 i k 0 = 0 ∧ k1_off11 i k 2 = 0 ∧ k1_off11 i k 3 = 0 := ⟨rfl, rfl, rfl⟩
  ext
  case acc d => pointwise [col, Col.trip, dots, trip3, add_zero, exp2_f32, ofBits_neg, at_rows, at_cols, at_tile, o5, oP, oA, o9, o11, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay215, k1_pay216, trip3.sl.v273, trip3.sl.v225, trip3.sl.v353, trip3.sl.v211, trip3.sl.v379, trip3.sl.v226, trip3.sl.v381, trip3.sl.v242, trip3.sl.v302, trip3.sl.v309, trip3.sl.v389, trip3.sl.v200, trip3.sl.v175, trip3.sl.v310, trip3.sl.v189, trip3.sl.v269, trip3.sl.v398, trip3.sl.H15_2, trip3.sl.v183, trip3.sl.H12_3, trip3.sl.v364, trip3.sl.cst_120, trip3.sl.v260, trip3.sl.v368, trip3.sl.v333, trip3.sl.v210, trip3.sl.v336, trip3.sl.v387, trip3.sl.v173, trip3.sl.v201, trip3.sl.v391, trip3.sl.v330, trip3.sl.v377, trip3.sl.v284, trip3.sl.v207, trip3.sl.v194, trip3.sl.v178, trip3.sl.v355, trip3.sl.v365, trip3.sl.v361, trip3.sl.v294, trip3.sl.H11_2, trip3.sl.v186, trip3.sl.r, trip3.sl.H17_2, trip3.sl.H18_2, trip3.sl.v281, trip3.sl.v176, trip3.sl.v303, trip3.sl.v235, trip3.sl.v212, trip3.sl.v380, trip3.sl.v328, trip3.sl.v320, trip3.sl.v274, trip3.sl.v190, trip3.sl.v288, trip3.sl.v206, trip3.sl.v305, trip3.sl.v318, trip3.sl.v233, trip3.sl.v234, trip3.sl.v343, trip3.sl.v394, trip3.sl.v197, trip3.sl.v299, trip3.sl.v205, trip3.sl.v306, trip3.sl.v219, trip3.sl.v374, trip3.sl.r_1, trip3.sl.v311, trip3.sl.v339, trip3.sl.v230, trip3.sl.H13_2, trip3.sl.cst_192, trip3.sl.v280, trip3.sl.H11_3, trip3.sl.v386, trip3.sl.v340, trip3.sl.v308, trip3.sl.v363, trip3.sl.v388, trip3.sl.v315, trip3.sl.v241, trip3.sl.v222, trip3.sl.v239, trip3.sl.v393, trip3.sl.v392, trip3.sl.v204, trip3.sl.v267, trip3.sl.v270, trip3.sl.H10_4, trip3.sl.cst_139, trip3.sl.v185, trip3.sl.v304, trip3.sl.v172, trip3.sl.H10_3, trip3.sl.v216, trip3.sl.v262, trip3.sl.v192, trip3.sl.v180, trip3.sl.v348, trip3.sl.v349, trip3.sl.v332, trip3.sl.v275, trip3.sl.r_2, trip3.sl.v184, trip3.sl.v356, trip3.sl.v282, trip3.sl.v297, trip3.sl.v209, trip3.sl.v252, trip3.sl.v257, trip3.sl.v258, trip3.sl.v327, trip3.sl.v196, trip3.sl.arg19, trip3.sl.v286, trip3.sl.H10_2, trip3.sl.v238, trip3.sl.v295, trip3.sl.v287, trip3.sl.v331, trip3.sl.v390, trip3.sl.v199, trip3.sl.H11_4, trip3.sl.v372, trip3.sl.v244, trip3.sl.v278, trip3.sl.v371, trip3.sl.v261, trip3.sl.v322, trip3.sl.v319, trip3.sl.v203, trip3.sl.v291, trip3.sl.v264, trip3.sl.v376, trip3.sl.v316, trip3.sl.v251, trip3.sl.H12_2, trip3.sl.v256, trip3.sl.v352, trip3.sl.v404, trip3.sl.v373, trip3.sl.v236, trip3.sl.v323, trip3.sl.v347, trip3.sl.v321, trip3.sl.v329, trip3.sl.H14_2, trip3.sl.v202, trip3.sl.v325, trip3.sl.v229, trip3.sl.v174, trip3.sl.v188, trip3.sl.v350, trip3.sl.v182, trip3.sl.v357, trip3.sl.v228, trip3.sl.v245, trip3.sl.v312, trip3.sl.v383, trip3.sl.v255, trip3.sl.v317, trip3.sl.v375, trip3.sl.v362, trip3.sl.v293, trip3.sl.v223, trip3.sl.v351, trip3.sl.v237, trip3.sl.v358, trip3.sl.v324, trip3.sl.v243, trip3.sl.v232, trip3.sl.v240, trip3.sl.v359, trip3.sl.v271, trip3.sl.v187, trip3.sl.v220, trip3.sl.v385, trip3.sl.v326, trip3.sl.v314, trip3.sl.v360, trip3.sl.v254, trip3.sl.v248, trip3.sl.v400, trip3.sl.v253, trip3.sl.v213, trip3.sl.cst_143, trip3.sl.v231, trip3.sl.v346, trip3.sl.v259, trip3.sl.v292, trip3.sl.v378, trip3.sl.H12_4, trip3.sl.v191, trip3.sl.H16_2, trip3.sl.v354, trip3.sl.v283]
  case sa d => pointwise [col, Col.trip, dots, trip3, add_zero, exp2_f32, ofBits_neg, at_rows, at_cols, at_tile, o5, oP, oA, o9, o11, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay215, k1_pay216, trip3.sl.v273, trip3.sl.v225, trip3.sl.v353, trip3.sl.v211, trip3.sl.v379, trip3.sl.v226, trip3.sl.v381, trip3.sl.v242, trip3.sl.v302, trip3.sl.v309, trip3.sl.v389, trip3.sl.v200, trip3.sl.v175, trip3.sl.v310, trip3.sl.v189, trip3.sl.v269, trip3.sl.v398, trip3.sl.H15_2, trip3.sl.v183, trip3.sl.H12_3, trip3.sl.v364, trip3.sl.cst_120, trip3.sl.v260, trip3.sl.v368, trip3.sl.v333, trip3.sl.v210, trip3.sl.v336, trip3.sl.v387, trip3.sl.v173, trip3.sl.v201, trip3.sl.v391, trip3.sl.v330, trip3.sl.v377, trip3.sl.v284, trip3.sl.v207, trip3.sl.v194, trip3.sl.v178, trip3.sl.v355, trip3.sl.v365, trip3.sl.v361, trip3.sl.v294, trip3.sl.H11_2, trip3.sl.v186, trip3.sl.r, trip3.sl.H17_2, trip3.sl.H18_2, trip3.sl.v281, trip3.sl.v176, trip3.sl.v303, trip3.sl.v235, trip3.sl.v212, trip3.sl.v380, trip3.sl.v328, trip3.sl.v320, trip3.sl.v274, trip3.sl.v190, trip3.sl.v288, trip3.sl.v206, trip3.sl.v305, trip3.sl.v318, trip3.sl.v233, trip3.sl.v234, trip3.sl.v343, trip3.sl.v394, trip3.sl.v197, trip3.sl.v299, trip3.sl.v205, trip3.sl.v306, trip3.sl.v219, trip3.sl.v374, trip3.sl.r_1, trip3.sl.v311, trip3.sl.v339, trip3.sl.v230, trip3.sl.H13_2, trip3.sl.cst_192, trip3.sl.v280, trip3.sl.H11_3, trip3.sl.v386, trip3.sl.v340, trip3.sl.v308, trip3.sl.v363, trip3.sl.v388, trip3.sl.v315, trip3.sl.v241, trip3.sl.v222, trip3.sl.v239, trip3.sl.v393, trip3.sl.v392, trip3.sl.v204, trip3.sl.v267, trip3.sl.v270, trip3.sl.H10_4, trip3.sl.cst_139, trip3.sl.v185, trip3.sl.v304, trip3.sl.v172, trip3.sl.H10_3, trip3.sl.v216, trip3.sl.v262, trip3.sl.v192, trip3.sl.v180, trip3.sl.v348, trip3.sl.v349, trip3.sl.v332, trip3.sl.v275, trip3.sl.r_2, trip3.sl.v184, trip3.sl.v356, trip3.sl.v282, trip3.sl.v297, trip3.sl.v209, trip3.sl.v252, trip3.sl.v257, trip3.sl.v258, trip3.sl.v327, trip3.sl.v196, trip3.sl.arg19, trip3.sl.v286, trip3.sl.H10_2, trip3.sl.v238, trip3.sl.v295, trip3.sl.v287, trip3.sl.v331, trip3.sl.v390, trip3.sl.v199, trip3.sl.H11_4, trip3.sl.v372, trip3.sl.v244, trip3.sl.v278, trip3.sl.v371, trip3.sl.v261, trip3.sl.v322, trip3.sl.v319, trip3.sl.v203, trip3.sl.v291, trip3.sl.v264, trip3.sl.v376, trip3.sl.v316, trip3.sl.v251, trip3.sl.H12_2, trip3.sl.v256, trip3.sl.v352, trip3.sl.v404, trip3.sl.v373, trip3.sl.v236, trip3.sl.v323, trip3.sl.v347, trip3.sl.v321, trip3.sl.v329, trip3.sl.H14_2, trip3.sl.v202, trip3.sl.v325, trip3.sl.v229, trip3.sl.v174, trip3.sl.v188, trip3.sl.v350, trip3.sl.v182, trip3.sl.v357, trip3.sl.v228, trip3.sl.v245, trip3.sl.v312, trip3.sl.v383, trip3.sl.v255, trip3.sl.v317, trip3.sl.v375, trip3.sl.v362, trip3.sl.v293, trip3.sl.v223, trip3.sl.v351, trip3.sl.v237, trip3.sl.v358, trip3.sl.v324, trip3.sl.v243, trip3.sl.v232, trip3.sl.v240, trip3.sl.v359, trip3.sl.v271, trip3.sl.v187, trip3.sl.v220, trip3.sl.v385, trip3.sl.v326, trip3.sl.v314, trip3.sl.v360, trip3.sl.v254, trip3.sl.v248, trip3.sl.v400, trip3.sl.v253, trip3.sl.v213, trip3.sl.cst_143, trip3.sl.v231, trip3.sl.v346, trip3.sl.v259, trip3.sl.v292, trip3.sl.v378, trip3.sl.H12_4, trip3.sl.v191, trip3.sl.H16_2, trip3.sl.v354, trip3.sl.v283]
  case pb d => pointwise [col, Col.trip, dots, trip3, add_zero, exp2_f32, ofBits_neg, at_rows, at_cols, at_tile, o5, oP, oA, o9, o11, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay215, k1_pay216, trip3.sl.v273, trip3.sl.v225, trip3.sl.v353, trip3.sl.v211, trip3.sl.v379, trip3.sl.v226, trip3.sl.v381, trip3.sl.v242, trip3.sl.v302, trip3.sl.v309, trip3.sl.v389, trip3.sl.v200, trip3.sl.v175, trip3.sl.v310, trip3.sl.v189, trip3.sl.v269, trip3.sl.v398, trip3.sl.H15_2, trip3.sl.v183, trip3.sl.H12_3, trip3.sl.v364, trip3.sl.cst_120, trip3.sl.v260, trip3.sl.v368, trip3.sl.v333, trip3.sl.v210, trip3.sl.v336, trip3.sl.v387, trip3.sl.v173, trip3.sl.v201, trip3.sl.v391, trip3.sl.v330, trip3.sl.v377, trip3.sl.v284, trip3.sl.v207, trip3.sl.v194, trip3.sl.v178, trip3.sl.v355, trip3.sl.v365, trip3.sl.v361, trip3.sl.v294, trip3.sl.H11_2, trip3.sl.v186, trip3.sl.r, trip3.sl.H17_2, trip3.sl.H18_2, trip3.sl.v281, trip3.sl.v176, trip3.sl.v303, trip3.sl.v235, trip3.sl.v212, trip3.sl.v380, trip3.sl.v328, trip3.sl.v320, trip3.sl.v274, trip3.sl.v190, trip3.sl.v288, trip3.sl.v206, trip3.sl.v305, trip3.sl.v318, trip3.sl.v233, trip3.sl.v234, trip3.sl.v343, trip3.sl.v394, trip3.sl.v197, trip3.sl.v299, trip3.sl.v205, trip3.sl.v306, trip3.sl.v219, trip3.sl.v374, trip3.sl.r_1, trip3.sl.v311, trip3.sl.v339, trip3.sl.v230, trip3.sl.H13_2, trip3.sl.cst_192, trip3.sl.v280, trip3.sl.H11_3, trip3.sl.v386, trip3.sl.v340, trip3.sl.v308, trip3.sl.v363, trip3.sl.v388, trip3.sl.v315, trip3.sl.v241, trip3.sl.v222, trip3.sl.v239, trip3.sl.v393, trip3.sl.v392, trip3.sl.v204, trip3.sl.v267, trip3.sl.v270, trip3.sl.H10_4, trip3.sl.cst_139, trip3.sl.v185, trip3.sl.v304, trip3.sl.v172, trip3.sl.H10_3, trip3.sl.v216, trip3.sl.v262, trip3.sl.v192, trip3.sl.v180, trip3.sl.v348, trip3.sl.v349, trip3.sl.v332, trip3.sl.v275, trip3.sl.r_2, trip3.sl.v184, trip3.sl.v356, trip3.sl.v282, trip3.sl.v297, trip3.sl.v209, trip3.sl.v252, trip3.sl.v257, trip3.sl.v258, trip3.sl.v327, trip3.sl.v196, trip3.sl.arg19, trip3.sl.v286, trip3.sl.H10_2, trip3.sl.v238, trip3.sl.v295, trip3.sl.v287, trip3.sl.v331, trip3.sl.v390, trip3.sl.v199, trip3.sl.H11_4, trip3.sl.v372, trip3.sl.v244, trip3.sl.v278, trip3.sl.v371, trip3.sl.v261, trip3.sl.v322, trip3.sl.v319, trip3.sl.v203, trip3.sl.v291, trip3.sl.v264, trip3.sl.v376, trip3.sl.v316, trip3.sl.v251, trip3.sl.H12_2, trip3.sl.v256, trip3.sl.v352, trip3.sl.v404, trip3.sl.v373, trip3.sl.v236, trip3.sl.v323, trip3.sl.v347, trip3.sl.v321, trip3.sl.v329, trip3.sl.H14_2, trip3.sl.v202, trip3.sl.v325, trip3.sl.v229, trip3.sl.v174, trip3.sl.v188, trip3.sl.v350, trip3.sl.v182, trip3.sl.v357, trip3.sl.v228, trip3.sl.v245, trip3.sl.v312, trip3.sl.v383, trip3.sl.v255, trip3.sl.v317, trip3.sl.v375, trip3.sl.v362, trip3.sl.v293, trip3.sl.v223, trip3.sl.v351, trip3.sl.v237, trip3.sl.v358, trip3.sl.v324, trip3.sl.v243, trip3.sl.v232, trip3.sl.v240, trip3.sl.v359, trip3.sl.v271, trip3.sl.v187, trip3.sl.v220, trip3.sl.v385, trip3.sl.v326, trip3.sl.v314, trip3.sl.v360, trip3.sl.v254, trip3.sl.v248, trip3.sl.v400, trip3.sl.v253, trip3.sl.v213, trip3.sl.cst_143, trip3.sl.v231, trip3.sl.v346, trip3.sl.v259, trip3.sl.v292, trip3.sl.v378, trip3.sl.H12_4, trip3.sl.v191, trip3.sl.H16_2, trip3.sl.v354, trip3.sl.v283]
  all_goals pointwise [col, Col.trip, dots, trip3, add_zero, exp2_f32, ofBits_neg, at_rows, at_cols, at_tile, o5, oP, oA, o9, o11, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay215, k1_pay216, trip3.sl.v273, trip3.sl.v225, trip3.sl.v353, trip3.sl.v211, trip3.sl.v379, trip3.sl.v226, trip3.sl.v381, trip3.sl.v242, trip3.sl.v302, trip3.sl.v309, trip3.sl.v389, trip3.sl.v200, trip3.sl.v175, trip3.sl.v310, trip3.sl.v189, trip3.sl.v269, trip3.sl.v398, trip3.sl.H15_2, trip3.sl.v183, trip3.sl.H12_3, trip3.sl.v364, trip3.sl.cst_120, trip3.sl.v260, trip3.sl.v368, trip3.sl.v333, trip3.sl.v210, trip3.sl.v336, trip3.sl.v387, trip3.sl.v173, trip3.sl.v201, trip3.sl.v391, trip3.sl.v330, trip3.sl.v377, trip3.sl.v284, trip3.sl.v207, trip3.sl.v194, trip3.sl.v178, trip3.sl.v355, trip3.sl.v365, trip3.sl.v361, trip3.sl.v294, trip3.sl.H11_2, trip3.sl.v186, trip3.sl.r, trip3.sl.H17_2, trip3.sl.H18_2, trip3.sl.v281, trip3.sl.v176, trip3.sl.v303, trip3.sl.v235, trip3.sl.v212, trip3.sl.v380, trip3.sl.v328, trip3.sl.v320, trip3.sl.v274, trip3.sl.v190, trip3.sl.v288, trip3.sl.v206, trip3.sl.v305, trip3.sl.v318, trip3.sl.v233, trip3.sl.v234, trip3.sl.v343, trip3.sl.v394, trip3.sl.v197, trip3.sl.v299, trip3.sl.v205, trip3.sl.v306, trip3.sl.v219, trip3.sl.v374, trip3.sl.r_1, trip3.sl.v311, trip3.sl.v339, trip3.sl.v230, trip3.sl.H13_2, trip3.sl.cst_192, trip3.sl.v280, trip3.sl.H11_3, trip3.sl.v386, trip3.sl.v340, trip3.sl.v308, trip3.sl.v363, trip3.sl.v388, trip3.sl.v315, trip3.sl.v241, trip3.sl.v222, trip3.sl.v239, trip3.sl.v393, trip3.sl.v392, trip3.sl.v204, trip3.sl.v267, trip3.sl.v270, trip3.sl.H10_4, trip3.sl.cst_139, trip3.sl.v185, trip3.sl.v304, trip3.sl.v172, trip3.sl.H10_3, trip3.sl.v216, trip3.sl.v262, trip3.sl.v192, trip3.sl.v180, trip3.sl.v348, trip3.sl.v349, trip3.sl.v332, trip3.sl.v275, trip3.sl.r_2, trip3.sl.v184, trip3.sl.v356, trip3.sl.v282, trip3.sl.v297, trip3.sl.v209, trip3.sl.v252, trip3.sl.v257, trip3.sl.v258, trip3.sl.v327, trip3.sl.v196, trip3.sl.arg19, trip3.sl.v286, trip3.sl.H10_2, trip3.sl.v238, trip3.sl.v295, trip3.sl.v287, trip3.sl.v331, trip3.sl.v390, trip3.sl.v199, trip3.sl.H11_4, trip3.sl.v372, trip3.sl.v244, trip3.sl.v278, trip3.sl.v371, trip3.sl.v261, trip3.sl.v322, trip3.sl.v319, trip3.sl.v203, trip3.sl.v291, trip3.sl.v264, trip3.sl.v376, trip3.sl.v316, trip3.sl.v251, trip3.sl.H12_2, trip3.sl.v256, trip3.sl.v352, trip3.sl.v404, trip3.sl.v373, trip3.sl.v236, trip3.sl.v323, trip3.sl.v347, trip3.sl.v321, trip3.sl.v329, trip3.sl.H14_2, trip3.sl.v202, trip3.sl.v325, trip3.sl.v229, trip3.sl.v174, trip3.sl.v188, trip3.sl.v350, trip3.sl.v182, trip3.sl.v357, trip3.sl.v228, trip3.sl.v245, trip3.sl.v312, trip3.sl.v383, trip3.sl.v255, trip3.sl.v317, trip3.sl.v375, trip3.sl.v362, trip3.sl.v293, trip3.sl.v223, trip3.sl.v351, trip3.sl.v237, trip3.sl.v358, trip3.sl.v324, trip3.sl.v243, trip3.sl.v232, trip3.sl.v240, trip3.sl.v359, trip3.sl.v271, trip3.sl.v187, trip3.sl.v220, trip3.sl.v385, trip3.sl.v326, trip3.sl.v314, trip3.sl.v360, trip3.sl.v254, trip3.sl.v248, trip3.sl.v400, trip3.sl.v253, trip3.sl.v213, trip3.sl.cst_143, trip3.sl.v231, trip3.sl.v346, trip3.sl.v259, trip3.sl.v292, trip3.sl.v378, trip3.sl.H12_4, trip3.sl.v191, trip3.sl.H16_2, trip3.sl.v354, trip3.sl.v283]

theorem trip3_col1 (k : Fin (k1_t3_loop i).trips) (f5 : Bf Ideal c arg5) (f6 : Bf Ideal c arg6) (f7 : Bf Ideal c arg7) (f10 : Bf Ideal c arg10) (f11 : Bf Ideal c arg11) (f12 : Bf Ideal c arg12) (f13 : Bf Ideal c arg13) (f16 : Bf Ideal c arg16) (f18 : Bf Ideal c arg18) (j : Fin 512) :
    (let W := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 0#32 v65 0#32 k f5 f6 f7 f10 f11 f12 f13 f16 f18).1
     col c arg10 arg11 arg12 arg13 arg16 arg18 W.1 W.2.1 W.2.2.1 W.2.2.2.1 W.2.2.2.2.2.2.1 W.2.2.2.2.2.2.2.2 1 j)
    = (col c arg10 arg11 arg12 arg13 arg16 arg18 f10 f11 f12 f13 f16 f18 1 j).trip
        (fun k' => btile arg7.view f7 (k1_off9 i k 1) k' j) (dots (krow arg5.view f5) (fun cc => v8 (ix2 j cc)) (k1_off8 i k 1#32 0)) (fun k' => btile arg7.view f7 (k1_off11 i k 1) k' j) (dots (krow arg5.view f5) (fun cc => v8 (ix2 j cc)) (k1_off8 i k 2#32 0))
        (fun k' => vcol arg6.view f6 (k1_off10 i k 1 + k'.val)) (fun k' => vcol arg6.view f6 (k1_off12 i k 1 + k'.val)) := by
  have o5 : ∀ w, k1_off8 i k w 1 = 0 := fun _ => rfl
  have oP : k1_off10 i k 0 = 0 := rfl
  have oA : k1_off12 i k 0 = 0 := rfl
  have o9 : k1_off9 i k 0 = 0 ∧ k1_off9 i k 2 = 0 ∧ k1_off9 i k 3 = 0 := ⟨rfl, rfl, rfl⟩
  have o11 : k1_off11 i k 0 = 0 ∧ k1_off11 i k 2 = 0 ∧ k1_off11 i k 3 = 0 := ⟨rfl, rfl, rfl⟩
  ext
  case acc d => pointwise [col, Col.trip, dots, trip3, add_zero, exp2_f32, ofBits_neg, at_rows, at_cols, at_tile, o5, oP, oA, o9, o11, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay215, k1_pay216, trip3.sl.v273, trip3.sl.v225, trip3.sl.v353, trip3.sl.v211, trip3.sl.v379, trip3.sl.v226, trip3.sl.v381, trip3.sl.v242, trip3.sl.v302, trip3.sl.v309, trip3.sl.v389, trip3.sl.v200, trip3.sl.v175, trip3.sl.v310, trip3.sl.v189, trip3.sl.v269, trip3.sl.v398, trip3.sl.H15_2, trip3.sl.v183, trip3.sl.H12_3, trip3.sl.v364, trip3.sl.cst_120, trip3.sl.v260, trip3.sl.v368, trip3.sl.v333, trip3.sl.v210, trip3.sl.v336, trip3.sl.v387, trip3.sl.v173, trip3.sl.v201, trip3.sl.v391, trip3.sl.v330, trip3.sl.v377, trip3.sl.v284, trip3.sl.v207, trip3.sl.v194, trip3.sl.v178, trip3.sl.v355, trip3.sl.v365, trip3.sl.v361, trip3.sl.v294, trip3.sl.H11_2, trip3.sl.v186, trip3.sl.r, trip3.sl.H17_2, trip3.sl.H18_2, trip3.sl.v281, trip3.sl.v176, trip3.sl.v303, trip3.sl.v235, trip3.sl.v212, trip3.sl.v380, trip3.sl.v328, trip3.sl.v320, trip3.sl.v274, trip3.sl.v190, trip3.sl.v288, trip3.sl.v206, trip3.sl.v305, trip3.sl.v318, trip3.sl.v233, trip3.sl.v234, trip3.sl.v343, trip3.sl.v394, trip3.sl.v197, trip3.sl.v299, trip3.sl.v205, trip3.sl.v306, trip3.sl.v219, trip3.sl.v374, trip3.sl.r_1, trip3.sl.v311, trip3.sl.v339, trip3.sl.v230, trip3.sl.H13_2, trip3.sl.cst_192, trip3.sl.v280, trip3.sl.H11_3, trip3.sl.v386, trip3.sl.v340, trip3.sl.v308, trip3.sl.v363, trip3.sl.v388, trip3.sl.v315, trip3.sl.v241, trip3.sl.v222, trip3.sl.v239, trip3.sl.v393, trip3.sl.v392, trip3.sl.v204, trip3.sl.v267, trip3.sl.v270, trip3.sl.H10_4, trip3.sl.cst_139, trip3.sl.v185, trip3.sl.v304, trip3.sl.v172, trip3.sl.H10_3, trip3.sl.v216, trip3.sl.v262, trip3.sl.v192, trip3.sl.v180, trip3.sl.v348, trip3.sl.v349, trip3.sl.v332, trip3.sl.v275, trip3.sl.r_2, trip3.sl.v184, trip3.sl.v356, trip3.sl.v282, trip3.sl.v297, trip3.sl.v209, trip3.sl.v252, trip3.sl.v257, trip3.sl.v258, trip3.sl.v327, trip3.sl.v196, trip3.sl.arg19, trip3.sl.v286, trip3.sl.H10_2, trip3.sl.v238, trip3.sl.v295, trip3.sl.v287, trip3.sl.v331, trip3.sl.v390, trip3.sl.v199, trip3.sl.H11_4, trip3.sl.v372, trip3.sl.v244, trip3.sl.v278, trip3.sl.v371, trip3.sl.v261, trip3.sl.v322, trip3.sl.v319, trip3.sl.v203, trip3.sl.v291, trip3.sl.v264, trip3.sl.v376, trip3.sl.v316, trip3.sl.v251, trip3.sl.H12_2, trip3.sl.v256, trip3.sl.v352, trip3.sl.v404, trip3.sl.v373, trip3.sl.v236, trip3.sl.v323, trip3.sl.v347, trip3.sl.v321, trip3.sl.v329, trip3.sl.H14_2, trip3.sl.v202, trip3.sl.v325, trip3.sl.v229, trip3.sl.v174, trip3.sl.v188, trip3.sl.v350, trip3.sl.v182, trip3.sl.v357, trip3.sl.v228, trip3.sl.v245, trip3.sl.v312, trip3.sl.v383, trip3.sl.v255, trip3.sl.v317, trip3.sl.v375, trip3.sl.v362, trip3.sl.v293, trip3.sl.v223, trip3.sl.v351, trip3.sl.v237, trip3.sl.v358, trip3.sl.v324, trip3.sl.v243, trip3.sl.v232, trip3.sl.v240, trip3.sl.v359, trip3.sl.v271, trip3.sl.v187, trip3.sl.v220, trip3.sl.v385, trip3.sl.v326, trip3.sl.v314, trip3.sl.v360, trip3.sl.v254, trip3.sl.v248, trip3.sl.v400, trip3.sl.v253, trip3.sl.v213, trip3.sl.cst_143, trip3.sl.v231, trip3.sl.v346, trip3.sl.v259, trip3.sl.v292, trip3.sl.v378, trip3.sl.H12_4, trip3.sl.v191, trip3.sl.H16_2, trip3.sl.v354, trip3.sl.v283]
  case sa d => pointwise [col, Col.trip, dots, trip3, add_zero, exp2_f32, ofBits_neg, at_rows, at_cols, at_tile, o5, oP, oA, o9, o11, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay215, k1_pay216, trip3.sl.v273, trip3.sl.v225, trip3.sl.v353, trip3.sl.v211, trip3.sl.v379, trip3.sl.v226, trip3.sl.v381, trip3.sl.v242, trip3.sl.v302, trip3.sl.v309, trip3.sl.v389, trip3.sl.v200, trip3.sl.v175, trip3.sl.v310, trip3.sl.v189, trip3.sl.v269, trip3.sl.v398, trip3.sl.H15_2, trip3.sl.v183, trip3.sl.H12_3, trip3.sl.v364, trip3.sl.cst_120, trip3.sl.v260, trip3.sl.v368, trip3.sl.v333, trip3.sl.v210, trip3.sl.v336, trip3.sl.v387, trip3.sl.v173, trip3.sl.v201, trip3.sl.v391, trip3.sl.v330, trip3.sl.v377, trip3.sl.v284, trip3.sl.v207, trip3.sl.v194, trip3.sl.v178, trip3.sl.v355, trip3.sl.v365, trip3.sl.v361, trip3.sl.v294, trip3.sl.H11_2, trip3.sl.v186, trip3.sl.r, trip3.sl.H17_2, trip3.sl.H18_2, trip3.sl.v281, trip3.sl.v176, trip3.sl.v303, trip3.sl.v235, trip3.sl.v212, trip3.sl.v380, trip3.sl.v328, trip3.sl.v320, trip3.sl.v274, trip3.sl.v190, trip3.sl.v288, trip3.sl.v206, trip3.sl.v305, trip3.sl.v318, trip3.sl.v233, trip3.sl.v234, trip3.sl.v343, trip3.sl.v394, trip3.sl.v197, trip3.sl.v299, trip3.sl.v205, trip3.sl.v306, trip3.sl.v219, trip3.sl.v374, trip3.sl.r_1, trip3.sl.v311, trip3.sl.v339, trip3.sl.v230, trip3.sl.H13_2, trip3.sl.cst_192, trip3.sl.v280, trip3.sl.H11_3, trip3.sl.v386, trip3.sl.v340, trip3.sl.v308, trip3.sl.v363, trip3.sl.v388, trip3.sl.v315, trip3.sl.v241, trip3.sl.v222, trip3.sl.v239, trip3.sl.v393, trip3.sl.v392, trip3.sl.v204, trip3.sl.v267, trip3.sl.v270, trip3.sl.H10_4, trip3.sl.cst_139, trip3.sl.v185, trip3.sl.v304, trip3.sl.v172, trip3.sl.H10_3, trip3.sl.v216, trip3.sl.v262, trip3.sl.v192, trip3.sl.v180, trip3.sl.v348, trip3.sl.v349, trip3.sl.v332, trip3.sl.v275, trip3.sl.r_2, trip3.sl.v184, trip3.sl.v356, trip3.sl.v282, trip3.sl.v297, trip3.sl.v209, trip3.sl.v252, trip3.sl.v257, trip3.sl.v258, trip3.sl.v327, trip3.sl.v196, trip3.sl.arg19, trip3.sl.v286, trip3.sl.H10_2, trip3.sl.v238, trip3.sl.v295, trip3.sl.v287, trip3.sl.v331, trip3.sl.v390, trip3.sl.v199, trip3.sl.H11_4, trip3.sl.v372, trip3.sl.v244, trip3.sl.v278, trip3.sl.v371, trip3.sl.v261, trip3.sl.v322, trip3.sl.v319, trip3.sl.v203, trip3.sl.v291, trip3.sl.v264, trip3.sl.v376, trip3.sl.v316, trip3.sl.v251, trip3.sl.H12_2, trip3.sl.v256, trip3.sl.v352, trip3.sl.v404, trip3.sl.v373, trip3.sl.v236, trip3.sl.v323, trip3.sl.v347, trip3.sl.v321, trip3.sl.v329, trip3.sl.H14_2, trip3.sl.v202, trip3.sl.v325, trip3.sl.v229, trip3.sl.v174, trip3.sl.v188, trip3.sl.v350, trip3.sl.v182, trip3.sl.v357, trip3.sl.v228, trip3.sl.v245, trip3.sl.v312, trip3.sl.v383, trip3.sl.v255, trip3.sl.v317, trip3.sl.v375, trip3.sl.v362, trip3.sl.v293, trip3.sl.v223, trip3.sl.v351, trip3.sl.v237, trip3.sl.v358, trip3.sl.v324, trip3.sl.v243, trip3.sl.v232, trip3.sl.v240, trip3.sl.v359, trip3.sl.v271, trip3.sl.v187, trip3.sl.v220, trip3.sl.v385, trip3.sl.v326, trip3.sl.v314, trip3.sl.v360, trip3.sl.v254, trip3.sl.v248, trip3.sl.v400, trip3.sl.v253, trip3.sl.v213, trip3.sl.cst_143, trip3.sl.v231, trip3.sl.v346, trip3.sl.v259, trip3.sl.v292, trip3.sl.v378, trip3.sl.H12_4, trip3.sl.v191, trip3.sl.H16_2, trip3.sl.v354, trip3.sl.v283]
  case pb d => pointwise [col, Col.trip, dots, trip3, add_zero, exp2_f32, ofBits_neg, at_rows, at_cols, at_tile, o5, oP, oA, o9, o11, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay215, k1_pay216, trip3.sl.v273, trip3.sl.v225, trip3.sl.v353, trip3.sl.v211, trip3.sl.v379, trip3.sl.v226, trip3.sl.v381, trip3.sl.v242, trip3.sl.v302, trip3.sl.v309, trip3.sl.v389, trip3.sl.v200, trip3.sl.v175, trip3.sl.v310, trip3.sl.v189, trip3.sl.v269, trip3.sl.v398, trip3.sl.H15_2, trip3.sl.v183, trip3.sl.H12_3, trip3.sl.v364, trip3.sl.cst_120, trip3.sl.v260, trip3.sl.v368, trip3.sl.v333, trip3.sl.v210, trip3.sl.v336, trip3.sl.v387, trip3.sl.v173, trip3.sl.v201, trip3.sl.v391, trip3.sl.v330, trip3.sl.v377, trip3.sl.v284, trip3.sl.v207, trip3.sl.v194, trip3.sl.v178, trip3.sl.v355, trip3.sl.v365, trip3.sl.v361, trip3.sl.v294, trip3.sl.H11_2, trip3.sl.v186, trip3.sl.r, trip3.sl.H17_2, trip3.sl.H18_2, trip3.sl.v281, trip3.sl.v176, trip3.sl.v303, trip3.sl.v235, trip3.sl.v212, trip3.sl.v380, trip3.sl.v328, trip3.sl.v320, trip3.sl.v274, trip3.sl.v190, trip3.sl.v288, trip3.sl.v206, trip3.sl.v305, trip3.sl.v318, trip3.sl.v233, trip3.sl.v234, trip3.sl.v343, trip3.sl.v394, trip3.sl.v197, trip3.sl.v299, trip3.sl.v205, trip3.sl.v306, trip3.sl.v219, trip3.sl.v374, trip3.sl.r_1, trip3.sl.v311, trip3.sl.v339, trip3.sl.v230, trip3.sl.H13_2, trip3.sl.cst_192, trip3.sl.v280, trip3.sl.H11_3, trip3.sl.v386, trip3.sl.v340, trip3.sl.v308, trip3.sl.v363, trip3.sl.v388, trip3.sl.v315, trip3.sl.v241, trip3.sl.v222, trip3.sl.v239, trip3.sl.v393, trip3.sl.v392, trip3.sl.v204, trip3.sl.v267, trip3.sl.v270, trip3.sl.H10_4, trip3.sl.cst_139, trip3.sl.v185, trip3.sl.v304, trip3.sl.v172, trip3.sl.H10_3, trip3.sl.v216, trip3.sl.v262, trip3.sl.v192, trip3.sl.v180, trip3.sl.v348, trip3.sl.v349, trip3.sl.v332, trip3.sl.v275, trip3.sl.r_2, trip3.sl.v184, trip3.sl.v356, trip3.sl.v282, trip3.sl.v297, trip3.sl.v209, trip3.sl.v252, trip3.sl.v257, trip3.sl.v258, trip3.sl.v327, trip3.sl.v196, trip3.sl.arg19, trip3.sl.v286, trip3.sl.H10_2, trip3.sl.v238, trip3.sl.v295, trip3.sl.v287, trip3.sl.v331, trip3.sl.v390, trip3.sl.v199, trip3.sl.H11_4, trip3.sl.v372, trip3.sl.v244, trip3.sl.v278, trip3.sl.v371, trip3.sl.v261, trip3.sl.v322, trip3.sl.v319, trip3.sl.v203, trip3.sl.v291, trip3.sl.v264, trip3.sl.v376, trip3.sl.v316, trip3.sl.v251, trip3.sl.H12_2, trip3.sl.v256, trip3.sl.v352, trip3.sl.v404, trip3.sl.v373, trip3.sl.v236, trip3.sl.v323, trip3.sl.v347, trip3.sl.v321, trip3.sl.v329, trip3.sl.H14_2, trip3.sl.v202, trip3.sl.v325, trip3.sl.v229, trip3.sl.v174, trip3.sl.v188, trip3.sl.v350, trip3.sl.v182, trip3.sl.v357, trip3.sl.v228, trip3.sl.v245, trip3.sl.v312, trip3.sl.v383, trip3.sl.v255, trip3.sl.v317, trip3.sl.v375, trip3.sl.v362, trip3.sl.v293, trip3.sl.v223, trip3.sl.v351, trip3.sl.v237, trip3.sl.v358, trip3.sl.v324, trip3.sl.v243, trip3.sl.v232, trip3.sl.v240, trip3.sl.v359, trip3.sl.v271, trip3.sl.v187, trip3.sl.v220, trip3.sl.v385, trip3.sl.v326, trip3.sl.v314, trip3.sl.v360, trip3.sl.v254, trip3.sl.v248, trip3.sl.v400, trip3.sl.v253, trip3.sl.v213, trip3.sl.cst_143, trip3.sl.v231, trip3.sl.v346, trip3.sl.v259, trip3.sl.v292, trip3.sl.v378, trip3.sl.H12_4, trip3.sl.v191, trip3.sl.H16_2, trip3.sl.v354, trip3.sl.v283]
  all_goals pointwise [col, Col.trip, dots, trip3, add_zero, exp2_f32, ofBits_neg, at_rows, at_cols, at_tile, o5, oP, oA, o9, o11, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, k1_pay215, k1_pay216, trip3.sl.v273, trip3.sl.v225, trip3.sl.v353, trip3.sl.v211, trip3.sl.v379, trip3.sl.v226, trip3.sl.v381, trip3.sl.v242, trip3.sl.v302, trip3.sl.v309, trip3.sl.v389, trip3.sl.v200, trip3.sl.v175, trip3.sl.v310, trip3.sl.v189, trip3.sl.v269, trip3.sl.v398, trip3.sl.H15_2, trip3.sl.v183, trip3.sl.H12_3, trip3.sl.v364, trip3.sl.cst_120, trip3.sl.v260, trip3.sl.v368, trip3.sl.v333, trip3.sl.v210, trip3.sl.v336, trip3.sl.v387, trip3.sl.v173, trip3.sl.v201, trip3.sl.v391, trip3.sl.v330, trip3.sl.v377, trip3.sl.v284, trip3.sl.v207, trip3.sl.v194, trip3.sl.v178, trip3.sl.v355, trip3.sl.v365, trip3.sl.v361, trip3.sl.v294, trip3.sl.H11_2, trip3.sl.v186, trip3.sl.r, trip3.sl.H17_2, trip3.sl.H18_2, trip3.sl.v281, trip3.sl.v176, trip3.sl.v303, trip3.sl.v235, trip3.sl.v212, trip3.sl.v380, trip3.sl.v328, trip3.sl.v320, trip3.sl.v274, trip3.sl.v190, trip3.sl.v288, trip3.sl.v206, trip3.sl.v305, trip3.sl.v318, trip3.sl.v233, trip3.sl.v234, trip3.sl.v343, trip3.sl.v394, trip3.sl.v197, trip3.sl.v299, trip3.sl.v205, trip3.sl.v306, trip3.sl.v219, trip3.sl.v374, trip3.sl.r_1, trip3.sl.v311, trip3.sl.v339, trip3.sl.v230, trip3.sl.H13_2, trip3.sl.cst_192, trip3.sl.v280, trip3.sl.H11_3, trip3.sl.v386, trip3.sl.v340, trip3.sl.v308, trip3.sl.v363, trip3.sl.v388, trip3.sl.v315, trip3.sl.v241, trip3.sl.v222, trip3.sl.v239, trip3.sl.v393, trip3.sl.v392, trip3.sl.v204, trip3.sl.v267, trip3.sl.v270, trip3.sl.H10_4, trip3.sl.cst_139, trip3.sl.v185, trip3.sl.v304, trip3.sl.v172, trip3.sl.H10_3, trip3.sl.v216, trip3.sl.v262, trip3.sl.v192, trip3.sl.v180, trip3.sl.v348, trip3.sl.v349, trip3.sl.v332, trip3.sl.v275, trip3.sl.r_2, trip3.sl.v184, trip3.sl.v356, trip3.sl.v282, trip3.sl.v297, trip3.sl.v209, trip3.sl.v252, trip3.sl.v257, trip3.sl.v258, trip3.sl.v327, trip3.sl.v196, trip3.sl.arg19, trip3.sl.v286, trip3.sl.H10_2, trip3.sl.v238, trip3.sl.v295, trip3.sl.v287, trip3.sl.v331, trip3.sl.v390, trip3.sl.v199, trip3.sl.H11_4, trip3.sl.v372, trip3.sl.v244, trip3.sl.v278, trip3.sl.v371, trip3.sl.v261, trip3.sl.v322, trip3.sl.v319, trip3.sl.v203, trip3.sl.v291, trip3.sl.v264, trip3.sl.v376, trip3.sl.v316, trip3.sl.v251, trip3.sl.H12_2, trip3.sl.v256, trip3.sl.v352, trip3.sl.v404, trip3.sl.v373, trip3.sl.v236, trip3.sl.v323, trip3.sl.v347, trip3.sl.v321, trip3.sl.v329, trip3.sl.H14_2, trip3.sl.v202, trip3.sl.v325, trip3.sl.v229, trip3.sl.v174, trip3.sl.v188, trip3.sl.v350, trip3.sl.v182, trip3.sl.v357, trip3.sl.v228, trip3.sl.v245, trip3.sl.v312, trip3.sl.v383, trip3.sl.v255, trip3.sl.v317, trip3.sl.v375, trip3.sl.v362, trip3.sl.v293, trip3.sl.v223, trip3.sl.v351, trip3.sl.v237, trip3.sl.v358, trip3.sl.v324, trip3.sl.v243, trip3.sl.v232, trip3.sl.v240, trip3.sl.v359, trip3.sl.v271, trip3.sl.v187, trip3.sl.v220, trip3.sl.v385, trip3.sl.v326, trip3.sl.v314, trip3.sl.v360, trip3.sl.v254, trip3.sl.v248, trip3.sl.v400, trip3.sl.v253, trip3.sl.v213, trip3.sl.cst_143, trip3.sl.v231, trip3.sl.v346, trip3.sl.v259, trip3.sl.v292, trip3.sl.v378, trip3.sl.H12_4, trip3.sl.v191, trip3.sl.H16_2, trip3.sl.v354, trip3.sl.v283]

end Cert.KernelIdeal.Attn
-- ==== Proof.IdealOffsets.lean ====
/-
  Where a trip's loads lie, and how many trips there are. (The idealized program.)
-/
module
public import proofs.«01_k».proof.Proof.Gen.KernelIdeal

@[expose] public section

set_option maxRecDepth 16384

noncomputable section

namespace Cert.KernelIdeal.Attn

open Cert.KernelIdeal Cert.KernelIdeal.Gen
open Idealize.ShloMosaic

/-- The number of far pairs of blocks. -/
theorem trips_far (i : grid1.Coords) : (k1_t1_loop i).trips = ((i 2).val - 1) / 2 := by
  have h : ∀ j : Fin 16, ∀ (i : grid1.Coords), i 2 = j → (k1_t1_loop i).trips = (j.val - 1) / 2 := by
    intro j i hi; unfold k1_t1_loop; rw [hi]; clear hi i; revert j; decide +kernel
  exact h _ i rfl

/-- The number of the other pairs. -/
theorem trips_near (i : grid1.Coords) : (k1_t3_loop i).trips = ((i 2).val + 2) / 2 - ((i 2).val - 1) / 2 := by
  have h : ∀ j : Fin 16, ∀ (i : grid1.Coords), i 2 = j → (k1_t3_loop i).trips = (j.val + 2) / 2 - (j.val - 1) / 2 := by
    intro j i hi; unfold k1_t3_loop; rw [hi]; clear hi i; revert j; decide +kernel
  exact h _ i rfl

theorem far_offsets (i : grid1.Coords) (k : Fin (k1_t1_loop i).trips) :
    k1_off2 i k 1#32 0 = 512 * min (i 2).val (2 * k.val + 1) ∧ k1_off2 i k 2#32 0 = 512 * min (i 2).val (2 * k.val + 2) ∧
    k1_off3 i k 1 = 512 * min (i 2).val (2 * k.val - 1) ∧ k1_off4 i k 1 = 512 * min (i 2).val (2 * k.val) := by
  have h : ∀ j : Fin 16, ∀ (i : grid1.Coords), i 2 = j → ∀ n : Fin 8, ∀ k : Fin (k1_t1_loop i).trips, k.val = n.val →
      k1_off2 i k 1#32 0 = 512 * min j.val (2 * n.val + 1) ∧ k1_off2 i k 2#32 0 = 512 * min j.val (2 * n.val + 2) ∧
      k1_off3 i k 1 = 512 * min j.val (2 * n.val - 1) ∧ k1_off4 i k 1 = 512 * min j.val (2 * n.val) := by
    intro j i hi n k hk
    have hn : n.val < (j.val - 1) / 2 := by have h1 := k.isLt; have h2 := trips_far i; have h3 := congrArg Fin.val hi; omega
    unfold k1_off2 k1_off3 k1_off4 k1_t1_loop; rw [hk, hi]; clear hk k hi i; revert j n; decide +kernel
  have hb : k.val < 8 := by have h1 := k.isLt; have h2 := trips_far i; have h3 : (i 2).val < 16 := (i 2).isLt; omega
  exact h _ i rfl ⟨k.val, hb⟩ k rfl

theorem near_offsets (i : grid1.Coords) (k : Fin (k1_t3_loop i).trips) :
    let p := ((i 2).val - 1) / 2 + k.val
    k1_off8 i k 1#32 0 = 512 * min (i 2).val (2 * p + 1) ∧ k1_off8 i k 2#32 0 = 512 * min (i 2).val (2 * p + 2) ∧
    k1_off10 i k 1 = 512 * min (i 2).val (2 * p - 1) ∧ k1_off12 i k 1 = 512 * min (i 2).val (2 * p) ∧
    k1_off9 i k 1 = min 3 (2 * p + 2 - (i 2).val) ∧ k1_off11 i k 1 = min 3 (2 * p + 3 - (i 2).val) := by
  have h : ∀ j : Fin 16, ∀ (i : grid1.Coords), i 2 = j → ∀ n : Fin 8, ∀ k : Fin (k1_t3_loop i).trips, k.val = n.val →
      let p := (j.val - 1) / 2 + n.val
      k1_off8 i k 1#32 0 = 512 * min j.val (2 * p + 1) ∧ k1_off8 i k 2#32 0 = 512 * min j.val (2 * p + 2) ∧
      k1_off10 i k 1 = 512 * min j.val (2 * p - 1) ∧ k1_off12 i k 1 = 512 * min j.val (2 * p) ∧
      k1_off9 i k 1 = min 3 (2 * p + 2 - j.val) ∧ k1_off11 i k 1 = min 3 (2 * p + 3 - j.val) := by
    intro j i hi n k hk
    have hn : n.val < (j.val + 2) / 2 - (j.val - 1) / 2 := by have h1 := k.isLt; have h2 := trips_near i; have h3 := congrArg Fin.val hi; omega
    unfold k1_off8 k1_off9 k1_off10 k1_off11 k1_off12 k1_t3_loop; rw [hk, hi]; clear hk k hi i; revert j n; decide +kernel
  have hb : k.val < 8 := by have h1 := k.isLt; have h2 := trips_near i; have h3 : (i 2).val < 16 := (i 2).isLt; omega
  exact h _ i rfl ⟨k.val, hb⟩ k rfl

end Cert.KernelIdeal.Attn
-- ==== Proof.Math.lean ====
/-
  The running softmax of one query column over the reals with the two infinities, apart from any program: a running
  maximum, and sums kept relative to it, taken over blocks of 512 keys, some of them masked. After any number of blocks
  the sums are those of the keys seen, relative to the maximum reached.
-/
module
public import Idealize.ShloMosaic.PureOps.Ideal
@[expose] public section
noncomputable section

namespace Cert.Column

open Idealize.ShloMosaic

variable (c : ℕ → Fin 512 → Prop) [∀ b k, Decidable (c b k)] (x : ℕ → Fin 512 → ℝ)

/-- The sum over the first `n` blocks of the unmasked keys' weights times `f`, relative to the maximum `M`. -/
def num (n : ℕ) (M : ℝ) (f : ℕ → Fin 512 → ℝ) : ℝ :=
  ∑ b ∈ Finset.range n, ∑ k : Fin 512, if c b k then Real.rpow 2 (x b k - M) * f b k else 0

/-- A masked score. -/
def sc (b : ℕ) (k : Fin 512) : EReal := if c b k then (x b k : EReal) else ⊥

/-- A sum `y` kept relative to the running maximum `m` after `n` blocks. -/
def Run (n : ℕ) (m y : EReal) (f : ℕ → Fin 512 → ℝ) : Prop :=
  (n = 0 ∧ m = ⊥ ∧ y = 0) ∨ ∃ M : ℝ, m = (M : EReal) ∧ y = (num c x n M f : EReal)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem num_shift (n : ℕ) (M M' : ℝ) (f : ℕ → Fin 512 → ℝ) : num c x n M' f = Real.rpow 2 (M - M') * num c x n M f := by
  unfold num
  rw [Finset.mul_sum]
  refine Finset.sum_congr rfl fun b _ => ?_
  rw [Finset.mul_sum]
  refine Finset.sum_congr rfl fun k _ => ?_
  split
  · rw [← mul_assoc]
    congr 1
    show (2:ℝ) ^ (x b k - M') = (2:ℝ) ^ (M - M') * (2:ℝ) ^ (x b k - M)
    rw [← Real.rpow_add (by norm_num)]
    congr 1; ring
  · simp

theorem fold_max_lt (s : Fin 512 → EReal) (h : ∀ k, s k < ⊤) : Finset.univ.fold max ⊥ s < ⊤ :=
  Finset.fold_max_lt _ |>.mpr ⟨bot_lt_top, fun k _ => h k⟩

theorem le_fold_max (s : Fin 512 → EReal) (k : Fin 512) : s k ≤ Finset.univ.fold max ⊥ s :=
  Finset.le_fold_max _ |>.mpr (Or.inr ⟨k, Finset.mem_univ _, le_rfl⟩)

theorem sc_lt (n : ℕ) (k : Fin 512) : sc c x n k < ⊤ := by
  unfold sc; split
  · exact EReal.coe_lt_top _
  · exact bot_lt_top

/-- The new maximum is a real number once some key was seen. -/
theorem max_real (n : ℕ) (m : EReal) (hm : m < ⊤) (h : m ≠ ⊥ ∨ ∃ k, c n k) :
    ∃ M : ℝ, max m (Finset.univ.fold max ⊥ (sc c x n)) = (M : EReal) := by
  have h1 : max m (Finset.univ.fold max ⊥ (sc c x n)) ≠ ⊤ := (max_lt hm (fold_max_lt _ (sc_lt c x n))).ne
  have h2 : max m (Finset.univ.fold max ⊥ (sc c x n)) ≠ ⊥ := by
    intro hb
    rcases h with h | ⟨k, hk⟩
    · exact h (le_bot_iff.mp (hb ▸ le_max_left _ _))
    · have := (le_fold_max (sc c x n) k).trans (hb ▸ le_max_right m _)
      rw [sc, if_pos hk] at this
      exact EReal.coe_ne_bot _ (le_bot_iff.mp this)
  exact ⟨_, (EReal.coe_toReal h1 h2).symm⟩

/-- One block more: the maximum is raised, the sum kept is rescaled and the block's terms are added. -/
theorem Run.step {n : ℕ} {m y : EReal} {f : ℕ → Fin 512 → ℝ} (h : Run c x n m y f) (h0 : n = 0 → ∃ k, c 0 k)
    (F : Fin 512 → EReal) (hF : ∀ k, c n k → F k = (f n k : EReal)) :
    Run c x (n + 1) (max m (Finset.univ.fold max ⊥ (sc c x n)))
      (Ideal.exp2 (m - max m (Finset.univ.fold max ⊥ (sc c x n))) * y
        + ∑ k, F k * Ideal.exp2 (sc c x n k - max m (Finset.univ.fold max ⊥ (sc c x n)))) f := by
  obtain ⟨M', hM'⟩ : ∃ M : ℝ, max m (Finset.univ.fold max ⊥ (sc c x n)) = (M : EReal) := by
    rcases h with ⟨rfl, rfl, rfl⟩ | ⟨M, rfl, _⟩
    · exact max_real c x 0 ⊥ bot_lt_top (Or.inr (h0 rfl))
    · exact max_real c x n M (EReal.coe_lt_top _) (Or.inl (EReal.coe_ne_bot _))
  rw [hM']
  refine Or.inr ⟨M', rfl, ?_⟩
  have hs : ∑ k, F k * Ideal.exp2 (sc c x n k - (M' : EReal))
      = ((∑ k : Fin 512, if c n k then Real.rpow 2 (x n k - M') * f n k else 0 : ℝ) : EReal) := by
    rw [coe_sum]
    refine Finset.sum_congr rfl fun k _ => ?_
    unfold sc
    split
    · rename_i hk
      rw [hF k hk, ← EReal.coe_sub, Ideal.exp2_coe, ← EReal.coe_mul, mul_comm]
    · rw [EReal.bot_sub, Ideal.exp2_bot, mul_zero, EReal.coe_zero]
  have hy : Ideal.exp2 (m - (M' : EReal)) * y = (num c x n M' f : EReal) := by
    rcases h with ⟨rfl, rfl, rfl⟩ | ⟨M, rfl, rfl⟩
    · simp [num]
    · rw [← EReal.coe_sub, Ideal.exp2_coe, ← EReal.coe_mul, num_shift c x n M M']
  rw [hs, hy, ← EReal.coe_add]
  congr 1
  simp only [num, Finset.sum_range_succ]

/-- The weights' own sum is positive when a key was seen. -/
theorem num_one_pos (n : ℕ) (hn : 0 < n) (h0 : ∃ k, c 0 k) (M : ℝ) : 0 < num c x n M fun _ _ => 1 := by
  obtain ⟨k, hk⟩ := h0
  have hp : ∀ b k, 0 ≤ if c b k then Real.rpow 2 (x b k - M) * 1 else 0 := fun b k => by
    split
    · rw [mul_one]; exact (Real.rpow_pos_of_pos (by norm_num) _).le
    · exact le_rfl
  refine Finset.sum_pos' (fun b _ => Finset.sum_nonneg fun k _ => hp b k) ⟨0, Finset.mem_range.mpr hn, ?_⟩
  refine Finset.sum_pos' (fun k _ => hp 0 k) ⟨k, Finset.mem_univ _, ?_⟩
  rw [if_pos hk, mul_one]
  exact Real.rpow_pos_of_pos (by norm_num) _

/-- Rows `0 … J·512` by blocks of 512. -/
theorem sum_blocks (J : ℕ) (F : ℕ → ℝ) : ∑ b ∈ Finset.range J, ∑ k : Fin 512, F (b * 512 + k.val) = ∑ p ∈ Finset.range (J * 512), F p := by
  induction J with
  | zero => simp
  | succ J ih =>
    rw [Finset.sum_range_succ, ih, Nat.add_mul, Nat.one_mul, Finset.sum_range_add, Fin.sum_univ_eq_sum_range (fun k => F (J * 512 + k))]

/-- The sum over all keys, the masked ones left out. -/
def tot (q : ℕ) (s w : ℕ → ℝ) : ℝ := ∑ p : Fin 8192, if p.val ≤ q then Real.exp (s p.val) * w p.val else 0

theorem num_eq_tot (q n : ℕ) (hq : q < n * 512) (hn : q < 8192) (far M : ℝ) (s w : ℕ → ℝ) :
    num (fun b k => b * 512 + k.val ≤ q) (fun b k => (s (b * 512 + k.val) - far) * (Real.log 2)⁻¹) n M (fun b k => w (b * 512 + k.val))
      = Real.exp (- far - M * Real.log 2) * tot q s w := by
  have hl : Real.log 2 ≠ 0 := (Real.log_pos (by norm_num)).ne'
  have e : ∀ p, (if p ≤ q then Real.rpow 2 ((s p - far) * (Real.log 2)⁻¹ - M) * w p else 0)
      = Real.exp (- far - M * Real.log 2) * (if p ≤ q then Real.exp (s p) * w p else 0) := fun p => by
    split
    · rw [← mul_assoc]
      congr 1
      rw [Real.rpow_eq_pow, Real.rpow_def_of_pos (by norm_num), ← Real.exp_add]
      congr 1
      field_simp
      ring
    · simp
  unfold num tot
  rw [sum_blocks n fun p => if p ≤ q then Real.rpow 2 ((s p - far) * (Real.log 2)⁻¹ - M) * w p else 0]
  rw [Finset.sum_congr rfl fun p _ => e p, ← Finset.mul_sum, Fin.sum_univ_eq_sum_range (fun p => if p ≤ q then Real.exp (s p) * w p else 0)]
  refine congrArg (fun t : ℝ => Real.exp (- far - M * Real.log 2) * t) ?_
  have cut : ∀ N, q < N → ∑ p ∈ Finset.range N, (if p ≤ q then Real.exp (s p) * w p else 0)
      = ∑ p ∈ Finset.range (q + 1), (if p ≤ q then Real.exp (s p) * w p else 0) := fun N hN =>
    (Finset.sum_subset (Finset.range_mono hN) fun p _ hp => if_neg (by rw [Finset.mem_range] at hp; omega)).symm
  rw [cut _ hq, cut _ hn]

theorem tot_one_pos (q : ℕ) (s : ℕ → ℝ) : 0 < tot q s fun _ => 1 := by
  have hp : ∀ p : Fin 8192, 0 ≤ if p.val ≤ q then Real.exp (s p.val) * 1 else 0 := fun p => by
    split
    · rw [mul_one]; exact (Real.exp_pos _).le
    · exact le_rfl
  refine Finset.sum_pos' (fun p _ => hp p) ⟨0, Finset.mem_univ _, ?_⟩
  refine (if_pos (Nat.zero_le q)).symm ▸ ?_
  rw [mul_one]
  exact Real.exp_pos _

/-- What the column's weighted sum over its weights' sum comes to. -/
theorem Run.ratio (q n : ℕ) (hq : q < n * 512) (hn : q < 8192) (far : ℝ) (s w : ℕ → ℝ) {m l y : EReal}
    (hl : Run (fun b k => b * 512 + k.val ≤ q) (fun b k => (s (b * 512 + k.val) - far) * (Real.log 2)⁻¹) n m l fun _ _ => 1)
    (hy : Run (fun b k => b * 512 + k.val ≤ q) (fun b k => (s (b * 512 + k.val) - far) * (Real.log 2)⁻¹) n m y fun b k => w (b * 512 + k.val)) :
    Ideal.div y l = ((tot q s w / tot q s fun _ => 1 : ℝ) : EReal) ∧ y * Ideal.div 1 l = ((tot q s w / tot q s fun _ => 1 : ℝ) : EReal) := by
  have hn0 : n ≠ 0 := by rintro rfl; omega
  obtain ⟨M, rfl, rfl⟩ := hl.resolve_left fun h => hn0 h.1
  obtain ⟨M', hM, rfl⟩ := hy.resolve_left fun h => hn0 h.1
  obtain rfl : M = M' := EReal.coe_eq_coe_iff.mp hM
  rw [num_eq_tot q n hq hn far M s w, num_eq_tot q n hq hn far M s fun _ => 1]
  have h1 := (tot_one_pos q s).ne'
  have h2 := (Real.exp_pos (- far - M * Real.log 2)).ne'
  rw [Ideal.div_coe (mul_ne_zero h2 h1), Ideal.div_coe (mul_ne_zero h2 h1), one_mul, ← EReal.coe_mul, EReal.coe_eq_coe_iff, and_self]
  field_simp

/-- The softmax's own weights, relative to any real maximum. -/
theorem softmax_dot (q : ℕ) (s w : ℕ → ℝ) (M : ℝ) :
    (∑ p : Fin 8192, w p.val * ((if p.val ≤ q then Real.exp (s p.val - M) else 0) / ∑ p : Fin 8192, if p.val ≤ q then Real.exp (s p.val - M) else 0))
      = tot q s w / tot q s fun _ => 1 := by
  have e : ∀ p : Fin 8192, (if p.val ≤ q then Real.exp (s p.val - M) else 0) = Real.exp (-M) * (if p.val ≤ q then Real.exp (s p.val) else 0) := fun p => by
    split
    · rw [← Real.exp_add]; congr 1; ring
    · simp
  simp only [e, ← Finset.mul_sum]
  have h2 := (Real.exp_pos (-M)).ne'
  unfold tot
  rw [Finset.sum_div]
  refine Finset.sum_congr rfl fun p _ => ?_
  simp only [mul_one]
  rw [mul_div_mul_left _ _ h2]
  split <;> ring

end Cert.Column
-- ==== Proof.IdealLoop.lean ====
/-
  The two loops, read at one query column: what the running sums hold before each pair of blocks. (The idealized program.)
-/
module
public import proofs.«01_k».proof.Proof.IdealColumn1
public import proofs.«01_k».proof.Proof.IdealColumn3
public import proofs.«01_k».proof.Proof.IdealRun
public import proofs.«01_k».proof.Proof.IdealOffsets
public import proofs.«01_k».proof.Proof.Math

@[expose] public section

set_option maxRecDepth 16384

noncomputable section

namespace Cert.KernelIdeal.Attn

open Cert.KernelIdeal Cert.KernelIdeal.Gen Cert.Column
open Idealize.ShloMosaic Idealize.ShloMosaic.TcCoe

section
variable (S : ℕ → Fin 512 → EReal) (V : ℕ → Fin 512 → Fin 128 → EReal) (c : ℕ → Fin 512 → Prop) [∀ b k, Decidable (c b k)]
  (x : ℕ → Fin 512 → ℝ) (w : Fin 128 → ℕ → Fin 512 → ℝ)

/-- What a column holds before pair `p`: the weights' sum and (the lagging block put in) the weighted values' sums over the
    first `2 p` blocks, and the next block's products. -/
structure Inv (p : ℕ) (z : Col) : Prop where
  l : Run c x (2 * p) z.m z.l fun _ _ => 1
  acc : ∀ d, Run c x (2 * p) z.m (z.al * z.acc d + ∑ k, V (2 * p - 1) k d * z.pb k) (w d)
  sa : z.sa = S (2 * p)

variable {S V c x w}

/-- Two blocks' pair keeps it. -/
theorem Inv.trip {p : ℕ} {z : Col} (h : Inv S V c x w p z) (h0 : ∃ k, c 0 k) (hV : ∀ b k d, c b k → V b k d = (w d b k : EReal))
    {bA sB bB : Fin 512 → EReal} (hA : ∀ k, S (2 * p) k + bA k = sc c x (2 * p) k) (hB : ∀ k, sB k + bB k = sc c x (2 * p + 1) k) :
    Inv S V c x w (p + 1) (z.trip bA sB bB (S (2 * p + 2)) (V (2 * p - 1)) (V (2 * p))) := by
  have eA : (fun k => z.sa k + bA k) = sc c x (2 * p) := by rw [h.sa]; exact funext hA
  have eA' : ∀ k, z.sa k + bA k = sc c x (2 * p) k := fun k => congrFun eA k
  have eB : (fun k => sB k + bB k) = sc c x (2 * p + 1) := funext hB
  constructor
  · have h1 := (h.l.step c x (fun _ => h0) (fun _ => 1) (fun _ _ => rfl)).step c x (fun _ => h0) (fun _ => 1) (fun _ _ => rfl)
    simp only [Col.trip, eA, eA', eB, hB]
    simp only [one_mul] at h1
    exact h1
  · intro d
    have h1 := ((h.acc d).step c x (fun _ => h0) (fun k => V (2 * p) k d) (fun k hk => hV _ k d hk)).step c x (fun _ => h0) (fun k => V (2 * p + 1) k d) (fun k hk => hV _ k d hk)
    simp only [Col.trip, eA, eA', eB, hB]
    exact h1
  · rfl

end

attribute [local irreducible] trip1 trip3

variable (dv : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)
  (arg2 : BitVec 32) (v5 : Vec Ideal S512x128 .bf16) (v8 : FVec Ideal S512x128 .bf16) (v46 v65 v67 : BitVec 32)

/-- Before trip `k` of the loop over the far pairs. -/
theorem inv1 (f5 : Bf Ideal dv arg5) (f6 : Bf Ideal dv arg6) (s : Bf Ideal dv arg10 × Bf Ideal dv arg11 × Bf Ideal dv arg12 × Bf Ideal dv arg13 × Bf Ideal dv arg16 × Bf Ideal dv arg18) (mi : Fin 2) (j : Fin 512) (qv : Fin 128 → EReal)
    (hq : (mi = 0 ∧ qv = fun cc => v5 (ix2 j cc)) ∨ (mi = 1 ∧ qv = fun cc => v8 (ix2 j cc)))
    (c : ℕ → Fin 512 → Prop) [∀ b k, Decidable (c b k)] (x : ℕ → Fin 512 → ℝ) (w : Fin 128 → ℕ → Fin 512 → ℝ) (h0 : ∃ k, c 0 k)
    (hV : ∀ b k d, c b k → vcol arg6.view f6 (512 * min (i 2).val b + k.val) d = (w d b k : EReal))
    (hfar : ∀ b, b + 2 ≤ (i 2).val → ∀ k, dots (krow arg5.view f5) qv (512 * min (i 2).val b) k = sc c x b k)
    (hs : Inv (fun b => dots (krow arg5.view f5) qv (512 * min (i 2).val b)) (fun b k => vcol arg6.view f6 (512 * min (i 2).val b + k.val)) c x w (0) (col dv arg10 arg11 arg12 arg13 arg16 arg18 (s).1 (s).2.1 (s).2.2.1 (s).2.2.2.1 (s).2.2.2.2.1 (s).2.2.2.2.2 mi j))
    (k : ℕ) (hk : k ≤ (k1_t1_loop i).trips) :
    Inv (fun b => dots (krow arg5.view f5) qv (512 * min (i 2).val b)) (fun b k => vcol arg6.view f6 (512 * min (i 2).val b + k.val)) c x w k (col dv arg10 arg11 arg12 arg13 arg16 arg18 (st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s k).1 (st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s k).2.1 (st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s k).2.2.1 (st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s k).2.2.2.1 (st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s k).2.2.2.2.1 (st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s k).2.2.2.2.2 mi j) := by
  induction k with
  | zero => exact hs
  | succ k ih =>
    have hp := ih (Nat.le_of_succ_le hk)
    have hk : k < (k1_t1_loop i).trips := hk
    have ht := trips_far i
    obtain ⟨o1, o2, o3, o4⟩ := far_offsets i ⟨k, hk⟩
    rw [show st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s (k + 1) = step1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 k (st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s k) from rfl, step1, dif_pos hk]
    revert hp
    generalize st1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 f5 f6 s k = s'
    intro hp
    rcases hq with ⟨rfl, rfl⟩ | ⟨rfl, rfl⟩
    · refine Eq.mpr (congrArg (Inv (fun b => dots (krow arg5.view f5) (fun cc => v5 (ix2 j cc)) (512 * min (i 2).val b)) (fun b k => vcol arg6.view f6 (512 * min (i 2).val b + k.val)) c x w (k + 1)) (trip1_col0 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 ⟨k, hk⟩ f5 f6 (s').1 (s').2.1 (s').2.2.1 (s').2.2.2.1 (s').2.2.2.2.1 (s').2.2.2.2.2 j)) ?_
      rw [o1, o2, o3, o4]
      exact hp.trip h0 hV (fun k' => by rw [add_zero]; exact hfar _ (by omega) k') (fun k' => by rw [add_zero]; exact hfar (2 * k + 1) (by omega) k')
    · refine Eq.mpr (congrArg (Inv (fun b => dots (krow arg5.view f5) (fun cc => v8 (ix2 j cc)) (512 * min (i 2).val b)) (fun b k => vcol arg6.view f6 (512 * min (i 2).val b + k.val)) c x w (k + 1)) (trip1_col1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 ⟨k, hk⟩ f5 f6 (s').1 (s').2.1 (s').2.2.1 (s').2.2.2.1 (s').2.2.2.2.1 (s').2.2.2.2.2 j)) ?_
      rw [o1, o2, o3, o4]
      exact hp.trip h0 hV (fun k' => by rw [add_zero]; exact hfar _ (by omega) k') (fun k' => by rw [add_zero]; exact hfar (2 * k + 1) (by omega) k')

/-- Before trip `k` of the loop over the near pairs. -/
theorem inv3 (f5 : Bf Ideal dv arg5) (f6 : Bf Ideal dv arg6) (f7 : Bf Ideal dv arg7) (s : Bf Ideal dv arg10 × Bf Ideal dv arg11 × Bf Ideal dv arg12 × Bf Ideal dv arg13 × Bf Ideal dv arg16 × Bf Ideal dv arg18) (mi : Fin 2) (j : Fin 512) (qv : Fin 128 → EReal)
    (hq : (mi = 0 ∧ qv = fun cc => v5 (ix2 j cc)) ∨ (mi = 1 ∧ qv = fun cc => v8 (ix2 j cc)))
    (c : ℕ → Fin 512 → Prop) [∀ b k, Decidable (c b k)] (x : ℕ → Fin 512 → ℝ) (w : Fin 128 → ℕ → Fin 512 → ℝ) (h0 : ∃ k, c 0 k)
    (hV : ∀ b k d, c b k → vcol arg6.view f6 (512 * min (i 2).val b + k.val) d = (w d b k : EReal))
    (hnear : ∀ b, (i 2).val ≤ b + 2 → b ≤ (i 2).val + 1 → ∀ k, dots (krow arg5.view f5) qv (512 * min (i 2).val b) k + btile arg7.view f7 (min 3 (b + 2 - (i 2).val)) k j = sc c x b k)
    (hs : Inv (fun b => dots (krow arg5.view f5) qv (512 * min (i 2).val b)) (fun b k => vcol arg6.view f6 (512 * min (i 2).val b + k.val)) c x w (((i 2).val - 1) / 2) (col dv arg10 arg11 arg12 arg13 arg16 arg18 (s).1 (s).2.1 (s).2.2.1 (s).2.2.2.1 (s).2.2.2.2.1 (s).2.2.2.2.2 mi j))
    (k : ℕ) (hk : k ≤ (k1_t3_loop i).trips) :
    Inv (fun b => dots (krow arg5.view f5) qv (512 * min (i 2).val b)) (fun b k => vcol arg6.view f6 (512 * min (i 2).val b + k.val)) c x w (((i 2).val - 1) / 2 + k) (col dv arg10 arg11 arg12 arg13 arg16 arg18 (st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s k).1 (st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s k).2.1 (st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s k).2.2.1 (st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s k).2.2.2.1 (st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s k).2.2.2.2.1 (st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s k).2.2.2.2.2 mi j) := by
  induction k with
  | zero => exact hs
  | succ k ih =>
    have hp := ih (Nat.le_of_succ_le hk)
    have hk : k < (k1_t3_loop i).trips := hk
    have ht := trips_near i
    obtain ⟨o1, o2, o3, o4, o5, o6⟩ := near_offsets i ⟨k, hk⟩
    rw [show st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s (k + 1) = step3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 k (st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s k) from rfl, step3, dif_pos hk]
    revert hp
    generalize st3 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 f5 f6 f7 s k = s'
    intro hp
    rcases hq with ⟨rfl, rfl⟩ | ⟨rfl, rfl⟩
    · refine Eq.mpr (congrArg (Inv (fun b => dots (krow arg5.view f5) (fun cc => v5 (ix2 j cc)) (512 * min (i 2).val b)) (fun b k => vcol arg6.view f6 (512 * min (i 2).val b + k.val)) c x w ((((i 2).val - 1) / 2 + k) + 1)) (trip3_col0 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 ⟨k, hk⟩ f5 f6 f7 (s').1 (s').2.1 (s').2.2.1 (s').2.2.2.1 (s').2.2.2.2.1 (s').2.2.2.2.2 j)) ?_
      rw [o1, o2, o3, o4, o5, o6]
      exact hp.trip h0 hV (fun k' => hnear _ (by omega) (by omega) k') (fun k' => hnear (2 * (((i 2).val - 1) / 2 + k) + 1) (by omega) (by omega) k')
    · refine Eq.mpr (congrArg (Inv (fun b => dots (krow arg5.view f5) (fun cc => v8 (ix2 j cc)) (512 * min (i 2).val b)) (fun b k => vcol arg6.view f6 (512 * min (i 2).val b + k.val)) c x w ((((i 2).val - 1) / 2 + k) + 1)) (trip3_col1 dv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 v8 v65 ⟨k, hk⟩ f5 f6 f7 (s').1 (s').2.1 (s').2.2.1 (s').2.2.2.1 (s').2.2.2.2.1 (s').2.2.2.2.2 j)) ?_
      rw [o1, o2, o3, o4, o5, o6]
      exact hp.trip h0 hV (fun k' => hnear _ (by omega) (by omega) k') (fun k' => hnear (2 * (((i 2).val - 1) / 2 + k) + 1) (by omega) (by omega) k')

end Cert.KernelIdeal.Attn
-- ==== Proof.IdealAttn.lean ====
/-
  The attention's body, read at one place of its result: the two columns the loops leave, normalised, mixed and scaled.
  (The idealized program.)
-/
module
public import proofs.«01_k».proof.Proof.IdealLoop

@[expose] public section

set_option maxRecDepth 16384

noncomputable section

namespace Cert.KernelIdeal.Attn

open Cert.KernelIdeal Cert.KernelIdeal.Gen Cert.Column
open Idealize.ShloMosaic Idealize.ShloMosaic.TcCoe

section Reads

variable {sig : RefSig} {κ : Kind} {sp : Space} {e : EltTy}

/-- A load of row 0 of the four vectors. -/
theorem lam0 (v : View sig κ sp S4x64 e) (f : v.ty.Contents (Elt Ideal)) (inb : ∀ d, (![0, 0] : Fin 2 → ℕ) d + (![1, 64] : Fin 2 → ℕ) d ≤ S4x64.size d) (z : Fin 1) (l : Fin 64) :
    v.readAt (Elt Ideal) (Rect.unit (s := S4x64) ![0, 0] ![1, 64] inb).toLoadRect f (ix2 z l) = v.read (Elt Ideal) f (ix2 0 l) := by
  refine congrArg (v.read (Elt Ideal) f) (funext fun d => Fin.ext ?_)
  fin_cases d <;> simp [LoadRect.idx, Rect.toLoadRect, Rect.unit, ix2]

/-- A load of row 1 of the four vectors. -/
theorem lam1 (v : View sig κ sp S4x64 e) (f : v.ty.Contents (Elt Ideal)) (inb : ∀ d, (![1, 0] : Fin 2 → ℕ) d + (![1, 64] : Fin 2 → ℕ) d ≤ S4x64.size d) (z : Fin 1) (l : Fin 64) :
    v.readAt (Elt Ideal) (Rect.unit (s := S4x64) ![1, 0] ![1, 64] inb).toLoadRect f (ix2 z l) = v.read (Elt Ideal) f (ix2 1 l) := by
  refine congrArg (v.read (Elt Ideal) f) (funext fun d => Fin.ext ?_)
  fin_cases d <;> simp [LoadRect.idx, Rect.toLoadRect, Rect.unit, ix2]

/-- A load of row 2 of the four vectors. -/
theorem lam2 (v : View sig κ sp S4x64 e) (f : v.ty.Contents (Elt Ideal)) (inb : ∀ d, (![2, 0] : Fin 2 → ℕ) d + (![1, 64] : Fin 2 → ℕ) d ≤ S4x64.size d) (z : Fin 1) (l : Fin 64) :
    v.readAt (Elt Ideal) (Rect.unit (s := S4x64) ![2, 0] ![1, 64] inb).toLoadRect f (ix2 z l) = v.read (Elt Ideal) f (ix2 2 l) := by
  refine congrArg (v.read (Elt Ideal) f) (funext fun d => Fin.ext ?_)
  fin_cases d <;> simp [LoadRect.idx, Rect.toLoadRect, Rect.unit, ix2]

/-- A load of row 3 of the four vectors. -/
theorem lam3 (v : View sig κ sp S4x64 e) (f : v.ty.Contents (Elt Ideal)) (inb : ∀ d, (![3, 0] : Fin 2 → ℕ) d + (![1, 64] : Fin 2 → ℕ) d ≤ S4x64.size d) (z : Fin 1) (l : Fin 64) :
    v.readAt (Elt Ideal) (Rect.unit (s := S4x64) ![3, 0] ![1, 64] inb).toLoadRect f (ix2 z l) = v.read (Elt Ideal) f (ix2 3 l) := by
  refine congrArg (v.read (Elt Ideal) f) (funext fun d => Fin.ext ?_)
  fin_cases d <;> simp [LoadRect.idx, Rect.toLoadRect, Rect.unit, ix2]

/-- A load of a whole block. -/
theorem whole_q (v : View sig κ sp S512x128 e) (f : v.ty.Contents (Elt Ideal)) (inb : ∀ d, (![0, 0] : Fin 2 → ℕ) d + (![512, 128] : Fin 2 → ℕ) d ≤ S512x128.size d) (r : Fin 512) (l : Fin 128) :
    v.readAt (Elt Ideal) (Rect.unit (s := S512x128) ![0, 0] ![512, 128] inb).toLoadRect f (ix2 r l) = v.read (Elt Ideal) f (ix2 r l) := by
  refine congrArg (v.read (Elt Ideal) f) (funext fun d => Fin.ext ?_)
  fin_cases d <;> simp [LoadRect.idx, Rect.toLoadRect, Rect.unit, ix2]

/-- A block written whole. -/
theorem put_q (v : View sig κ sp S512x128 e) (f : v.ty.Contents (Elt Ideal)) (inb : ∀ d, (![0, 0] : Fin 2 → ℕ) d + (![512, 128] : Fin 2 → ℕ) d ≤ S512x128.size d) (w : S512x128.Idx → Elt Ideal e) (L : List (View.Piece (Elt Ideal) S512x128 e)) (r : Fin 512) (l : Fin 128) :
    v.read (Elt Ideal) (v.writes (Elt Ideal) f (⟨Rect.unit (s := S512x128) ![0, 0] ![512, 128] inb, w⟩ :: L)) (ix2 r l) = w (ix2 r l) :=
  View.read_writes_cons_unit_of_mem (s := S512x128) v f inb w L (ix2 r l) (ix2 r l) rfl (by intro d; fin_cases d <;> simp)

/-- A load of a whole block. -/
theorem whole_g (v : View sig κ sp S128x512 e) (f : v.ty.Contents (Elt Ideal)) (inb : ∀ d, (![0, 0] : Fin 2 → ℕ) d + (![128, 512] : Fin 2 → ℕ) d ≤ S128x512.size d) (r : Fin 128) (l : Fin 512) :
    v.readAt (Elt Ideal) (Rect.unit (s := S128x512) ![0, 0] ![128, 512] inb).toLoadRect f (ix2 r l) = v.read (Elt Ideal) f (ix2 r l) := by
  refine congrArg (v.read (Elt Ideal) f) (funext fun d => Fin.ext ?_)
  fin_cases d <;> simp [LoadRect.idx, Rect.toLoadRect, Rect.unit, ix2]

/-- A block written whole. -/
theorem put_g (v : View sig κ sp S128x512 e) (f : v.ty.Contents (Elt Ideal)) (inb : ∀ d, (![0, 0] : Fin 2 → ℕ) d + (![128, 512] : Fin 2 → ℕ) d ≤ S128x512.size d) (w : S128x512.Idx → Elt Ideal e) (L : List (View.Piece (Elt Ideal) S128x512 e)) (r : Fin 128) (l : Fin 512) :
    v.read (Elt Ideal) (v.writes (Elt Ideal) f (⟨Rect.unit (s := S128x512) ![0, 0] ![128, 512] inb, w⟩ :: L)) (ix2 r l) = w (ix2 r l) :=
  View.read_writes_cons_unit_of_mem (s := S128x512) v f inb w L (ix2 r l) (ix2 r l) rfl (by intro d; fin_cases d <;> simp)

/-- A two-half buffer written whole. -/
theorem put_1 (v : View sig κ sp S2x1x512 e) (f : v.ty.Contents (Elt Ideal)) (inb : ∀ d, (![0, 0, 0] : Fin 3 → ℕ) d + (![2, 1, 512] : Fin 3 → ℕ) d ≤ S2x1x512.size d) (w : S2x1x512.Idx → Elt Ideal e) (L : List (View.Piece (Elt Ideal) S2x1x512 e)) (h : Fin 2) (r : Fin 1) (l : Fin 512) :
    v.read (Elt Ideal) (v.writes (Elt Ideal) f (⟨Rect.unit (s := S2x1x512) ![0, 0, 0] ![2, 1, 512] inb, w⟩ :: L)) (ix3 h r l) = w (ix3 h r l) :=
  View.read_writes_cons_unit_of_mem (s := S2x1x512) v f inb w L (ix3 h r l) (ix3 h r l) rfl (by intro d; fin_cases d <;> simp)

/-- A two-half buffer written whole. -/
theorem put_128 (v : View sig κ sp S2x128x512 e) (f : v.ty.Contents (Elt Ideal)) (inb : ∀ d, (![0, 0, 0] : Fin 3 → ℕ) d + (![2, 128, 512] : Fin 3 → ℕ) d ≤ S2x128x512.size d) (w : S2x128x512.Idx → Elt Ideal e) (L : List (View.Piece (Elt Ideal) S2x128x512 e)) (h : Fin 2) (r : Fin 128) (l : Fin 512) :
    v.read (Elt Ideal) (v.writes (Elt Ideal) f (⟨Rect.unit (s := S2x128x512) ![0, 0, 0] ![2, 128, 512] inb, w⟩ :: L)) (ix3 h r l) = w (ix3 h r l) :=
  View.read_writes_cons_unit_of_mem (s := S2x128x512) v f inb w L (ix3 h r l) (ix3 h r l) rfl (by intro d; fin_cases d <;> simp)

/-- A two-half buffer written whole. -/
theorem put_512 (v : View sig κ sp S2x512x512 e) (f : v.ty.Contents (Elt Ideal)) (inb : ∀ d, (![0, 0, 0] : Fin 3 → ℕ) d + (![2, 512, 512] : Fin 3 → ℕ) d ≤ S2x512x512.size d) (w : S2x512x512.Idx → Elt Ideal e) (L : List (View.Piece (Elt Ideal) S2x512x512 e)) (h : Fin 2) (r : Fin 512) (l : Fin 512) :
    v.read (Elt Ideal) (v.writes (Elt Ideal) f (⟨Rect.unit (s := S2x512x512) ![0, 0, 0] ![2, 512, 512] inb, w⟩ :: L)) (ix3 h r l) = w (ix3 h r l) :=
  View.read_writes_cons_unit_of_mem (s := S2x512x512) v f inb w L (ix3 h r l) (ix3 h r l) rfl (by intro d; fin_cases d <;> simp)

end Reads

/-- The sum the last block completes. -/
def Col.full (z : Col) (V : Fin 512 → Fin 128 → EReal) (d : Fin 128) : EReal := z.al * z.acc d + ∑ k, V k d * z.pb k

/-- The two columns' averages, the second taken away `lam` times. -/
def mixed (lam : EReal) (y0 l0 : Fin 128 → EReal) (y1 l1 : Fin 128 → EReal) (d : Fin 128) : EReal :=
  Ideal.div (y0 d) (l0 d) - lam * Ideal.div (y1 d) (l1 d)

/-- The root mean square's reciprocal times a row, times the gain. -/
def normed (o : Fin 128 → EReal) (g : EReal) (d : Fin 128) : EReal :=
  o d * Ideal.rsqrt (Ideal.div (∑ d', o d' * o d') (Ideal.ofBits .f32 0x43000000#32) + Ideal.ofBits .f32 0x358637BD#32) * g * Ideal.ofBits .f32 0x3F24FD5C#32

/-- The second softmax's weight. -/
def lamAt (f : Fin 4 → Fin 64 → EReal) : EReal :=
  Ideal.exp (∑ e, f 0 e * f 1 e) - Ideal.exp (∑ e, f 2 e * f 3 e) + Ideal.ofBits .f32 0x3EB60549#32

variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)

/-- What the carried buffers hold before the loops. -/
def start (f4 : Bf Ideal c arg4) (f5 : Bf Ideal c arg5) : Bf Ideal c arg10 × Bf Ideal c arg11 × Bf Ideal c arg12 × Bf Ideal c arg13 × Bf Ideal c arg16 × Bf Ideal c arg18 :=
  ((arg10.view.writes (Elt Ideal) arg10.view.junk attnRun.sl.H10_1), (arg11.view.writes (Elt Ideal) arg11.view.junk attnRun.sl.H11_1), (arg12.view.writes (Elt Ideal) arg12.view.junk attnRun.sl.H12_1), (arg13.view.writes (Elt Ideal) arg13.view.junk (attnRun.sl.H13_2 c i arg4 arg5 f4 f5)), (arg16.view.writes (Elt Ideal) arg16.view.junk attnRun.sl.H16_1), (arg18.view.writes (Elt Ideal) arg18.view.junk attnRun.sl.H18_1))

/-- What they hold after both. -/
def done (f4 : Bf Ideal c arg4) (f5 : Bf Ideal c arg5) (f6 : Bf Ideal c arg6) (f7 : Bf Ideal c arg7) : Bf Ideal c arg10 × Bf Ideal c arg11 × Bf Ideal c arg12 × Bf Ideal c arg13 × Bf Ideal c arg16 × Bf Ideal c arg18 :=
  st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (start c i arg4 arg5 arg10 arg11 arg12 arg13 arg16 arg18 f4 f5) (k1_t1_loop i).trips) (k1_t3_loop i).trips

theorem done_eq (f4 : Bf Ideal c arg4) (f5 : Bf Ideal c arg5) (f6 : Bf Ideal c arg6) (f7 : Bf Ideal c arg7) : st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 ((c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips), (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips), (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips), (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips), (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips), (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips)) (k1_t3_loop i).trips = (done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7) := by
  rw [c1_10_eq, c1_11_eq, c1_12_eq, c1_13_eq, c1_16_eq, c1_18_eq]; rfl

attribute [local irreducible] st1 st3 done

theorem load98 (f4 : Bf Ideal c arg4) (f5 : Bf Ideal c arg5) (f6 : Bf Ideal c arg6) (f7 : Bf Ideal c arg7) (z : Fin 1) (r : Fin 1) (l : Fin 512) : attnRun.sl.v98 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 (ix3 z r l) = (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 0 l).al := by
  obtain rfl := Subsingleton.elim r 0
  have e := (c3_18_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) _).trans (congrArg (fun s => s.2.2.2.2.2) (done_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7))
  have e' : arg18.view.read (Elt Ideal) _ (ix3 0 0 l) = _ := congrArg (fun f => arg18.view.read (Elt Ideal) f (ix3 0 0 l)) e
  refine Eq.trans ?_ e'
  delta attnRun.sl.v98
  exact at0_1 arg18.view _ _ z 0 l

theorem load100 (f4 : Bf Ideal c arg4) (f5 : Bf Ideal c arg5) (f6 : Bf Ideal c arg6) (f7 : Bf Ideal c arg7) (z : Fin 1) (r : Fin 128) (l : Fin 512) : attnRun.sl.v100 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 (ix3 z r l) = (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 0 l).acc r := by
  skip
  have e := (c3_12_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) _).trans (congrArg (fun s => s.2.2.1) (done_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7))
  have e' : arg12.view.read (Elt Ideal) _ (ix3 0 r l) = _ := congrArg (fun f => arg12.view.read (Elt Ideal) f (ix3 0 r l)) e
  refine Eq.trans ?_ e'
  delta attnRun.sl.v100
  exact at0_128 arg12.view _ _ z r l

theorem load104 (f4 : Bf Ideal c arg4) (f5 : Bf Ideal c arg5) (f6 : Bf Ideal c arg6) (f7 : Bf Ideal c arg7) (z : Fin 1) (r : Fin 512) (l : Fin 512) : attnRun.sl.v104 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 (ix3 z r l) = (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 0 l).pb r := by
  skip
  have e := (c3_16_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) _).trans (congrArg (fun s => s.2.2.2.2.1) (done_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7))
  have e' : arg16.view.read (Elt Ideal) _ (ix3 0 r l) = _ := congrArg (fun f => arg16.view.read (Elt Ideal) f (ix3 0 r l)) e
  refine Eq.trans ?_ e'
  delta attnRun.sl.v104
  exact at0_512 arg16.view _ _ z r l

theorem load111 (f4 : Bf Ideal c arg4) (f5 : Bf Ideal c arg5) (f6 : Bf Ideal c arg6) (f7 : Bf Ideal c arg7) (z : Fin 1) (r : Fin 1) (l : Fin 512) : attnRun.sl.v111 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 (ix3 z r l) = (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 1 l).al := by
  obtain rfl := Subsingleton.elim r 0
  have e := (c3_18_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) _).trans (congrArg (fun s => s.2.2.2.2.2) (done_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7))
  have e' : arg18.view.read (Elt Ideal) _ (ix3 1 0 l) = _ := congrArg (fun f => arg18.view.read (Elt Ideal) f (ix3 1 0 l)) e
  refine Eq.trans ?_ e'
  delta attnRun.sl.v111
  exact at1_1 arg18.view _ _ z 0 l

theorem load113 (f4 : Bf Ideal c arg4) (f5 : Bf Ideal c arg5) (f6 : Bf Ideal c arg6) (f7 : Bf Ideal c arg7) (z : Fin 1) (r : Fin 128) (l : Fin 512) : attnRun.sl.v113 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 (ix3 z r l) = (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 1 l).acc r := by
  skip
  have e := (c3_12_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) _).trans (congrArg (fun s => s.2.2.1) (done_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7))
  have e' : arg12.view.read (Elt Ideal) _ (ix3 1 r l) = _ := congrArg (fun f => arg12.view.read (Elt Ideal) f (ix3 1 r l)) e
  refine Eq.trans ?_ e'
  delta attnRun.sl.v113
  exact at1_128 arg12.view _ _ z r l

theorem load117 (f4 : Bf Ideal c arg4) (f5 : Bf Ideal c arg5) (f6 : Bf Ideal c arg6) (f7 : Bf Ideal c arg7) (z : Fin 1) (r : Fin 512) (l : Fin 512) : attnRun.sl.v117 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 (ix3 z r l) = (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 1 l).pb r := by
  skip
  have e := (c3_16_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) _).trans (congrArg (fun s => s.2.2.2.2.1) (done_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7))
  have e' : arg16.view.read (Elt Ideal) _ (ix3 1 r l) = _ := congrArg (fun f => arg16.view.read (Elt Ideal) f (ix3 1 r l)) e
  refine Eq.trans ?_ e'
  delta attnRun.sl.v117
  exact at1_512 arg16.view _ _ z r l

theorem load141 (f4 : Bf Ideal c arg4) (f5 : Bf Ideal c arg5) (f6 : Bf Ideal c arg6) (f7 : Bf Ideal c arg7) (z : Fin 1) (r : Fin 1) (l : Fin 512) : attnRun.sl.v141 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 (ix3 z r l) = (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 0 l).l := by
  obtain rfl := Subsingleton.elim r 0
  have e := (c3_11_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) _).trans (congrArg (fun s => s.2.1) (done_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7))
  have e' : arg11.view.read (Elt Ideal) _ (ix3 0 0 l) = _ := congrArg (fun f => arg11.view.read (Elt Ideal) f (ix3 0 0 l)) e
  refine Eq.trans ?_ e'
  delta attnRun.sl.v141
  exact at0_1 arg11.view _ _ z 0 l

theorem load147 (f4 : Bf Ideal c arg4) (f5 : Bf Ideal c arg5) (f6 : Bf Ideal c arg6) (f7 : Bf Ideal c arg7) (z : Fin 1) (r : Fin 1) (l : Fin 512) : attnRun.sl.v147 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 (ix3 z r l) = (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 1 l).l := by
  obtain rfl := Subsingleton.elim r 0
  have e := (c3_11_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (c1_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) (c1_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (arg10.view.writes (Elt Ideal) arg10.view.junk attnRun.sl.H10_1) (arg11.view.writes (Elt Ideal) arg11.view.junk attnRun.sl.H11_1) (arg12.view.writes (Elt Ideal) arg12.view.junk attnRun.sl.H12_1) (arg13.view.writes (Elt Ideal) arg13.view.junk (attnRun.sl.H13_2 c i arg4 arg5 f4 f5)) (arg16.view.writes (Elt Ideal) arg16.view.junk attnRun.sl.H16_1) (arg18.view.writes (Elt Ideal) arg18.view.junk attnRun.sl.H18_1) (k1_t1_loop i).trips) _).trans (congrArg (fun s => s.2.1) (done_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7))
  have e' : arg11.view.read (Elt Ideal) _ (ix3 1 0 l) = _ := congrArg (fun f => arg11.view.read (Elt Ideal) f (ix3 1 0 l)) e
  refine Eq.trans ?_ e'
  delta attnRun.sl.v147
  exact at1_1 arg11.view _ _ z 0 l

/-- The queries' first half, the rest zero. -/
theorem query0 (f4 : Bf Ideal c arg4) (j : Fin 512) (e : Fin 128) : attnRun.sl.v5 c arg4 f4 (ix2 j e) = if e.val < 64 then arg4.view.read (Elt Ideal) f4 (ix2 j e) else 0 := by
  have h : IntOp.cmpi CmpIPredicate.slt (BitVec.ofNat 32 e.val) 64#32 = if e.val < 64 then 1#1 else 0#1 := (by decide +kernel : ∀ e : Fin 128, IntOp.cmpi CmpIPredicate.slt (BitVec.ofNat 32 e.val) 64#32 = if e.val < 64 then 1#1 else 0#1) e
  pointwise [col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.v2, attnRun.sl.v5, attnRun.sl.v1, attnRun.sl.cst, attnRun.sl.v3]
  rw [h]; split <;> rfl

/-- The second half. -/
theorem query1 (f4 : Bf Ideal c arg4) (j : Fin 512) (e : Fin 128) : attnRun.sl.v8 c arg4 f4 (ix2 j e) = if e.val < 64 then 0 else arg4.view.read (Elt Ideal) f4 (ix2 j e) := by
  have h : IntOp.cmpi CmpIPredicate.slt (BitVec.ofNat 32 e.val) 64#32 = if e.val < 64 then 1#1 else 0#1 := (by decide +kernel : ∀ e : Fin 128, IntOp.cmpi CmpIPredicate.slt (BitVec.ofNat 32 e.val) 64#32 = if e.val < 64 then 1#1 else 0#1) e
  pointwise [col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.v8, attnRun.sl.v2, attnRun.sl.v1, attnRun.sl.cst, attnRun.sl.v3]
  rw [h]; split <;> rfl

/-- A column before the loops. -/
theorem start0 (f4 : Bf Ideal c arg4) (f5 : Bf Ideal c arg5) (j : Fin 512) :
    col c arg10 arg11 arg12 arg13 arg16 arg18 ((start c i arg4 arg5 arg10 arg11 arg12 arg13 arg16 arg18 f4 f5)).1 ((start c i arg4 arg5 arg10 arg11 arg12 arg13 arg16 arg18 f4 f5)).2.1 ((start c i arg4 arg5 arg10 arg11 arg12 arg13 arg16 arg18 f4 f5)).2.2.1 ((start c i arg4 arg5 arg10 arg11 arg12 arg13 arg16 arg18 f4 f5)).2.2.2.1 ((start c i arg4 arg5 arg10 arg11 arg12 arg13 arg16 arg18 f4 f5)).2.2.2.2.1 ((start c i arg4 arg5 arg10 arg11 arg12 arg13 arg16 arg18 f4 f5)).2.2.2.2.2 0 j = ⟨⊥, 0, fun _ => 0, dots (krow arg5.view f5) (fun e => attnRun.sl.v5 c arg4 f4 (ix2 j e)) 0, fun _ => 0, Ideal.ofBits .f32 0x3F800000#32⟩ := by
  have o : k1_off1 i 1 = 0 := rfl
  have o' : k1_off1 i 0 = 0 := congrFun (k1_off1_eq i) 0
  ext
  case acc d => pointwise [start, dots, o, o', zero_add, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.H16_1, attnRun.sl.cst_2, attnRun.sl.cst_6, attnRun.sl.v16, attnRun.sl.v75, attnRun.sl.v9, attnRun.sl.cst_18, attnRun.sl.H11_1, attnRun.sl.H10_1, attnRun.sl.v20, attnRun.sl.v79, attnRun.sl.v24, attnRun.sl.v72, attnRun.sl.H12_1, attnRun.sl.v76, attnRun.sl.v21, attnRun.sl.v25, attnRun.sl.v28, attnRun.sl.H13_2, attnRun.sl.H18_1, attnRun.sl.v17, attnRun.sl.cst, attnRun.sl.v12, attnRun.sl.v13, attnRun.sl.cst_39]
  case sa d => pointwise [start, dots, o, o', zero_add, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.H16_1, attnRun.sl.cst_2, attnRun.sl.cst_6, attnRun.sl.v16, attnRun.sl.v75, attnRun.sl.v9, attnRun.sl.cst_18, attnRun.sl.H11_1, attnRun.sl.H10_1, attnRun.sl.v20, attnRun.sl.v79, attnRun.sl.v24, attnRun.sl.v72, attnRun.sl.H12_1, attnRun.sl.v76, attnRun.sl.v21, attnRun.sl.v25, attnRun.sl.v28, attnRun.sl.H13_2, attnRun.sl.H18_1, attnRun.sl.v17, attnRun.sl.cst, attnRun.sl.v12, attnRun.sl.v13, attnRun.sl.cst_39]
  case pb d => pointwise [start, dots, o, o', zero_add, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.H16_1, attnRun.sl.cst_2, attnRun.sl.cst_6, attnRun.sl.v16, attnRun.sl.v75, attnRun.sl.v9, attnRun.sl.cst_18, attnRun.sl.H11_1, attnRun.sl.H10_1, attnRun.sl.v20, attnRun.sl.v79, attnRun.sl.v24, attnRun.sl.v72, attnRun.sl.H12_1, attnRun.sl.v76, attnRun.sl.v21, attnRun.sl.v25, attnRun.sl.v28, attnRun.sl.H13_2, attnRun.sl.H18_1, attnRun.sl.v17, attnRun.sl.cst, attnRun.sl.v12, attnRun.sl.v13, attnRun.sl.cst_39]
  all_goals pointwise [start, dots, o, o', zero_add, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.H16_1, attnRun.sl.cst_2, attnRun.sl.cst_6, attnRun.sl.v16, attnRun.sl.v75, attnRun.sl.v9, attnRun.sl.cst_18, attnRun.sl.H11_1, attnRun.sl.H10_1, attnRun.sl.v20, attnRun.sl.v79, attnRun.sl.v24, attnRun.sl.v72, attnRun.sl.H12_1, attnRun.sl.v76, attnRun.sl.v21, attnRun.sl.v25, attnRun.sl.v28, attnRun.sl.H13_2, attnRun.sl.H18_1, attnRun.sl.v17, attnRun.sl.cst, attnRun.sl.v12, attnRun.sl.v13, attnRun.sl.cst_39]

/-- A column before the loops. -/
theorem start1 (f4 : Bf Ideal c arg4) (f5 : Bf Ideal c arg5) (j : Fin 512) :
    col c arg10 arg11 arg12 arg13 arg16 arg18 ((start c i arg4 arg5 arg10 arg11 arg12 arg13 arg16 arg18 f4 f5)).1 ((start c i arg4 arg5 arg10 arg11 arg12 arg13 arg16 arg18 f4 f5)).2.1 ((start c i arg4 arg5 arg10 arg11 arg12 arg13 arg16 arg18 f4 f5)).2.2.1 ((start c i arg4 arg5 arg10 arg11 arg12 arg13 arg16 arg18 f4 f5)).2.2.2.1 ((start c i arg4 arg5 arg10 arg11 arg12 arg13 arg16 arg18 f4 f5)).2.2.2.2.1 ((start c i arg4 arg5 arg10 arg11 arg12 arg13 arg16 arg18 f4 f5)).2.2.2.2.2 1 j = ⟨⊥, 0, fun _ => 0, dots (krow arg5.view f5) (fun e => attnRun.sl.v8 c arg4 f4 (ix2 j e)) 0, fun _ => 0, Ideal.ofBits .f32 0x3F800000#32⟩ := by
  have o : k1_off1 i 1 = 0 := rfl
  have o' : k1_off1 i 0 = 0 := congrFun (k1_off1_eq i) 0
  ext
  case acc d => pointwise [start, dots, o, o', zero_add, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.H16_1, attnRun.sl.cst_2, attnRun.sl.cst_6, attnRun.sl.v16, attnRun.sl.v75, attnRun.sl.v9, attnRun.sl.cst_18, attnRun.sl.H11_1, attnRun.sl.H10_1, attnRun.sl.v20, attnRun.sl.v79, attnRun.sl.v24, attnRun.sl.v72, attnRun.sl.H12_1, attnRun.sl.v76, attnRun.sl.v21, attnRun.sl.v25, attnRun.sl.v28, attnRun.sl.H13_2, attnRun.sl.H18_1, attnRun.sl.v17, attnRun.sl.cst, attnRun.sl.v12, attnRun.sl.v13, attnRun.sl.cst_39]
  case sa d => pointwise [start, dots, o, o', zero_add, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.H16_1, attnRun.sl.cst_2, attnRun.sl.cst_6, attnRun.sl.v16, attnRun.sl.v75, attnRun.sl.v9, attnRun.sl.cst_18, attnRun.sl.H11_1, attnRun.sl.H10_1, attnRun.sl.v20, attnRun.sl.v79, attnRun.sl.v24, attnRun.sl.v72, attnRun.sl.H12_1, attnRun.sl.v76, attnRun.sl.v21, attnRun.sl.v25, attnRun.sl.v28, attnRun.sl.H13_2, attnRun.sl.H18_1, attnRun.sl.v17, attnRun.sl.cst, attnRun.sl.v12, attnRun.sl.v13, attnRun.sl.cst_39]
  case pb d => pointwise [start, dots, o, o', zero_add, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.H16_1, attnRun.sl.cst_2, attnRun.sl.cst_6, attnRun.sl.v16, attnRun.sl.v75, attnRun.sl.v9, attnRun.sl.cst_18, attnRun.sl.H11_1, attnRun.sl.H10_1, attnRun.sl.v20, attnRun.sl.v79, attnRun.sl.v24, attnRun.sl.v72, attnRun.sl.H12_1, attnRun.sl.v76, attnRun.sl.v21, attnRun.sl.v25, attnRun.sl.v28, attnRun.sl.H13_2, attnRun.sl.H18_1, attnRun.sl.v17, attnRun.sl.cst, attnRun.sl.v12, attnRun.sl.v13, attnRun.sl.cst_39]
  all_goals pointwise [start, dots, o, o', zero_add, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, attnRun.sl.H16_1, attnRun.sl.cst_2, attnRun.sl.cst_6, attnRun.sl.v16, attnRun.sl.v75, attnRun.sl.v9, attnRun.sl.cst_18, attnRun.sl.H11_1, attnRun.sl.H10_1, attnRun.sl.v20, attnRun.sl.v79, attnRun.sl.v24, attnRun.sl.v72, attnRun.sl.H12_1, attnRun.sl.v76, attnRun.sl.v21, attnRun.sl.v25, attnRun.sl.v28, attnRun.sl.H13_2, attnRun.sl.H18_1, attnRun.sl.v17, attnRun.sl.cst, attnRun.sl.v12, attnRun.sl.v13, attnRun.sl.cst_39]

/-- The result at a place. -/
theorem attn_at (f3 : Bf Ideal c arg3) (f4 : Bf Ideal c arg4) (f5 : Bf Ideal c arg5) (f6 : Bf Ideal c arg6) (f7 : Bf Ideal c arg7) (f8 : Bf Ideal c arg8) (j : Fin 512) (d : Fin 128) :
    arg9.view.read (Elt Ideal) (attnRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8).1 (ix2 j d)
      = normed (mixed (lamAt fun r l => arg3.view.read (Elt Ideal) f3 (ix2 r l)) ((col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 0 j).full (fun k d => vcol arg6.view f6 (k1_off18 i 1 + k.val) d)) (fun _ => (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 0 j).l) ((col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 1 j).full (fun k d => vcol arg6.view f6 (k1_off18 i 1 + k.val) d)) (fun _ => (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 1 j).l))
          (arg8.view.read (Elt Ideal) f8 (ix2 d j)) d := by
  have o : k1_off18 i 0 = 0 := rfl
  change arg9.view.read (Elt Ideal) (arg9.view.writes (Elt Ideal) arg9.view.junk (attnRun.sl.H9_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8)) (ix2 j d) = _
  pointwise [o, col, Col.full, mixed, normed, lamAt, add_zero, exp2_f32, ofBits_neg, at_rows, at_cols, at_tile, hit0_1, miss0_1, cov0_1, at0_1, hit0_128, miss0_128, cov0_128, at0_128, hit0_512, miss0_512, cov0_512, at0_512, hit1_1, miss1_1, cov1_1, at1_1, hit1_128, miss1_128, cov1_128, at1_128, hit1_512, miss1_512, cov1_512, at1_512, lam0, lam1, lam2, lam3, whole_q, whole_g, put_q, put_g, put_1, put_128, put_512, load98, load100, load104, load111, load113, load117, load141, load147, attnRun.sl.v51, attnRun.sl.v88, attnRun.sl.v33, attnRun.sl.v19, attnRun.sl.v127, attnRun.sl.v126, attnRun.sl.v99, attnRun.sl.v29, attnRun.sl.H9_1, attnRun.sl.v162, attnRun.sl.v62, attnRun.sl.cst_109, attnRun.sl.v46, attnRun.sl.v135, attnRun.sl.v161, attnRun.sl.v167, attnRun.sl.v32, attnRun.sl.v116, attnRun.sl.v74, attnRun.sl.v106, attnRun.sl.v163, attnRun.sl.v11, attnRun.sl.v155, attnRun.sl.v168, attnRun.sl.v83, attnRun.sl.v102, attnRun.sl.v132, attnRun.sl.v156, attnRun.sl.v84, attnRun.sl.v131, attnRun.sl.v96, attnRun.sl.v78, attnRun.sl.v50, attnRun.sl.v82, attnRun.sl.v35, attnRun.sl.v149, attnRun.sl.v138, attnRun.sl.v87, attnRun.sl.v137, attnRun.sl.v90, attnRun.sl.cst_94, attnRun.sl.r_1, attnRun.sl.v170, attnRun.sl.v42, attnRun.sl.v144, attnRun.sl.v2, attnRun.sl.v34, attnRun.sl.v148, attnRun.sl.v160, attnRun.sl.v85, attnRun.sl.v112, attnRun.sl.v65, attnRun.sl.v80, attnRun.sl.v157, attnRun.sl.v119, attnRun.sl.v120, attnRun.sl.v150, attnRun.sl.v45, attnRun.sl.v49, attnRun.sl.H12_2, attnRun.sl.v145, attnRun.sl.v159, attnRun.sl.v27, attnRun.sl.v86, attnRun.sl.v30, attnRun.sl.v140, attnRun.sl.v91, attnRun.sl.v158, attnRun.sl.v154, attnRun.sl.v139, attnRun.sl.v143, attnRun.sl.v133, attnRun.sl.v142, attnRun.sl.v61, attnRun.sl.v89, attnRun.sl.v48, attnRun.sl.v93, attnRun.sl.v115, attnRun.sl.v152, attnRun.sl.v23, attnRun.sl.v15, attnRun.sl.cst_112, attnRun.sl.v60, attnRun.sl.r_2, attnRun.sl.v92, attnRun.sl.v94, attnRun.sl.v169, attnRun.sl.v146, attnRun.sl.v44, attnRun.sl.cst_107, attnRun.sl.v103, attnRun.sl.v166, attnRun.sl.cst_90, attnRun.sl.v101, attnRun.sl.v68, attnRun.sl.r, attnRun.sl.v128, attnRun.sl.cst_108, attnRun.sl.v153, attnRun.sl.v118, attnRun.sl.v64, attnRun.sl.v136, attnRun.sl.v1, attnRun.sl.cst_69, attnRun.sl.v107, attnRun.sl.v31, attnRun.sl.v123, attnRun.sl.v54, attnRun.sl.v151, attnRun.sl.v134, attnRun.sl.v114, attnRun.sl.v81, attnRun.sl.v47, attnRun.sl.v63, attnRun.sl.v110, attnRun.sl.v53, attnRun.sl.v67, attnRun.sl.v77, attnRun.sl.v3, attnRun.sl.v52, attnRun.sl.v105, attnRun.sl.v41, attnRun.sl.v165, attnRun.sl.v43, attnRun.sl.v70]

end Cert.KernelIdeal.Attn
-- ==== Proof.IdealScore.lean ====
/-
  The scores of one query over real arrays, and that the kernel's blocks of products with their bias tiles are these. (The idealized program.)
-/
module

public import proofs.«01_k».proof.Proof.IdealAttn
public import proofs.«01_k».proof.Proof.IdealTiles

@[expose] public section

set_option maxRecDepth 16384

noncomputable section

namespace Cert.KernelIdeal.Attn

open Cert.KernelIdeal Cert.KernelIdeal.Gen Cert.Column
open Idealize.ShloMosaic Idealize.ShloMosaic.TcCoe
open scoped BigOperators

/-- The score of the query at place `q` with the key at place `p`. -/
def score (K : ℕ → Fin 128 → ℝ) (y : Fin 128 → ℝ) (rb : ℕ → ℝ) (q p : ℕ) : ℝ := (∑ e, K p e * y e) * Real.log 2 + rb (bucket (q - p))

/-- A bias tile's entry over a real table. -/
def tileR (rb : ℕ → ℝ) (t r l : ℕ) : EReal :=
  if t = 0 then 0
  else if t = 1 then (((rb (bucket (512 + l - r)) - rb 31) * (Real.log 2)⁻¹ : ℝ) : EReal)
  else if t = 2 then if r ≤ l then (((rb (bucket (l - r)) - rb 31) * (Real.log 2)⁻¹ : ℝ) : EReal) else ⊥
  else ⊥

theorem bucket_far {d : ℕ} (h : 113 ≤ d) : bucket d = 31 := by
  unfold bucket
  rw [if_neg (by omega), if_pos (by omega), if_pos (by omega), if_pos (by omega), if_pos (by omega), if_pos (by omega), if_pos (by omega), if_pos (by omega), if_pos (by omega), if_pos (by omega), if_pos (by omega), if_pos (by omega), if_pos (by omega), if_pos (by omega), if_pos (by omega), if_pos (by omega)]

variable {K : ℕ → Fin 128 → EReal} {kr : ℕ → Fin 128 → ℝ} {y : Fin 128 → ℝ} {rb : ℕ → ℝ} {B : ℕ → Fin 512 → Fin 512 → EReal}

theorem dots_real (hK : ∀ p, p < 8192 → ∀ e, K p e = (kr p e : EReal)) (o : ℕ) (k : Fin 512) (h : o + k.val < 8192) :
    dots K (fun e => (y e : EReal)) o k = ((∑ e, kr (o + k.val) e * y e : ℝ) : EReal) := by
  unfold dots
  rw [coe_sum]
  exact Finset.sum_congr rfl fun e _ => by rw [hK _ h, EReal.coe_mul]

/-- What the score is above the far bias, in units of the base two exponent. -/
theorem above (rb : ℕ → ℝ) (q p : ℕ) : (score kr y rb q p - rb 31) * (Real.log 2)⁻¹
    = (∑ e, kr p e * y e) + (rb (bucket (q - p)) - rb 31) * (Real.log 2)⁻¹ := by
  have hl : Real.log 2 ≠ 0 := (Real.log_pos (by norm_num)).ne'
  unfold score
  field_simp
  ring

theorem score_far (hK : ∀ p, p < 8192 → ∀ e, K p e = (kr p e : EReal)) (qi : ℕ) (hqi : qi < 16) (j : Fin 512) (b : ℕ) (hb : b + 2 ≤ qi) (k : Fin 512) :
    dots K (fun e => (y e : EReal)) (512 * min qi b) k
      = sc (fun b k => b * 512 + k.val ≤ qi * 512 + j.val) (fun b k => (score kr y rb (qi * 512 + j.val) (b * 512 + k.val) - rb 31) * (Real.log 2)⁻¹) b k := by
  have hk := k.isLt
  have hm : 512 * min qi b = b * 512 := by rw [Nat.min_eq_right (by omega), Nat.mul_comm]
  rw [hm, dots_real hK _ _ (by omega)]
  unfold sc
  rw [if_pos (by omega)]; beta_reduce; rw [above, bucket_far (by omega), sub_self, zero_mul, add_zero]

theorem score_near (hK : ∀ p, p < 8192 → ∀ e, K p e = (kr p e : EReal)) (hB : ∀ t, t < 4 → ∀ r l, B t r l = tileR rb t r.val l.val)
    (qi : ℕ) (hqi : qi < 16) (j : Fin 512) (b : ℕ) (h1 : qi ≤ b + 2) (h2 : b ≤ qi + 1) (k : Fin 512) :
    dots K (fun e => (y e : EReal)) (512 * min qi b) k + B (min 3 (b + 2 - qi)) k j
      = sc (fun b k => b * 512 + k.val ≤ qi * 512 + j.val) (fun b k => (score kr y rb (qi * 512 + j.val) (b * 512 + k.val) - rb 31) * (Real.log 2)⁻¹) b k := by
  have hk := k.isLt
  have hj := j.isLt
  rw [dots_real hK _ _ (by omega), hB _ (by omega)]
  rcases (by omega : b + 2 = qi ∨ b + 1 = qi ∨ b = qi ∨ b = qi + 1) with h | h | h | h
  · rw [show min 3 (b + 2 - qi) = 0 by omega, show 512 * min qi b = b * 512 by rw [Nat.min_eq_right (by omega), Nat.mul_comm]]
    unfold tileR sc
    rw [if_pos rfl, if_pos (by omega)]; beta_reduce; rw [above, bucket_far (by omega), sub_self, zero_mul, add_zero, add_zero]
  · rw [show min 3 (b + 2 - qi) = 1 by omega, show 512 * min qi b = b * 512 by rw [Nat.min_eq_right (by omega), Nat.mul_comm]]
    unfold tileR sc
    rw [if_neg (by omega), if_pos rfl, if_pos (by omega)]; beta_reduce; rw [above, ← EReal.coe_add, show qi * 512 + j.val - (b * 512 + k.val) = 512 + j.val - k.val by omega]
  · rw [show min 3 (b + 2 - qi) = 2 by omega, show 512 * min qi b = b * 512 by rw [Nat.min_eq_right (by omega), Nat.mul_comm]]
    unfold tileR sc
    rw [if_neg (by omega), if_neg (by omega), if_pos rfl]
    by_cases hc : k.val ≤ j.val
    · rw [if_pos hc, if_pos (by omega)]; beta_reduce; rw [above, ← EReal.coe_add, show qi * 512 + j.val - (b * 512 + k.val) = j.val - k.val by omega]
    · rw [if_neg hc, if_neg (by omega), EReal.add_bot]
  · rw [show min 3 (b + 2 - qi) = 3 by omega]
    unfold tileR sc
    rw [if_neg (by omega), if_neg (by omega), if_neg (by omega), if_neg (by omega), EReal.add_bot]

/-- A column after its last block holds the softmax's average. -/
theorem Inv.ratio {S : ℕ → Fin 512 → EReal} {V : ℕ → Fin 512 → Fin 128 → EReal} {z : Col} (s : ℕ → ℝ) (far : ℝ) (vr : ℕ → Fin 128 → ℝ) (q p : ℕ)
    (hq : q < 2 * p * 512) (hn : q < 8192)
    (h : Inv S V (fun b k => b * 512 + k.val ≤ q) (fun b k => (s (b * 512 + k.val) - far) * (Real.log 2)⁻¹) (fun d b k => vr (b * 512 + k.val) d) p z) (d : Fin 128) :
    Ideal.div (z.full (V (2 * p - 1)) d) z.l = ((tot q s (fun p => vr p d) / tot q s fun _ => 1 : ℝ) : EReal) :=
  (Run.ratio q (2 * p) hq hn far s (fun p => vr p d) h.l (h.acc d)).1

/-- A column before its first block. -/
theorem Inv.start {S : ℕ → Fin 512 → EReal} {V : ℕ → Fin 512 → Fin 128 → EReal} {c : ℕ → Fin 512 → Prop} [∀ b k, Decidable (c b k)] {x : ℕ → Fin 512 → ℝ}
    {w : Fin 128 → ℕ → Fin 512 → ℝ} {al : EReal} {sa : Fin 512 → EReal} (hs : sa = S 0) : Inv S V c x w 0 ⟨⊥, 0, fun _ => 0, sa, fun _ => 0, al⟩ where
  l := Or.inl ⟨rfl, rfl, rfl⟩
  acc d := Or.inl ⟨rfl, rfl, by simp⟩
  sa := hs

end Cert.KernelIdeal.Attn
-- ==== Proof.IdealEnd.lean ====
/-
  The attention's body over real blocks: at each place of its result, the two softmax averages mixed, normalised and scaled.
  (The idealized program.)
-/
module
public import proofs.«01_k».proof.Proof.IdealScore

@[expose] public section

set_option maxRecDepth 16384

noncomputable section

namespace Cert.KernelIdeal.Attn

open Cert.KernelIdeal Cert.KernelIdeal.Gen Cert.Column
open Idealize.ShloMosaic Idealize.ShloMosaic.TcCoe

/-- Where the last block of values lies. -/
theorem last_offset (i : grid1.Coords) : k1_off18 i 1 = 512 * min (i 2).val (2 * (((i 2).val + 2) / 2) - 1) := by
  have h : ∀ j : Fin 16, ∀ (i : grid1.Coords), i 2 = j → k1_off18 i 1 = 512 * min j.val (2 * ((j.val + 2) / 2) - 1) := by
    intro j i hi; unfold k1_off18; rw [hi]; clear hi i; revert j; decide +kernel
  exact h _ i rfl

/-- A query's half of its row, zero in the other half. -/
def half (mi : Fin 2) (y : Fin 128 → ℝ) (e : Fin 128) : ℝ := if (e.val < 64 ↔ mi = 0) then y e else 0

/-- The softmax's average of column `d` of the values. -/
def avg (kr vr : ℕ → Fin 128 → ℝ) (y : Fin 128 → ℝ) (rb : ℕ → ℝ) (q : ℕ) (d : Fin 128) : ℝ :=
  tot q (score kr y rb q) (fun p => vr p d) / tot q (score kr y rb q) fun _ => 1

attribute [local irreducible] st1 st3 done start

variable (c : Dev nD) (i : grid1.Coords) (arg3 : Memref sig .tc .vmem S4x64 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S128x8192 .bf16) (harg6 : arg6.IsWhole) (arg7 : Memref sig .tc .vmem S1x4x512x512 .f32) (harg7 : arg7.IsWhole) (arg8 : Memref sig .tc .vmem S128x512 .f32) (harg8 : arg8.IsWhole) (arg9 : Memref sig .tc .vmem S512x128 .bf16) (harg9 : arg9.IsWhole) (arg10 : Memref sig .tc .vmem S2x1x512 .f32) (harg10 : arg10.IsWhole) (arg11 : Memref sig .tc .vmem S2x1x512 .f32) (harg11 : arg11.IsWhole) (arg12 : Memref sig .tc .vmem S2x128x512 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S2x1x512 .f32) (harg17 : arg17.IsWhole) (arg18 : Memref sig .tc .vmem S2x1x512 .f32) (harg18 : arg18.IsWhole)

section

variable (f3 : Bf Ideal c arg3) (f4 : Bf Ideal c arg4) (f5 : Bf Ideal c arg5) (f6 : Bf Ideal c arg6) (f7 : Bf Ideal c arg7) (f8 : Bf Ideal c arg8) (j : Fin 512)
  (qr : Fin 128 → ℝ) (kr vr : ℕ → Fin 128 → ℝ) (rb : ℕ → ℝ)
  (h4 : ∀ e, arg4.view.read (Elt Ideal) f4 (ix2 j e) = (qr e : EReal))
  (h5 : ∀ p (h : p < 8192) e, arg5.view.read (Elt Ideal) f5 (ix2 ⟨p, h⟩ e) = (kr p e : EReal))
  (h6 : ∀ p (h : p < 8192) d, arg6.view.read (Elt Ideal) f6 (ix2 d ⟨p, h⟩) = (vr p d : EReal))
  (h7 : ∀ t (h : t < 4) r l, arg7.view.read (Elt Ideal) f7 (ix4 0 ⟨t, h⟩ r l) = tileR rb t r.val l.val)

include h4 h5 h6 h7

/-- Column `(0, j)` when the loops are over. -/
theorem left0 : Inv (fun b => dots (krow arg5.view f5) (fun e => (half 0 qr e : EReal)) (512 * min (i 2).val b)) (fun b k => vcol arg6.view f6 (512 * min (i 2).val b + k.val))
    (fun b k => b * 512 + k.val ≤ (i 2).val * 512 + j.val)
    (fun b k => (score kr (half 0 qr) rb ((i 2).val * 512 + j.val) (b * 512 + k.val) - rb 31) * (Real.log 2)⁻¹) (fun d b k => vr (b * 512 + k.val) d)
    (((i 2).val + 2) / 2) (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 0 j) := by
  have hqi : (i 2).val < 16 := (i 2).isLt
  have hj := j.isLt
  have hqv : (fun e => (half 0 qr e : EReal)) = fun e => attnRun.sl.v5 c arg4 f4 (ix2 j e) := funext fun e => by
    rw [query0, h4]; unfold half; by_cases he : e.val < 64 <;> simp [he]
  have hK : ∀ p, p < 8192 → ∀ e, krow arg5.view f5 p e = (kr p e : EReal) := fun p hp e => (dif_pos hp).trans (h5 p hp e)
  have hB : ∀ t, t < 4 → ∀ r l, btile arg7.view f7 t r l = tileR rb t r.val l.val := fun t ht r l => (dif_pos ht).trans (h7 t ht r l)
  have hV : ∀ b (k : Fin 512) d, b * 512 + k.val ≤ (i 2).val * 512 + j.val → vcol arg6.view f6 (512 * min (i 2).val b + k.val) d = (vr (b * 512 + k.val) d : EReal) := fun b k d hc => by
    have hk := k.isLt
    rw [show 512 * min (i 2).val b = b * 512 by rw [Nat.min_eq_right (by omega), Nat.mul_comm]]
    exact (dif_pos (by omega)).trans (h6 _ (by omega) d)
  have h0 : ∃ k : Fin 512, 0 * 512 + k.val ≤ (i 2).val * 512 + j.val := ⟨0, by simp⟩
  have s1 := inv1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (start c i arg4 arg5 arg10 arg11 arg12 arg13 arg16 arg18 f4 f5) 0 j
    (fun e => (half 0 qr e : EReal)) (Or.inl ⟨rfl, hqv⟩)
    (fun b k => b * 512 + k.val ≤ (i 2).val * 512 + j.val)
    (fun b k => (score kr (half 0 qr) rb ((i 2).val * 512 + j.val) (b * 512 + k.val) - rb 31) * (Real.log 2)⁻¹) (fun d b k => vr (b * 512 + k.val) d) h0 hV
    (fun b hb k => score_far hK (i 2).val hqi j b hb k)
    (by rw [start0]; exact Inv.start (by beta_reduce; rw [hqv, Nat.min_eq_right (Nat.zero_le _), Nat.mul_zero])) (k1_t1_loop i).trips le_rfl
  have s3 := inv3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (start c i arg4 arg5 arg10 arg11 arg12 arg13 arg16 arg18 f4 f5) (k1_t1_loop i).trips) 0 j
    (fun e => (half 0 qr e : EReal)) (Or.inl ⟨rfl, hqv⟩)
    (fun b k => b * 512 + k.val ≤ (i 2).val * 512 + j.val)
    (fun b k => (score kr (half 0 qr) rb ((i 2).val * 512 + j.val) (b * 512 + k.val) - rb 31) * (Real.log 2)⁻¹) (fun d b k => vr (b * 512 + k.val) d) h0 hV
    (fun b h1 h2 k => score_near hK hB (i 2).val hqi j b h1 h2 k)
    (by rw [← trips_far i]; exact s1) (k1_t3_loop i).trips le_rfl
  rw [show ((i 2).val - 1) / 2 + (k1_t3_loop i).trips = ((i 2).val + 2) / 2 by rw [trips_near]; omega] at s3
  delta done
  exact s3

/-- Column `(1, j)` when the loops are over. -/
theorem left1 : Inv (fun b => dots (krow arg5.view f5) (fun e => (half 1 qr e : EReal)) (512 * min (i 2).val b)) (fun b k => vcol arg6.view f6 (512 * min (i 2).val b + k.val))
    (fun b k => b * 512 + k.val ≤ (i 2).val * 512 + j.val)
    (fun b k => (score kr (half 1 qr) rb ((i 2).val * 512 + j.val) (b * 512 + k.val) - rb 31) * (Real.log 2)⁻¹) (fun d b k => vr (b * 512 + k.val) d)
    (((i 2).val + 2) / 2) (col c arg10 arg11 arg12 arg13 arg16 arg18 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.1 ((done c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7)).2.2.2.2.2 1 j) := by
  have hqi : (i 2).val < 16 := (i 2).isLt
  have hj := j.isLt
  have hqv : (fun e => (half 1 qr e : EReal)) = fun e => attnRun.sl.v8 c arg4 f4 (ix2 j e) := funext fun e => by
    rw [query1, h4]; unfold half; by_cases he : e.val < 64 <;> simp [he]
  have hK : ∀ p, p < 8192 → ∀ e, krow arg5.view f5 p e = (kr p e : EReal) := fun p hp e => (dif_pos hp).trans (h5 p hp e)
  have hB : ∀ t, t < 4 → ∀ r l, btile arg7.view f7 t r l = tileR rb t r.val l.val := fun t ht r l => (dif_pos ht).trans (h7 t ht r l)
  have hV : ∀ b (k : Fin 512) d, b * 512 + k.val ≤ (i 2).val * 512 + j.val → vcol arg6.view f6 (512 * min (i 2).val b + k.val) d = (vr (b * 512 + k.val) d : EReal) := fun b k d hc => by
    have hk := k.isLt
    rw [show 512 * min (i 2).val b = b * 512 by rw [Nat.min_eq_right (by omega), Nat.mul_comm]]
    exact (dif_pos (by omega)).trans (h6 _ (by omega) d)
  have h0 : ∃ k : Fin 512, 0 * 512 + k.val ≤ (i 2).val * 512 + j.val := ⟨0, by simp⟩
  have s1 := inv1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (start c i arg4 arg5 arg10 arg11 arg12 arg13 arg16 arg18 f4 f5) 1 j
    (fun e => (half 1 qr e : EReal)) (Or.inr ⟨rfl, hqv⟩)
    (fun b k => b * 512 + k.val ≤ (i 2).val * 512 + j.val)
    (fun b k => (score kr (half 1 qr) rb ((i 2).val * 512 + j.val) (b * 512 + k.val) - rb 31) * (Real.log 2)⁻¹) (fun d b k => vr (b * 512 + k.val) d) h0 hV
    (fun b hb k => score_far hK (i 2).val hqi j b hb k)
    (by rw [start1]; exact Inv.start (by beta_reduce; rw [hqv, Nat.min_eq_right (Nat.zero_le _), Nat.mul_zero])) (k1_t1_loop i).trips le_rfl
  have s3 := inv3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) (attnRun.sl.v65 i) f5 f6 f7 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑(i 2)) (attnRun.sl.v5 c arg4 f4) (attnRun.sl.v8 c arg4 f4) f5 f6 (start c i arg4 arg5 arg10 arg11 arg12 arg13 arg16 arg18 f4 f5) (k1_t1_loop i).trips) 1 j
    (fun e => (half 1 qr e : EReal)) (Or.inr ⟨rfl, hqv⟩)
    (fun b k => b * 512 + k.val ≤ (i 2).val * 512 + j.val)
    (fun b k => (score kr (half 1 qr) rb ((i 2).val * 512 + j.val) (b * 512 + k.val) - rb 31) * (Real.log 2)⁻¹) (fun d b k => vr (b * 512 + k.val) d) h0 hV
    (fun b h1 h2 k => score_near hK hB (i 2).val hqi j b h1 h2 k)
    (by rw [← trips_far i]; exact s1) (k1_t3_loop i).trips le_rfl
  rw [show ((i 2).val - 1) / 2 + (k1_t3_loop i).trips = ((i 2).val + 2) / 2 by rw [trips_near]; omega] at s3
  delta done
  exact s3

/-- The result at a place. -/
theorem attn_real (L : ℝ) (hL : lamAt (fun r l => arg3.view.read (Elt Ideal) f3 (ix2 r l)) = (L : EReal)) (d : Fin 128) :
    arg9.view.read (Elt Ideal) (attnRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8).1 (ix2 j d)
      = normed (fun d => ((avg kr vr (half 0 qr) rb ((i 2).val * 512 + j.val) d - L * avg kr vr (half 1 qr) rb ((i 2).val * 512 + j.val) d : ℝ) : EReal))
          (arg8.view.read (Elt Ideal) f8 (ix2 d j)) d := by
  have hqi : (i 2).val < 16 := (i 2).isLt
  have hj := j.isLt
  refine (attn_at c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 j d).trans ?_
  refine congrArg (fun o => normed o _ d) (funext fun d' => ?_)
  unfold mixed
  rw [hL, last_offset]
  have e0 := (left0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 j qr kr vr rb h4 h5 h6 h7).ratio (score kr (half 0 qr) rb ((i 2).val * 512 + j.val)) (rb 31) vr _ _ (by omega) (by omega) d'
  have e1 := (left1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f6 f7 j qr kr vr rb h4 h5 h6 h7).ratio (score kr (half 1 qr) rb ((i 2).val * 512 + j.val)) (rb 31) vr _ _ (by omega) (by omega) d'
  rw [e0, e1]
  unfold avg
  rw [EReal.coe_sub, EReal.coe_mul]

end

end Cert.KernelIdeal.Attn
-- ==== Proof.IdealResult.lean ====
/-
  The joined program's result over real arrays, entry by entry. (The idealized program.)
-/
module

public import proofs.«01_k».proof.Proof.IdealArrays
public import proofs.«01_k».proof.Proof.IdealEnd
public import Idealize.ShloMosaic.Lib.Claim
public import Idealize.ShloMosaic.Lib.Pointwise

@[expose] public section

set_option maxRecDepth 16384

noncomputable section

namespace Cert.KernelIdeal.Attn

open Cert.KernelIdeal Cert.KernelIdeal.Gen Cert.Column
open Idealize.ShloMosaic Idealize.ShloMosaic.TcCoe Idealize.ShloMosaic.Tactic
open Idealize.ShloMosaic.Pipeline (Dat)
open scoped BigOperators

/-- Head `h`'s average for the query at place `q` of sequence `b`, by half `mi` of its row. -/
def head (Q K V R : ℕ → ℕ → ℝ) (b h q : ℕ) (mi : Fin 2) (d : Fin 128) : ℝ :=
  avg (fun p e => K (b * 8192 + p) (h * 128 + e.val)) (fun p d => V (h * 128 + d.val) (b * 8192 + p)) (half mi fun e => Q (b * 8192 + q) (h * 128 + e.val))
    (fun n => R n h) q d

/-- The result's entry for sequence `b`, place `q`, head `h` and place `d` of its values. -/
def resAt (Q K V R : ℕ → ℕ → ℝ) (L : ℝ) (g : Fin 128 → EReal) (b h q : ℕ) (d : Fin 128) : EReal :=
  normed (fun d => ((head Q K V R b h q 0 d - L * head Q K V R b h q 1 d : ℝ) : EReal)) (g d) d

variable (m : (ℓ : Loc nD τ sig) → Buf (Elt Ideal) ℓ) (c : Dev nD)

theorem blk_lam (t : Fin cfg1.N) : blk1 (E1 m) c 0 t = m ((c : Thread nD τ).loc main_arg4) := by
  rw [← E1_arg m c main_arg4 (by decide) (by decide)]
  funext y
  blk_ext [blk1, idx1 t]

theorem blk_q (t : Fin cfg1.N) (j : Fin 512) (e : Fin 128) : (show S512x128.Idx → EReal from blk1 (E1 m) c 1 t) (ix2 j e)
    = (show S16384x1024.Idx → EReal from m ((c : Thread nD τ).loc main_arg0)) (ix2 ⟨((grid1.coords t 0).val * 16 + (grid1.coords t 2).val) * 512 + j.val, by have := idx1 t; omega⟩ ⟨(grid1.coords t 1).val * 128 + e.val, by have := idx1 t; omega⟩) := by
  rw [← E1_arg m c main_arg0 (by decide) (by decide)]
  blk_ext [blk1, idx1 t]

theorem blk_k (t : Fin cfg1.N) (p : Fin 8192) (e : Fin 128) : (show S8192x128.Idx → EReal from blk1 (E1 m) c 2 t) (ix2 p e)
    = (show S16384x1024.Idx → EReal from m ((c : Thread nD τ).loc main_arg1)) (ix2 ⟨(grid1.coords t 0).val * 8192 + p.val, by have := idx1 t; omega⟩ ⟨(grid1.coords t 1).val * 128 + e.val, by have := idx1 t; omega⟩) := by
  rw [← E1_arg m c main_arg1 (by decide) (by decide)]
  blk_ext [blk1, idx1 t]

theorem blk_v (t : Fin cfg1.N) (p : Fin 8192) (d : Fin 128) : (show S128x8192.Idx → EReal from blk1 (E1 m) c 3 t) (ix2 d p)
    = (show S1024x16384.Idx → EReal from m ((c : Thread nD τ).loc main_arg2)) (ix2 ⟨(grid1.coords t 1).val * 128 + d.val, by have := idx1 t; omega⟩ ⟨(grid1.coords t 0).val * 8192 + p.val, by have := idx1 t; omega⟩) := by
  rw [← E1_arg m c main_arg2 (by decide) (by decide)]
  blk_ext [blk1, idx1 t]

theorem blk_b (t : Fin cfg1.N) (n : Fin 4) (r l : Fin 512) : (show S1x4x512x512.Idx → EReal from blk1 (E1 m) c 4 t) (ix4 0 n r l)
    = tileAt (m ((c : Thread nD τ).loc main_arg3)) (grid1.coords t 1).val n.val r.val l.val := by
  have e : E1 m c main_v0 = fun y : S8x4x512x512.Idx => tileAt (m ((c : Thread nD τ).loc main_arg3)) (y 0).val (y 1).val (y 2).val (y 3).val :=
    (E1_of m c main_v0 (by decide)).trans ((X0_out m c).trans (tiles_eq m c))
  have e' : (show S1x4x512x512.Idx → EReal from blk1 (E1 m) c 4 t) (ix4 0 n r l)
    = (show S8x4x512x512.Idx → EReal from E1 m c main_v0) (ix4 ⟨(grid1.coords t 1).val, by have := idx1 t; omega⟩ n r l) := by
    blk_ext [blk1, idx1 t]
  rw [e', e]
  rfl

theorem gain_eq (d : Fin 128) (j : Fin 512) : (show S128x512.Idx → EReal from E1 m c main_v2) (ix2 d j) = (show S128.Idx → EReal from m ((c : Thread nD τ).loc main_arg5)) (ix1 d) := by
  have h5 : U1 m c main_arg5 = m ((c : Thread nD τ).loc main_arg5) := X0_ne m c main_arg5 (by decide)
  show (show S128x512.Idx → EReal from StableHlo.after hostOps1 (U1 m c) main_v2) (ix2 d j) = _
  entry_read
  pointwise
  exact congrFun h5 (ix1 d)

theorem blk_g (t : Fin cfg1.N) (d : Fin 128) (j : Fin 512) : (show S128x512.Idx → EReal from blk1 (E1 m) c 5 t) (ix2 d j)
    = (show S128.Idx → EReal from m ((c : Thread nD τ).loc main_arg5)) (ix1 d) := by
  rw [← gain_eq m c d j]
  blk_ext [blk1, idx1 t]

section

variable (Q K V R : ℕ → ℕ → ℝ) (L : ℝ)
  (hQ : ∀ (r : Fin 16384) (e : Fin 1024), (show S16384x1024.Idx → EReal from m ((c : Thread nD τ).loc main_arg0)) (ix2 r e) = (Q r.val e.val : EReal))
  (hK : ∀ (r : Fin 16384) (e : Fin 1024), (show S16384x1024.Idx → EReal from m ((c : Thread nD τ).loc main_arg1)) (ix2 r e) = (K r.val e.val : EReal))
  (hV : ∀ (d : Fin 1024) (p : Fin 16384), (show S1024x16384.Idx → EReal from m ((c : Thread nD τ).loc main_arg2)) (ix2 d p) = (V d.val p.val : EReal))
  (hR : ∀ (n : Fin 32) (h : Fin 8), (show S32x8.Idx → EReal from m ((c : Thread nD τ).loc main_arg3)) (ix2 n h) = (R n.val h.val : EReal))
  (hL : lamAt (fun r l => (show S4x64.Idx → EReal from m ((c : Thread nD τ).loc main_arg4)) (ix2 r l)) = (L : EReal))

include hR in
theorem tile_real (h : ℕ) (hh : h < 8) (n r l : ℕ) : tileAt (m ((c : Thread nD τ).loc main_arg3)) h n r l = tileR (fun n => R n h) n r l := by
  have e : ∀ b, b < 32 → table (m ((c : Thread nD τ).loc main_arg3)) b h = (R b h : EReal) := fun b hb =>
    (dif_pos ⟨hb, hh⟩).trans (hR ⟨b, hb⟩ ⟨h, hh⟩)
  have e31 := e 31 (by norm_num)
  have b1 := e (bucket (512 + l - r)) (by have := bucket_le (512 + l - r); omega)
  have b2 := e (bucket (l - r)) (by have := bucket_le (l - r); omega)
  unfold tileAt tileR
  rw [b1, b2, e31]
  simp only [EReal.coe_mul, EReal.coe_sub]

include hQ hK hV hR hL in
theorem out1_eq (t : Fin cfg1.N) (j : Fin 512) (d : Fin 128) : out1 (E1 m) c t (ix2 j d)
    = resAt Q K V R L (fun d => (show S128.Idx → EReal from m ((c : Thread nD τ).loc main_arg5)) (ix1 d)) (grid1.coords t 0).val (grid1.coords t 1).val
        ((grid1.coords t 2).val * 512 + j.val) d := by
  have hi := (idx1 t).2.2.2.2.2.2.2
  have hh := hi.2.1
  unfold out1 resAt head
  refine (attn_real c (grid1.coords t) _ _ _ _ _ _ _ _ _ _ _ _ _ _ _ _ _ _ _ _ _ _ _ _ _ _ _ _ _ _ _ _ _ _ _ _ _ _ j
    (fun e => Q ((grid1.coords t 0).val * 8192 + ((grid1.coords t 2).val * 512 + j.val)) ((grid1.coords t 1).val * 128 + e.val))
    (fun p e => K ((grid1.coords t 0).val * 8192 + p) ((grid1.coords t 1).val * 128 + e.val))
    (fun p d => V ((grid1.coords t 1).val * 128 + d.val) ((grid1.coords t 0).val * 8192 + p))
    (fun n => R n (grid1.coords t 1).val) ?_ ?_ ?_ ?_ L ?_ d).trans ?_
  · intro e
    rw [Memref.IsWhole.read_unread, show (grid1.coords t 0).val * 8192 + ((grid1.coords t 2).val * 512 + j.val) = ((grid1.coords t 0).val * 16 + (grid1.coords t 2).val) * 512 + j.val by omega]
    exact (blk_q m c t j e).trans (hQ _ _)
  · intro p hp e
    rw [Memref.IsWhole.read_unread]
    exact (blk_k m c t ⟨p, hp⟩ e).trans (hK _ _)
  · intro p hp e
    rw [Memref.IsWhole.read_unread]
    exact (blk_v m c t ⟨p, hp⟩ e).trans (hV _ _)
  · intro n hn r l
    rw [Memref.IsWhole.read_unread]
    exact (blk_b m c t ⟨n, hn⟩ r l).trans (tile_real m c R hR _ hh _ _ _)
  · rw [Memref.IsWhole.read_unread, blk_lam]
    exact hL
  · rw [Memref.IsWhole.read_unread]
    exact congrArg (fun g => normed _ g d) (blk_g m c t d j)

include hQ hK hV hR hL in
theorem result_eq : result m c = fun y : S16384x1024.Idx =>
    resAt Q K V R L (fun d => (show S128.Idx → EReal from m ((c : Thread nD τ).loc main_arg5)) (ix1 d)) ((y 0).val / 8192) ((y 1).val / 128) ((y 0).val % 8192)
      ⟨(y 1).val % 128, Nat.mod_lt _ (by norm_num)⟩ := by
  refine (dat1 (E1 m) c).arrAt_eq_of_covers 6 _ (by decide +kernel) fun t _ y => ?_
  obtain ⟨j, d, rfl⟩ : ∃ (j : Fin 512) (d : Fin 128), y = ix2 j d := ⟨y 0, y 1, by funext a; fin_cases a <;> rfl⟩
  have hi := (idx1 t).2.2.2.2.2.2.2
  blk_simp [idx1 t]
  rw [show (dat1 (E1 m) c).after 6 t = out1 (E1 m) c t from rfl]
  refine (out1_eq m c Q K V R L hQ hK hV hR hL t j d).trans ?_
  have hj := j.isLt
  have hd := d.isLt
  congr 1
  · omega
  · omega
  · omega
  · exact Fin.ext (show d.val = ((grid1.coords t 1).val * 128 + d.val) % 128 by omega)

end

end Cert.KernelIdeal.Attn
-- ==== Proof.RefBucket.lean ====
/-
  The reference's bias: the bucket it computes with a logarithm is the counted one, and the table is read there.
-/
module

public import proofs.«01_k».proof.Proof.Gen.ReferenceIdeal.Run
public import proofs.«01_k».proof.Proof.IdealTiles
public import Idealize.ShloMosaic.Lib.Pointwise
public import Mathlib.Analysis.SpecialFunctions.Log.Basic
public import Mathlib.Analysis.Complex.Exponential

@[expose] public section

set_option maxRecDepth 16384

noncomputable section

namespace Cert.ReferenceIdeal.Attn

open Cert.ReferenceIdeal Cert.ReferenceIdeal.Gen Cert.ReferenceIdeal.Value
open Cert.KernelIdeal.Attn (bucket bucket_le)
open Idealize.ShloMosaic Idealize.ShloMosaic.TcCoe Idealize.ShloMosaic.StableHlo
open scoped BigOperators

/-! ## The literals -/

theorem lit_sixteen : Ideal.ofBits .f32 0x41800000#32 = ((16 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_log : Ideal.ofBits .f32 0x40051592#32 = ((8721810 / 4194304 : ℝ) : EReal) := by
  simp [Ideal.ofBits, Ideal.ieee, -EReal.coe_mul]; norm_num

/-! ## The bucket -/

/-- The logarithmic scale of a distance. -/
def scale (d : ℕ) : ℝ := Real.log ((d : ℝ) * (1 / 16)) * (1 / (8721810 / 4194304)) * 16

theorem log_two_ge : 0.69314 ≤ Real.log 2 := by
  rw [Real.le_log_iff_exp_le (by norm_num)]
  have h := (abs_le.mp (Real.exp_bound (x := 0.69314) (by norm_num [abs_of_pos]) (n := 10) (by norm_num))).2
  norm_num [Finset.sum_range_succ, Nat.factorial, abs_of_pos] at h
  norm_num
  linarith

theorem log_two_le : Real.log 2 ≤ 0.69316 := by
  rw [Real.log_le_iff_le_exp (by norm_num)]
  have h := (abs_le.mp (Real.exp_bound (x := 0.69316) (by norm_num [abs_of_pos]) (n := 10) (by norm_num))).1
  norm_num [Finset.sum_range_succ, Nat.factorial, abs_of_pos] at h
  norm_num
  linarith

/-- A distance past the bound of bucket `i`. -/
theorem scale_ge {i : ℕ} (B d : ℕ) (hi : i ≤ 15) (hB : (2 : ℝ) ^ (3 * i) * (101 / 100) ≤ ((B : ℝ) / 16) ^ 16) (hB0 : 0 < B) (h : B ≤ d) : (i : ℝ) ≤ scale d := by
  have hBr : (0 : ℝ) < B := by exact_mod_cast hB0
  have hd : Real.log ((B : ℝ) / 16) ≤ Real.log ((d : ℝ) * (1 / 16)) := by
    apply Real.log_le_log (by positivity)
    have : (B : ℝ) ≤ d := by exact_mod_cast h
    linarith
  have hl := Real.log_le_log (by positivity) hB
  rw [Real.log_mul (by positivity) (by norm_num), Real.log_pow, Real.log_pow] at hl
  have h1 : (1 : ℝ) - (101 / 100)⁻¹ ≤ Real.log (101 / 100) := Real.one_sub_inv_le_log_of_pos (by norm_num)
  have h2 := log_two_ge
  have hi' : (i : ℝ) ≤ 15 := by exact_mod_cast hi
  have hi0 : (0 : ℝ) ≤ i := by positivity
  push_cast at hl
  have h3 : (i : ℝ) * 0.69314 ≤ i * Real.log 2 := mul_le_mul_of_nonneg_left h2 hi0
  unfold scale
  rw [show Real.log ((d : ℝ) * (1 / 16)) * (1 / (8721810 / 4194304)) * 16 = (16 * Real.log ((d : ℝ) * (1 / 16))) / (8721810 / 4194304) by ring]
  rw [le_div_iff₀ (by norm_num)]
  norm_num at h1 ⊢
  nlinarith

/-- A distance short of it. -/
theorem scale_lt {i : ℕ} (B d : ℕ) (hi : i ≤ 15) (hB : ((B : ℝ) / 16) ^ 16 * (101 / 100) ≤ (2 : ℝ) ^ (3 * i)) (hd0 : 0 < d) (h : d ≤ B) : scale d < (i : ℝ) := by
  have hdr : (0 : ℝ) < d := by exact_mod_cast hd0
  have hBr : (0 : ℝ) < B := lt_of_lt_of_le hdr (by exact_mod_cast h)
  have hd : Real.log ((d : ℝ) * (1 / 16)) ≤ Real.log ((B : ℝ) / 16) := by
    apply Real.log_le_log (by positivity)
    have : (d : ℝ) ≤ B := by exact_mod_cast h
    linarith
  have hl := Real.log_le_log (by positivity) hB
  rw [Real.log_mul (by positivity) (by norm_num), Real.log_pow, Real.log_pow] at hl
  have h1 : (1 : ℝ) - (101 / 100)⁻¹ ≤ Real.log (101 / 100) := Real.one_sub_inv_le_log_of_pos (by norm_num)
  have h2 := log_two_le
  have hi' : (i : ℝ) ≤ 15 := by exact_mod_cast hi
  have hi0 : (0 : ℝ) ≤ i := by positivity
  push_cast at hl
  have h3 : (i : ℝ) * Real.log 2 ≤ i * 0.69316 := mul_le_mul_of_nonneg_left h2 hi0
  unfold scale
  rw [show Real.log ((d : ℝ) * (1 / 16)) * (1 / (8721810 / 4194304)) * 16 = (16 * Real.log ((d : ℝ) * (1 / 16))) / (8721810 / 4194304) by ring]
  rw [div_lt_iff₀ (by norm_num)]
  norm_num at h1 ⊢
  nlinarith

theorem scale_nonneg (d : ℕ) (h : 16 ≤ d) : 0 ≤ scale d := by
  have hd : (16 : ℝ) ≤ d := by exact_mod_cast h
  have := Real.log_nonneg (show (1 : ℝ) ≤ (d : ℝ) * (1 / 16) by linarith)
  unfold scale; positivity

theorem scale_small (d : ℕ) (h0 : 16 ≤ d) (h : d < 8192) : scale d < 10000 := by
  have hd : (d : ℝ) ≤ 8192 := by exact_mod_cast h.le
  have hd0 : (16 : ℝ) ≤ d := by exact_mod_cast h0
  have h1 := Real.log_le_sub_one_of_pos (show (0 : ℝ) < (d : ℝ) * (1 / 16) by linarith)
  unfold scale
  nlinarith

/-- The scale's whole part, kept to fifteen, is the counted number of bounds passed. -/
theorem scale_bucket (d : ℕ) (h0 : 16 ≤ d) (h : d < 8192) : min (16 + ⌊scale d⌋) 31 = (bucket d : ℤ) := by
  rcases (by omega : (16 ≤ d ∧ d < 19) ∨ (19 ≤ d ∧ d < 21) ∨ (21 ≤ d ∧ d < 24) ∨ (24 ≤ d ∧ d < 27) ∨ (27 ≤ d ∧ d < 31) ∨ (31 ≤ d ∧ d < 35) ∨ (35 ≤ d ∧ d < 40) ∨ (40 ≤ d ∧ d < 46) ∨ (46 ≤ d ∧ d < 52) ∨ (52 ≤ d ∧ d < 59) ∨ (59 ≤ d ∧ d < 67) ∨ (67 ≤ d ∧ d < 77) ∨ (77 ≤ d ∧ d < 87) ∨ (87 ≤ d ∧ d < 99) ∨ (99 ≤ d ∧ d < 113) ∨ 113 ≤ d) with ⟨l, u⟩ | ⟨l, u⟩ | ⟨l, u⟩ | ⟨l, u⟩ | ⟨l, u⟩ | ⟨l, u⟩ | ⟨l, u⟩ | ⟨l, u⟩ | ⟨l, u⟩ | ⟨l, u⟩ | ⟨l, u⟩ | ⟨l, u⟩ | ⟨l, u⟩ | ⟨l, u⟩ | ⟨l, u⟩ | l
  · have f : ⌊scale d⌋ = 0 := by
      rw [Int.floor_eq_iff]
      exact ⟨(by have := scale_nonneg d h0; simpa using this), by have := scale_lt (i := 1) 18 d (by norm_num) (by norm_num) (by omega) (by omega); push_cast at this ⊢; linarith⟩
    have b : bucket d = 16 := by
      unfold bucket; rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)]
    rw [f, b]; norm_num
  · have f : ⌊scale d⌋ = 1 := by
      rw [Int.floor_eq_iff]
      exact ⟨(by have := scale_ge (i := 1) 19 d (by norm_num) (by norm_num) (by norm_num) l; exact_mod_cast this), by have := scale_lt (i := 2) 20 d (by norm_num) (by norm_num) (by omega) (by omega); push_cast at this ⊢; linarith⟩
    have b : bucket d = 17 := by
      unfold bucket; rw [if_neg (by omega), if_pos (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)]
    rw [f, b]; norm_num
  · have f : ⌊scale d⌋ = 2 := by
      rw [Int.floor_eq_iff]
      exact ⟨(by have := scale_ge (i := 2) 21 d (by norm_num) (by norm_num) (by norm_num) l; exact_mod_cast this), by have := scale_lt (i := 3) 23 d (by norm_num) (by norm_num) (by omega) (by omega); push_cast at this ⊢; linarith⟩
    have b : bucket d = 18 := by
      unfold bucket; rw [if_neg (by omega), if_pos (by omega), if_pos (by omega), if_neg (by omega), if_neg (by omega), if_neg (by omega), if_neg (by omega), if_neg (by omega), if_neg (by omega), if_neg (by omega), if_neg (by omega), if_neg (by omega), if_neg (by omega), if_neg (by omega), if_neg (by omega), if_neg (by omega)]
    rw [f, b]; norm_num
  · have f : ⌊scale d⌋ = 3 := by
      rw [Int.floor_eq_iff]
      exact ⟨(by have := scale_ge (i := 3) 24 d (by norm_num) (by norm_num) (by norm_num) l; exact_mod_cast this), by have := scale_lt (i := 4) 26 d (by norm_num) (by norm_num) (by omega) (by omega); push_cast at this ⊢; linarith⟩
    have b : bucket d = 19 := by
      unfold bucket; rw [if_neg (by omega), if_pos (by omega), if_pos (by omega), if_pos (by omega), if_neg (by omega), if_neg (by omega), if_neg (by omega), if_neg (by omega), if_neg (by omega), if_neg (by omega), if_neg (by omega), if_neg (by omega), if_neg (by omega), if_neg (by omega), if_neg (by omega), if_neg (by omega)]
    rw [f, b]; norm_num
  · have f : ⌊scale d⌋ = 4 := by
      rw [Int.floor_eq_iff]
      exact ⟨(by have := scale_ge (i := 4) 27 d (by norm_num) (by norm_num) (by norm_num) l; exact_mod_cast this), by have := scale_lt (i := 5) 30 d (by norm_num) (by norm_num) (by omega) (by omega); push_cast at this ⊢; linarith⟩
    have b : bucket d = 20 := by
      unfold bucket; rw [if_neg (by omega), if_pos (by omega), if_pos (by omega), if_pos (by omega), if_pos (by omega), if_neg (by omega), if_neg (by omega), if_neg (by omega), if_neg (by omega), if_neg (by omega), if_neg (by omega), if_neg (by omega), if_neg (by omega), if_neg (by omega), if_neg (by omega), if_neg (by omega)]
    rw [f, b]; norm_num
  · have f : ⌊scale d⌋ = 5 := by
      rw [Int.floor_eq_iff]
      exact ⟨(by have := scale_ge (i := 5) 31 d (by norm_num) (by norm_num) (by norm_num) l; exact_mod_cast this), by have := scale_lt (i := 6) 34 d (by norm_num) (by norm_num) (by omega) (by omega); push_cast at this ⊢; linarith⟩
    have b : bucket d = 21 := by
      unfold bucket; rw [if_neg (by omega), if_pos (by omega), if_pos (by omega), if_pos (by omega), if_pos (by omega), if_pos (by omega), if_neg (by omega), if_neg (by omega), if_neg (by omega), if_neg (by omega), if_neg (by omega), if_neg (by omega), if_neg (by omega), if_neg (by omega), if_neg (by omega), if_neg (by omega)]
    rw [f, b]; norm_num
  · have f : ⌊scale d⌋ = 6 := by
      rw [Int.floor_eq_iff]
      exact ⟨(by have := scale_ge (i := 6) 35 d (by norm_num) (by norm_num) (by norm_num) l; exact_mod_cast this), by have := scale_lt (i := 7) 39 d (by norm_num) (by norm_num) (by omega) (by omega); push_cast at this ⊢; linarith⟩
    have b : bucket d = 22 := by
      unfold bucket; rw [if_neg (by omega), if_pos (by omega), if_pos (by omega), if_pos (by omega), if_pos (by omega), if_pos (by omega), if_pos (by omega), if_neg (by omega), if_neg (by omega), if_neg (by omega), if_neg (by omega), if_neg (by omega), if_neg (by omega), if_neg (by omega), if_neg (by omega), if_neg (by omega)]
    rw [f, b]; norm_num
  · have f : ⌊scale d⌋ = 7 := by
      rw [Int.floor_eq_iff]
      exact ⟨(by have := scale_ge (i := 7) 40 d (by norm_num) (by norm_num) (by norm_num) l; exact_mod_cast this), by have := scale_lt (i := 8) 45 d (by norm_num) (by norm_num) (by omega) (by omega); push_cast at this ⊢; linarith⟩
    have b : bucket d = 23 := by
      unfold bucket; rw [if_neg (by omega), if_pos (by omega), if_pos (by omega), if_pos (by omega), if_pos (by omega), if_pos (by omega), if_pos (by omega), if_pos (by omega), if_neg (by omega), if_neg (by omega), if_neg (by omega), if_neg (by omega), if_neg (by omega), if_neg (by omega), if_neg (by omega), if_neg (by omega)]
    rw [f, b]; norm_num
  · have f : ⌊scale d⌋ = 8 := by
      rw [Int.floor_eq_iff]
      exact ⟨(by have := scale_ge (i := 8) 46 d (by norm_num) (by norm_num) (by norm_num) l; exact_mod_cast this), by have := scale_lt (i := 9) 51 d (by norm_num) (by norm_num) (by omega) (by omega); push_cast at this ⊢; linarith⟩
    have b : bucket d = 24 := by
      unfold bucket; rw [if_neg (by omega), if_pos (by omega), if_pos (by omega), if_pos (by omega), if_pos (by omega), if_pos (by omega), if_pos (by omega), if_pos (by omega), if_pos (by omega), if_neg (by omega), if_neg (by omega), if_neg (by omega), if_neg (by omega), if_neg (by omega), if_neg (by omega), if_neg (by omega)]
    rw [f, b]; norm_num
  · have f : ⌊scale d⌋ = 9 := by
      rw [Int.floor_eq_iff]
      exact ⟨(by have := scale_ge (i := 9) 52 d (by norm_num) (by norm_num) (by norm_num) l; exact_mod_cast this), by have := scale_lt (i := 10) 58 d (by norm_num) (by norm_num) (by omega) (by omega); push_cast at this ⊢; linarith⟩
    have b : bucket d = 25 := by
      unfold bucket; rw [if_neg (by omega), if_pos (by omega), if_pos (by omega), if_pos (by omega), if_pos (by omega), if_pos (by omega), if_pos (by omega), if_pos (by omega), if_pos (by omega), if_pos (by omega), if_neg (by omega), if_neg (by omega), if_neg (by omega), if_neg (by omega), if_neg (by omega), if_neg (by omega)]
    rw [f, b]; norm_num
  · have f : ⌊scale d⌋ = 10 := by
      rw [Int.floor_eq_iff]
      exact ⟨(by have := scale_ge (i := 10) 59 d (by norm_num) (by norm_num) (by norm_num) l; exact_mod_cast this), by have := scale_lt (i := 11) 66 d (by norm_num) (by norm_num) (by omega) (by omega); push_cast at this ⊢; linarith⟩
    have b : bucket d = 26 := by
      unfold bucket; rw [if_neg (by omega), if_pos (by omega), if_pos (by omega), if_pos (by omega), if_pos (by omega), if_pos (by omega), if_pos (by omega), if_pos (by omega), if_pos (by omega), if_pos (by omega), if_pos (by omega), if_neg (by omega), if_neg (by omega), if_neg (by omega), if_neg (by omega), if_neg (by omega)]
    rw [f, b]; norm_num
  · have f : ⌊scale d⌋ = 11 := by
      rw [Int.floor_eq_iff]
      exact ⟨(by have := scale_ge (i := 11) 67 d (by norm_num) (by norm_num) (by norm_num) l; exact_mod_cast this), by have := scale_lt (i := 12) 76 d (by norm_num) (by norm_num) (by omega) (by omega); push_cast at this ⊢; linarith⟩
    have b : bucket d = 27 := by
      unfold bucket; rw [if_neg (by omega), if_pos (by omega), if_pos (by omega), if_pos (by omega), if_pos (by omega), if_pos (by omega), if_pos (by omega), if_pos (by omega), if_pos (by omega), if_pos (by omega), if_pos (by omega), if_pos (by omega), if_neg (by omega), if_neg (by omega), if_neg (by omega), if_neg (by omega)]
    rw [f, b]; norm_num
  · have f : ⌊scale d⌋ = 12 := by
      rw [Int.floor_eq_iff]
      exact ⟨(by have := scale_ge (i := 12) 77 d (by norm_num) (by norm_num) (by norm_num) l; exact_mod_cast this), by have := scale_lt (i := 13) 86 d (by norm_num) (by norm_num) (by omega) (by omega); push_cast at this ⊢; linarith⟩
    have b : bucket d = 28 := by
      unfold bucket; rw [if_neg (by omega), if_pos (by omega), if_pos (by omega), if_pos (by omega), if_pos (by omega), if_pos (by omega), if_pos (by omega), if_pos (by omega), if_pos (by omega), if_pos (by omega), if_pos (by omega), if_pos (by omega), if_pos (by omega), if_neg (by omega), if_neg (by omega), if_neg (by omega)]
    rw [f, b]; norm_num
  · have f : ⌊scale d⌋ = 13 := by
      rw [Int.floor_eq_iff]
      exact ⟨(by have := scale_ge (i := 13) 87 d (by norm_num) (by norm_num) (by norm_num) l; exact_mod_cast this), by have := scale_lt (i := 14) 98 d (by norm_num) (by norm_num) (by omega) (by omega); push_cast at this ⊢; linarith⟩
    have b : bucket d = 29 := by
      unfold bucket; rw [if_neg (by omega), if_pos (by omega), if_pos (by omega), if_pos (by omega), if_pos (by omega), if_pos (by omega), if_pos (by omega), if_pos (by omega), if_pos (by omega), if_pos (by omega), if_pos (by omega), if_pos (by omega), if_pos (by omega), if_pos (by omega), if_neg (by omega), if_neg (by omega)]
    rw [f, b]; norm_num
  · have f : ⌊scale d⌋ = 14 := by
      rw [Int.floor_eq_iff]
      exact ⟨(by have := scale_ge (i := 14) 99 d (by norm_num) (by norm_num) (by norm_num) l; exact_mod_cast this), by have := scale_lt (i := 15) 112 d (by norm_num) (by norm_num) (by omega) (by omega); push_cast at this ⊢; linarith⟩
    have b : bucket d = 30 := by
      unfold bucket; rw [if_neg (by omega), if_pos (by omega), if_pos (by omega), if_pos (by omega), if_pos (by omega), if_pos (by omega), if_pos (by omega), if_pos (by omega), if_pos (by omega), if_pos (by omega), if_pos (by omega), if_pos (by omega), if_pos (by omega), if_pos (by omega), if_pos (by omega), if_neg (by omega)]
    rw [f, b]; norm_num
  · have f : 15 ≤ ⌊scale d⌋ := by
      rw [Int.le_floor]
      have := scale_ge (i := 15) 113 d (by norm_num) (by norm_num) (by norm_num) l; exact_mod_cast this
    have b : bucket d = 31 := by
      unfold bucket; rw [if_neg (by omega), if_pos (by omega), if_pos (by omega), if_pos (by omega), if_pos (by omega), if_pos (by omega), if_pos (by omega), if_pos (by omega), if_pos (by omega), if_pos (by omega), if_pos (by omega), if_pos (by omega), if_pos (by omega), if_pos (by omega), if_pos (by omega), if_pos (by omega)]
    rw [b]; push_cast; omega

/-! ## Words -/

theorem toInt_small (n : ℕ) (h : n < 2 ^ 31) : (BitVec.ofNat 32 n).toInt = n := by
  rw [BitVec.toInt_ofNat', Int.bmod_eq_of_le] <;> push_cast <;> omega

theorem slt_small (a b : ℕ) (ha : a < 2 ^ 31) (hb : b < 2 ^ 31) : (BitVec.ofNat 32 a).slt (BitVec.ofNat 32 b) = decide (a < b) := by
  rw [BitVec.slt, toInt_small a ha, toInt_small b hb]; simp

theorem sle_small (a b : ℕ) (ha : a < 2 ^ 31) (hb : b < 2 ^ 31) : (BitVec.ofNat 32 a).sle (BitVec.ofNat 32 b) = decide (a ≤ b) := by
  rw [BitVec.sle, toInt_small a ha, toInt_small b hb]; simp

/-- The distance between two rows as words, zero where the second lies past the first. -/
theorem word_distance (q p : ℕ) (hq : q < 8192) (hp : p < 8192) :
    IntOp.maxsi (IntOp.subi (BitVec.ofNat 32 q) (BitVec.ofNat 32 p)) 0#32 = BitVec.ofNat 32 (q - p) := by
  unfold IntOp.maxsi IntOp.subi
  have h : (BitVec.ofNat 32 q - BitVec.ofNat 32 p).toInt = (q : ℤ) - p := by
    rw [BitVec.toInt_sub, toInt_small q (by omega), toInt_small p (by omega), Int.bmod_eq_of_le] <;> push_cast <;> omega
  rw [BitVec.slt, h]
  by_cases hpq : p < q
  · rw [if_pos (by simp; omega)]
    apply BitVec.eq_of_toInt_eq
    rw [h, toInt_small _ (by omega)]; omega
  · rw [if_neg (by simp; omega), show q - p = 0 by omega]

/-- Whatever whole number is added to sixteen and kept to thirty-one. -/
theorem word_min (n : ℕ) (hn : n < 20000) : IntOp.minsi (IntOp.addi 16#32 (BitVec.ofInt 32 n)) 31#32 = BitVec.ofNat 32 (min (16 + n) 31) := by
  rw [BitVec.ofInt_natCast]
  have ha : IntOp.addi 16#32 (BitVec.ofNat 32 n) = BitVec.ofNat 32 (16 + n) := (BitVec.ofNat_add 16 n).symm
  rw [ha]
  show (if (BitVec.ofNat 32 (16 + n)).slt (BitVec.ofNat 32 31) then _ else BitVec.ofNat 32 31) = _
  rw [slt_small _ _ (by omega) (by omega)]
  by_cases h : 16 + n < 31
  · rw [if_pos (by simpa using h), min_eq_left h.le]
  · rw [if_neg (by simpa using h), min_eq_right (by omega)]

/-- The bucket word the reference computes of a distance. -/
def bucketWord (d : ℕ) : BitVec 32 :=
  Scalar.select (IntOp.cmpi .slt (BitVec.ofNat 32 d) 16#32) (BitVec.ofNat 32 d) (IntOp.minsi (IntOp.addi 16#32 (Ideal.fptosi 32 (Ideal.div (Ideal.log (Ideal.div (((IntOp.maxsi (BitVec.ofNat 32 d) 1#32).toInt : ℝ) : EReal) (Ideal.ofBits .f32 0x41800000#32))) (Ideal.ofBits .f32 0x40051592#32) * Ideal.ofBits .f32 0x41800000#32))) 31#32)

theorem bucketWord_eq (d : ℕ) (h : d < 8192) : bucketWord d = BitVec.ofNat 32 (bucket d) := by
  unfold bucketWord
  have hc : IntOp.cmpi .slt (BitVec.ofNat 32 d) 16#32 = if d < 16 then 1#1 else 0#1 := by
    show BitVec.ofBool ((BitVec.ofNat 32 d).slt (BitVec.ofNat 32 16)) = _
    rw [slt_small _ _ (by omega) (by omega)]
    by_cases h : d < 16 <;> simp [h]
  rw [hc]
  by_cases hd : d < 16
  · rw [if_pos hd]
    show BitVec.ofNat 32 d = _
    rw [show bucket d = d by unfold bucket; rw [if_pos hd]]
  · rw [if_neg hd]
    show IntOp.minsi _ _ = _
    have hm : IntOp.maxsi (BitVec.ofNat 32 d) 1#32 = BitVec.ofNat 32 d := by
      show (if (BitVec.ofNat 32 1).slt (BitVec.ofNat 32 d) then _ else _) = _
      rw [slt_small _ _ (by omega) (by omega), if_pos (by simp; omega)]
    have h16 : 16 ≤ d := by omega
    have hdr : (16 : ℝ) ≤ d := by exact_mod_cast h16
    have hs : Ideal.div (Ideal.log (Ideal.div (((IntOp.maxsi (BitVec.ofNat 32 d) 1#32).toInt : ℝ) : EReal) (Ideal.ofBits .f32 0x41800000#32))) (Ideal.ofBits .f32 0x40051592#32) * Ideal.ofBits .f32 0x41800000#32 = ((scale d : ℝ) : EReal) := by
      rw [hm, toInt_small d (by omega), lit_sixteen, lit_log, Ideal.div_coe (by norm_num), Ideal.div_coe (by norm_num), Int.cast_natCast, ← EReal.coe_mul, Ideal.log_coe, if_neg (by linarith), ← EReal.coe_mul, ← EReal.coe_mul]
      rfl
    have hf : Ideal.fptosi 32 ((scale d : ℝ) : EReal) = BitVec.ofInt 32 (⌊scale d⌋.toNat : ℕ) := by
      have h0 := scale_nonneg d h16
      have h1 : ⌊scale d⌋ < 10000 := by rw [Int.floor_lt]; exact_mod_cast scale_small d h16 h
      have h2 : 0 ≤ ⌊scale d⌋ := Int.floor_nonneg.mpr h0
      unfold Ideal.fptosi
      rw [Ideal.toIntClamped_coe, if_pos h0, Int.toNat_of_nonneg h2, min_eq_right (by norm_num; omega), max_eq_right (by norm_num; omega)]
    have h1 : ⌊scale d⌋ < 10000 := by rw [Int.floor_lt]; exact_mod_cast scale_small d h16 h
    have h2 : 0 ≤ ⌊scale d⌋ := Int.floor_nonneg.mpr (scale_nonneg d h16)
    rw [hs, hf, word_min _ (by omega)]
    congr 1
    have := scale_bucket d h16 h
    omega

/-! ## The table read -/

/-- The gather of the table's rows: head `h`'s word at the row named, kept within the table. -/
theorem gather_at (x : FVec Ideal S32x8 .f32) (idx : IVec S8192x8192x1 32) (q p : Fin 8192) (h : Fin 8) :
    Host.gather gather_S32x8_S8192x8192x1_S8192x8192x8_2_0_n_n_0_2_18 x idx (ix3 q p h) = x (ix2 ⟨min (idx (ix3 q p 0)).toInt.toNat 31, by omega⟩ h) := by
  refine congrArg x (funext fun a => Fin.ext ?_)
  have hk : (0 : Fin 2) ∈ (gather_S32x8_S8192x8192x1_S8192x8192x8_2_0_n_n_0_2_18).startIndexMap := List.mem_singleton.mpr rfl
  match a with
  | ⟨0, _⟩ =>
    have e : GatherDims.start gather_S32x8_S8192x8192x1_S8192x8192x8_2_0_n_n_0_2_18 (ix3 q p h) idx 0 = min (idx (ix3 q p 0)).toInt.toNat 31 := by
      unfold GatherDims.start
      rw [dif_pos hk]
      have hs : GatherDims.siIdx gather_S32x8_S8192x8192x1_S8192x8192x8_2_0_n_n_0_2_18 (ix3 q p h) ⟨List.idxOf (0 : Fin 2) (gather_S32x8_S8192x8192x1_S8192x8192x8_2_0_n_n_0_2_18).startIndexMap, List.idxOf_lt_length_iff.2 hk⟩ = ix3 q p 0 := by
        funext b; refine Fin.ext ?_
        match b with
        | ⟨0, _⟩ => rfl
        | ⟨1, _⟩ => rfl
        | ⟨2, _⟩ => rfl
      rw [hs]; rfl
    exact e
  | ⟨1, _⟩ =>
    have hm : (1 : Fin 2) ∈ (gather_S32x8_S8192x8192x1_S8192x8192x8_2_0_n_n_0_2_18).sKept := (GatherDims.mem_sKept _ _).mpr ⟨by decide, by decide⟩
    show GatherDims.start gather_S32x8_S8192x8192x1_S8192x8192x8_2_0_n_n_0_2_18 (ix3 q p h) idx 1 + GatherDims.batchCoord gather_S32x8_S8192x8192x1_S8192x8192x8_2_0_n_n_0_2_18 (ix3 q p h) 1 + GatherDims.offCoord gather_S32x8_S8192x8192x1_S8192x8192x8_2_0_n_n_0_2_18 (ix3 q p h) 1 = h.val
    rw [GatherDims.batchCoord_eq_zero _ _ _ List.not_mem_nil]
    unfold GatherDims.start GatherDims.offCoord
    rw [dif_neg (by decide), dif_pos hm, Nat.add_zero, Nat.zero_add]
    exact congrArg (fun z : Fin 3 => ((ix3 q p h : S8192x8192x8.Idx) z).val) (List.getElem_singleton _)

end Cert.ReferenceIdeal.Attn
-- ==== Proof.RefReads.lean ====
/-
  What each of the reference's arrays holds at a place, out of the arrays before it.
-/
module
public import proofs.«01_k».proof.Proof.Gen.ReferenceIdeal.Run
public import Idealize.ShloMosaic.Lib.Pointwise
public import proofs.«01_k».proof.Proof.RefBucket
public import proofs.«01_k».proof.Proof.IdealAttn
public import Mathlib.Data.Finset.Fold
public import Mathlib.Analysis.SpecialFunctions.Log.Basic
@[expose] public section
set_option maxRecDepth 16384
noncomputable section
namespace Cert.ReferenceIdeal.Attn
open Cert.ReferenceIdeal Cert.ReferenceIdeal.Gen Cert.ReferenceIdeal.Value
open Idealize.ShloMosaic Idealize.ShloMosaic.TcCoe Idealize.ShloMosaic.StableHlo Idealize.SL.Sem
open Cert.KernelIdeal.Attn (bucket bucket_le)
open scoped BigOperators
variable (V0 : Valuation τ sig (Elt Ideal))

/-- The table rows the reference reads, one for each pair of rows. -/
def rowsC : IVec S8192x8192x1 32 := (broadcastInDim S8192x8192x1 ![0, 1] bcast_S8192x8192_S8192x8192x1_0_1 (select (cmpi .slt (res_main_v52 V0) (broadcastInDim S8192x8192 ![] bcast_S_S8192x8192 (constantI S_ 32 0#32))) (addi (res_main_v52 V0) (broadcastInDim S8192x8192 ![] bcast_S_S8192x8192 (constantI S_ 32 32#32))) (res_main_v52 V0)))
/-- The weight of the second softmax. -/
def lamC : FVec Ideal S_ .f32 := (addf (subf (Host.exp (Host.reduceAdd (mulf (shapeCast _ (extractStridedSlice S1x64 ![0, 0] (V0 (Proc.devRef .tc main_arg4)) slices_S4x64_S1x64_0_0) shapeCasts_S1x64_S64) (shapeCast _ (extractStridedSlice S1x64 ![1, 0] (V0 (Proc.devRef .tc main_arg4)) slices_S4x64_S1x64_1_0) shapeCasts_S1x64_S64)) (constant S_ .f32 0x00000000#32) reducesTo_S64_S_d0 h_S_)) (Host.exp (Host.reduceAdd (mulf (shapeCast _ (extractStridedSlice S1x64 ![2, 0] (V0 (Proc.devRef .tc main_arg4)) slices_S4x64_S1x64_2_0) shapeCasts_S1x64_S64) (shapeCast _ (extractStridedSlice S1x64 ![3, 0] (V0 (Proc.devRef .tc main_arg4)) slices_S4x64_S1x64_3_0) shapeCasts_S1x64_S64)) (constant S_ .f32 0x00000000#32) reducesTo_S64_S_d0 h_S_))) (constant S_ .f32 0x3EB60549#32))
/-- The two softmaxes' difference. -/
def mixC : FVec Ideal S2x8x8192x8192 .f32 := (subf (shapeCast _ (extractStridedSlice S2x8x1x8192x8192 ![0, 0, 0, 0, 0] (res_main_v80 V0) slices_S2x8x2x8192x8192_S2x8x1x8192x8192_0_0_0_0_0) shapeCasts_S2x8x1x8192x8192_S2x8x8192x8192) (mulf (broadcastInDim S2x8x8192x8192 ![] bcast_S_S2x8x8192x8192 (lamC V0)) (shapeCast _ (extractStridedSlice S2x8x1x8192x8192 ![0, 0, 1, 0, 0] (res_main_v80 V0) slices_S2x8x2x8192x8192_S2x8x1x8192x8192_0_0_1_0_0) shapeCasts_S2x8x1x8192x8192_S2x8x8192x8192)))
/-- The largest score of each row. -/
def topC : FVec Ideal S2x8x2x8192 .f32 := (maximumf (broadcastInDim S2x8x2x8192 ![] bcast_S_S2x8x2x8192 (constant S_ .f32 0xFF800000#32)) (Host.reduce FloatOps.maximumf (res_main_v69 V0) (constant S_ .f32 0xFF800000#32) reducesTo_S2x8x2x8192x8192_S2x8x2x8192_d4 h_S_))
theorem v69_def : res_main_v69 V0 = (select (broadcastInDim S2x8x2x8192x8192 ![3, 4] bcast_S8192x8192_S2x8x2x8192x8192_3_4 (cmpi .sle (broadcastInDim S8192x8192 ![0, 1] bcast_S1x8192_S8192x8192_0_1 (broadcastInDim S1x8192 ![1] bcast_S8192_S1x8192_1 (res_main_v26 V0))) (broadcastInDim S8192x8192 ![0, 1] bcast_S8192x1_S8192x8192_0_1 (broadcastInDim S8192x1 ![0] bcast_S8192_S8192x1_0 (res_main_v26 V0))))) (addf (Host.dotGeneral dot_S2x8192x8x2x64_S2x8192x8x2x64_S2x8x2x8192x8192_4_4_1_1_023_023 none (shapeCast _ (mulf (extf .f32 (V0 (Proc.devRef .tc main_arg0)) bitsLt_bf16_f32) (broadcastInDim S16384x1024 ![] bcast_S_S16384x1024 (Host.log (constant S_ .f32 0x40000000#32)))) shapeCasts_S16384x1024_S2x8192x8x2x64) (shapeCast _ (extf .f32 (V0 (Proc.devRef .tc main_arg1)) bitsLt_bf16_f32) shapeCasts_S16384x1024_S2x8192x8x2x64)) (broadcastInDim S2x8x2x8192x8192 ![0, 1, 2, 3, 4] bcast_S1x8x1x8192x8192_S2x8x2x8192x8192_0_1_2_3_4 (broadcastInDim S1x8x1x8192x8192 ![1, 3, 4] bcast_S8x8192x8192_S1x8x1x8192x8192_1_3_4 (transpose S8x8192x8192 [2, 0, 1] (Host.gather gather_S32x8_S8192x8192x1_S8192x8192x8_2_0_n_n_0_2_18 (V0 (Proc.devRef .tc main_arg3)) (rowsC V0)) transposes_S8192x8192x8_S8x8192x8192_2_0_1)))) (broadcastInDim S2x8x2x8192x8192 ![] bcast_S_S2x8x2x8192x8192 (id (constant S_ .f32 0xFF800000#32))) : FVec Ideal S2x8x2x8192x8192 .f32) := rfl
theorem v89_def : res_main_v89 V0 = transpose S2x8192x8x128 [0, 3, 1, 2] (Host.dotGeneral dot_S2x8192x8x128_S2x8x8192x8192_S2x8x128x8192_1_3_3_2_02_01 none (shapeCast _ (transpose S16384x1024 [1, 0] (extf .f32 (V0 (Proc.devRef .tc main_arg2)) bitsLt_bf16_f32) transposes_S1024x16384_S16384x1024_1_0) shapeCasts_S16384x1024_S2x8192x8x128) (mixC V0)) transposes_S2x8x128x8192_S2x8192x8x128_0_3_1_2 := rfl
theorem v76_def : res_main_v76 V0 = Host.exp (subf (res_main_v69 V0) (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 (topC V0)))) := rfl

theorem v34_at (q p : Fin 8192) : (show S8192x8192.Idx → BitVec 32 from res_main_v34 V0) (ix2 q p) = BitVec.ofNat 32 (q.val - p.val) := by
  pointwise [res_main_v34, res_main_v26]
  exact word_distance q.val p.val q.isLt p.isLt

theorem v52_at (q p : Fin 8192) : (show S8192x8192.Idx → BitVec 32 from res_main_v52 V0) (ix2 q p) = BitVec.ofNat 32 (bucket (q.val - p.val)) := by
  have h := v34_at V0 q p
  pointwise [res_main_v52]
  rw [show res_main_v34 V0 (ix2 q p) = BitVec.ofNat 32 (q.val - p.val) from h]
  exact bucketWord_eq (q.val - p.val) (by omega)

theorem rows_at (q p : Fin 8192) : rowsC V0 (ix3 q p 0) = BitVec.ofNat 32 (bucket (q.val - p.val)) := by
  have h := v52_at V0 q p
  have hb := bucket_le (q.val - p.val)
  unfold rowsC
  generalize res_main_v52 V0 = w at h
  pointwise
  rw [show w (ix2 q p) = BitVec.ofNat 32 (bucket (q.val - p.val)) from h]
  have hn : IntOp.cmpi .slt (BitVec.ofNat 32 (bucket (q.val - p.val))) 0#32 = 0#1 := by
    show BitVec.ofBool ((BitVec.ofNat 32 _).slt (BitVec.ofNat 32 0)) = _
    rw [slt_small _ _ (by omega) (by omega)]; simp
  rw [hn]; rfl

theorem lam_at : lamC V0 ix0 = Cert.KernelIdeal.Attn.lamAt fun r e => (show S4x64.Idx → EReal from V0 (Proc.devRef .tc main_arg4)) (ix2 r e) := by
  pointwise [lamC]
  rfl

theorem v76_at (b : Fin 2) (h : Fin 8) (mi : Fin 2) (q p : Fin 8192) : (show S2x8x2x8192x8192.Idx → EReal from res_main_v76 V0) (ix5 b h mi q p) =
    Ideal.exp ((show S2x8x2x8192x8192.Idx → EReal from res_main_v69 V0) (ix5 b h mi q p) - topC V0 (ix4 b h mi q)) := by
  rw [v76_def]
  pointwise

theorem v80_at (b : Fin 2) (h : Fin 8) (mi : Fin 2) (q p : Fin 8192) : (show S2x8x2x8192x8192.Idx → EReal from res_main_v80 V0) (ix5 b h mi q p) =
    Ideal.div ((show S2x8x2x8192x8192.Idx → EReal from res_main_v76 V0) (ix5 b h mi q p)) (∑ x : Fin 8192, (show S2x8x2x8192x8192.Idx → EReal from res_main_v76 V0) (ix5 b h mi q x)) := by
  pointwise [res_main_v80]

theorem mix_gen (P : FVec Ideal S2x8x2x8192x8192 .f32) (l : FVec Ideal S_ .f32) (b : Fin 2) (h : Fin 8) (q p : Fin 8192) :
    ((subf (shapeCast _ (extractStridedSlice S2x8x1x8192x8192 ![0, 0, 0, 0, 0] P slices_S2x8x2x8192x8192_S2x8x1x8192x8192_0_0_0_0_0) shapeCasts_S2x8x1x8192x8192_S2x8x8192x8192) (mulf (broadcastInDim S2x8x8192x8192 ![] bcast_S_S2x8x8192x8192 l) (shapeCast _ (extractStridedSlice S2x8x1x8192x8192 ![0, 0, 1, 0, 0] P slices_S2x8x2x8192x8192_S2x8x1x8192x8192_0_0_1_0_0) shapeCasts_S2x8x1x8192x8192_S2x8x8192x8192))) : FVec Ideal S2x8x8192x8192 .f32) (ix4 b h q p) = P (ix5 b h 0 q p) - l ix0 * P (ix5 b h 1 q p) := by
  pointwise

theorem mix_at (b : Fin 2) (h : Fin 8) (q p : Fin 8192) : mixC V0 (ix4 b h q p) =
    (show S2x8x2x8192x8192.Idx → EReal from res_main_v80 V0) (ix5 b h 0 q p) - lamC V0 ix0 * (show S2x8x2x8192x8192.Idx → EReal from res_main_v80 V0) (ix5 b h 1 q p) :=
  mix_gen (res_main_v80 V0) (lamC V0) b h q p

theorem v89_at (b : Fin 2) (q : Fin 8192) (h : Fin 8) (d : Fin 128) : (show S2x8192x8x128.Idx → EReal from res_main_v89 V0) (ix4 b q h d) =
    ∑ x : Fin 8192, (show S1024x16384.Idx → EReal from V0 (Proc.devRef .tc main_arg2)) (ix2 ⟨h.val * 128 + d.val, by omega⟩ ⟨b.val * 8192 + x.val, by omega⟩) * mixC V0 (ix4 b h q x) := by
  rw [v89_def]
  pointwise

theorem v69_at (b : Fin 2) (h : Fin 8) (mi : Fin 2) (q p : Fin 8192) : (show S2x8x2x8192x8192.Idx → EReal from res_main_v69 V0) (ix5 b h mi q p) =
    if p.val ≤ q.val then
      (∑ x : Fin 64, (show S16384x1024.Idx → EReal from V0 (Proc.devRef .tc main_arg0)) (ix2 ⟨b.val * 8192 + q.val, by omega⟩ ⟨h.val * 128 + mi.val * 64 + x.val, by omega⟩) * Ideal.log (Ideal.ofBits .f32 0x40000000#32)
        * (show S16384x1024.Idx → EReal from V0 (Proc.devRef .tc main_arg1)) (ix2 ⟨b.val * 8192 + p.val, by omega⟩ ⟨h.val * 128 + mi.val * 64 + x.val, by omega⟩))
        + (show S32x8.Idx → EReal from V0 (Proc.devRef .tc main_arg3)) (ix2 ⟨bucket (q.val - p.val), by have := bucket_le (q.val - p.val); omega⟩ h)
    else ⊥ := by
  have hr := rows_at V0 q p
  have hb := bucket_le (q.val - p.val)
  rw [v69_def]
  generalize rowsC V0 = w at hr ⊢
  pointwise [res_main_v26]
  rw [gather_at, show (⟨min (w (ix3 q p 0)).toInt.toNat 31, by omega⟩ : Fin 32) = ⟨bucket (q.val - p.val), by omega⟩ from Fin.ext (by
    show min (w (ix3 q p 0)).toInt.toNat 31 = _
    rw [hr, toInt_small _ (by omega), Int.toNat_natCast]; exact min_eq_left hb)]
  have hc : IntOp.cmpi .sle (BitVec.ofNat 32 p.val) (BitVec.ofNat 32 q.val) = if p.val ≤ q.val then 1#1 else 0#1 := by
    show BitVec.ofBool ((BitVec.ofNat 32 p.val).sle (BitVec.ofNat 32 q.val)) = _
    rw [sle_small _ _ (by omega) (by omega)]
    by_cases h : p.val ≤ q.val <;> simp [h]
  rw [hc]
  by_cases hpq : p.val ≤ q.val
  · rw [if_pos hpq, if_pos hpq]; rfl
  · rw [if_neg hpq, if_neg hpq]; exact Cert.KernelIdeal.Attn.ofBits_neg

/-- A largest value is a real number where none of those compared is above all reals and one is not below all. -/
theorem fold_real {ι : Type} (s : Finset ι) (f : ι → EReal) (op : EReal → EReal → EReal) [Std.Commutative op] [Std.Associative op] (hop : op = max) (hf : ∀ i, f i ≠ ⊤) (i : ι) (hi : i ∈ s) (h0 : f i ≠ ⊥) :
    ∃ M : ℝ, s.fold op ⊥ f = (M : EReal) := by
  subst hop
  have ht : s.fold max ⊥ f ≠ ⊤ := ne_of_lt ((Finset.fold_max_lt _).mpr ⟨bot_lt_top, fun x _ => lt_top_iff_ne_top.mpr (hf x)⟩)
  have hb : s.fold max ⊥ f ≠ ⊥ := fun e => h0 (le_bot_iff.mp (e ▸ (Finset.le_fold_max _).mpr (Or.inr ⟨i, hi, le_rfl⟩)))
  exact ⟨_, (EReal.coe_toReal ht hb).symm⟩

/-- The same of a reduction by the maximum from the word for −∞. -/
theorem reduce_real {s t u : Shape} {axes : List (Fin s.rank)} (x : s.Idx → EReal) (init : u.Idx → EReal) (h : s.ReducesTo axes t) (hu : 0 < u.numel) (j : t.Idx) (hi : init (Shape.Idx.first hu) = ⊥)
    (hx : ∀ i, x i ≠ ⊤) (i : s.Idx) (hd : h.drop i = j) (h0 : x i ≠ ⊥) : ∃ M : ℝ, Host.reduce (FloatOps.maximumf (F := Ideal) (φ := .f32)) x init h hu j = (M : EReal) := by
  have e := Host.reduce_eq_fold (FloatOps.maximumf (F := Ideal) (φ := .f32)) x init h hu j
  obtain ⟨M, hM⟩ := fold_real (Finset.univ.filter fun i => h.drop i = j) x (FloatOps.maximumf (F := Ideal) (φ := .f32)) rfl hx i (Finset.mem_filter.mpr ⟨Finset.mem_univ _, hd⟩) h0
  exact ⟨M, e.trans ((congrArg (fun z => Finset.fold (FloatOps.maximumf (F := Ideal) (φ := .f32)) z x (Finset.univ.filter fun i => h.drop i = j)) hi).trans hM)⟩

theorem drop_at (b : Fin 2) (h : Fin 8) (mi : Fin 2) (q p : Fin 8192) : (reducesTo_S2x8x2x8192x8192_S2x8x2x8192_d4).drop (ix5 b h mi q p) = ix4 b h mi q := by
  funext a
  match a with
  | ⟨0, _⟩ => rfl
  | ⟨1, _⟩ => rfl
  | ⟨2, _⟩ => rfl
  | ⟨3, _⟩ => rfl

/-- A row's largest score is a real number where no score is above all reals and the first is not below all. -/
theorem top_gen (x : FVec Ideal S2x8x2x8192x8192 .f32) (b : Fin 2) (h : Fin 8) (mi : Fin 2) (q : Fin 8192) (hx : ∀ i, x i ≠ (⊤ : EReal)) (h0 : x (ix5 b h mi q 0) ≠ (⊥ : EReal)) :
    ∃ M : ℝ, ((maximumf (broadcastInDim S2x8x2x8192 ![] bcast_S_S2x8x2x8192 (constant S_ .f32 0xFF800000#32)) (Host.reduce FloatOps.maximumf x (constant S_ .f32 0xFF800000#32) reducesTo_S2x8x2x8192x8192_S2x8x2x8192_d4 h_S_)) : FVec Ideal S2x8x2x8192 .f32) (ix4 b h mi q) = (M : EReal) := by
  obtain ⟨M, hM⟩ := reduce_real x (constant (F := Ideal) S_ .f32 0xFF800000#32) reducesTo_S2x8x2x8192x8192_S2x8x2x8192_d4 h_S_ (ix4 b h mi q) Cert.KernelIdeal.Attn.ofBits_neg hx (ix5 b h mi q 0) (drop_at b h mi q 0) h0
  refine ⟨M, ?_⟩
  rw [maximumf_apply, hM]
  exact (congrArg (fun z => max z (M : EReal)) Cert.KernelIdeal.Attn.ofBits_neg).trans (max_eq_right bot_le)

theorem top_real (b : Fin 2) (h : Fin 8) (mi : Fin 2) (q : Fin 8192) (hx : ∀ i, (show S2x8x2x8192x8192.Idx → EReal from res_main_v69 V0) i ≠ (⊤ : EReal)) (h0 : (show S2x8x2x8192x8192.Idx → EReal from res_main_v69 V0) (ix5 b h mi q 0) ≠ (⊥ : EReal)) :
    ∃ M : ℝ, topC V0 (ix4 b h mi q) = (M : EReal) := top_gen (res_main_v69 V0) b h mi q hx h0

end Cert.ReferenceIdeal.Attn
-- ==== Proof.RefValue.lean ====
/-
  The reference's result over real arguments: at every place the same differential average, normed.
-/
module
public import proofs.«01_k».proof.Proof.Gen.ReferenceIdeal.Run
public import Idealize.ShloMosaic.Lib.Pointwise
public import proofs.«01_k».proof.Proof.RefReads
public import proofs.«01_k».proof.Proof.IdealResult
public import Mathlib.Analysis.SpecialFunctions.Log.Basic
@[expose] public section
set_option maxRecDepth 16384
noncomputable section
namespace Cert.ReferenceIdeal.Attn
open Cert.ReferenceIdeal Cert.ReferenceIdeal.Gen Cert.ReferenceIdeal.Value
open Idealize.ShloMosaic Idealize.ShloMosaic.TcCoe Idealize.ShloMosaic.StableHlo Idealize.SL.Sem
open Cert.KernelIdeal.Attn (bucket bucket_le half avg head score normed resAt lamAt)
open Cert.Column
open scoped BigOperators

theorem out_gen (P : FVec Ideal S2x8192x8x128 .f32) (g : FVec Ideal S128 .f32) (r : Fin 16384) (e : Fin 1024) :
    (truncf .bf16 (shapeCast _ (mulf (mulf (mulf P (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf P P) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32)))))) (broadcastInDim S2x8192x8x128 ![0, 1, 2, 3] bcast_S1x1x1x128_S2x8192x8x128_0_1_2_3 (broadcastInDim S1x1x1x128 ![3] bcast_S128_S1x1x1x128_3 g))) (broadcastInDim S2x8192x8x128 ![] bcast_S_S2x8192x8x128 (constant S_ .f32 0x3F24FD5C#32))) shapeCasts_S2x8192x8x128_S16384x1024) bitsLt_bf16_f32 : FVec Ideal S16384x1024 .bf16) (ix2 r e) =
      normed (fun d => P (ix4 ⟨r.val / 8192, by omega⟩ ⟨r.val % 8192, by omega⟩ ⟨e.val / 128, by omega⟩ d)) (g (ix1 ⟨e.val % 128, by omega⟩)) ⟨e.val % 128, by omega⟩ := by
  pointwise
  rfl

/-- Half the lanes: the other half's products are zero. -/
theorem sum_half (mi : Fin 2) (k y : Fin 128 → ℝ) : (∑ e : Fin 128, k e * half mi y e) = ∑ x : Fin 64, k ⟨mi.val * 64 + x.val, by omega⟩ * y ⟨mi.val * 64 + x.val, by omega⟩ := by
  rw [show (∑ e : Fin 128, k e * half mi y e) = (∑ x : Fin 64, k ⟨x.val, by omega⟩ * half mi y ⟨x.val, by omega⟩) + ∑ x : Fin 64, k ⟨64 + x.val, by omega⟩ * half mi y ⟨64 + x.val, by omega⟩ from
    Fin.sum_univ_add (a := 64) (b := 64) fun e => k e * half mi y e]
  match mi with
  | 0 =>
    rw [Finset.sum_eq_zero (s := Finset.univ) (f := fun x : Fin 64 => k ⟨64 + x.val, by omega⟩ * half 0 y ⟨64 + x.val, by omega⟩) fun x _ => by
      rw [half, if_neg (by simp), mul_zero], add_zero]
    refine Finset.sum_congr rfl fun x _ => ?_
    rw [half, if_pos (by simp)]
    congr <;> simp
  | 1 =>
    rw [Finset.sum_eq_zero (s := Finset.univ) (f := fun x : Fin 64 => k ⟨x.val, by omega⟩ * half 1 y ⟨x.val, by omega⟩) fun x _ => by
      rw [half, if_neg (by simp), mul_zero], zero_add]
    refine Finset.sum_congr rfl fun x _ => ?_
    rw [half, if_pos (by simp)]
    congr <;> simp

variable (V0 : Valuation τ sig (Elt Ideal)) (Q K V R : ℕ → ℕ → ℝ) (L : ℝ)
  (hQ : ∀ (r : Fin 16384) (e : Fin 1024), (show S16384x1024.Idx → EReal from V0 (Proc.devRef .tc main_arg0)) (ix2 r e) = (Q r.val e.val : EReal))
  (hK : ∀ (r : Fin 16384) (e : Fin 1024), (show S16384x1024.Idx → EReal from V0 (Proc.devRef .tc main_arg1)) (ix2 r e) = (K r.val e.val : EReal))
  (hV : ∀ (d : Fin 1024) (p : Fin 16384), (show S1024x16384.Idx → EReal from V0 (Proc.devRef .tc main_arg2)) (ix2 d p) = (V d.val p.val : EReal))
  (hR : ∀ (n : Fin 32) (h : Fin 8), (show S32x8.Idx → EReal from V0 (Proc.devRef .tc main_arg3)) (ix2 n h) = (R n.val h.val : EReal))
  (hL : lamAt (fun r l => (show S4x64.Idx → EReal from V0 (Proc.devRef .tc main_arg4)) (ix2 r l)) = (L : EReal))

/-- The score of a query row and a key row, by one half of the head's lanes. -/
def scoreAt (b h : ℕ) (mi : Fin 2) (q p : ℕ) : ℝ :=
  score (fun p e => K (b * 8192 + p) (h * 128 + e.val)) (half mi fun e => Q (b * 8192 + q) (h * 128 + e.val)) (fun n => R n h) q p

include hQ hK hR in
theorem v69_real (b : Fin 2) (h : Fin 8) (mi : Fin 2) (q p : Fin 8192) : (show S2x8x2x8192x8192.Idx → EReal from res_main_v69 V0) (ix5 b h mi q p) =
    if p.val ≤ q.val then (scoreAt Q K R b.val h.val mi q.val p.val : EReal) else ⊥ := by
  rw [v69_at]
  refine if_congr Iff.rfl ?_ rfl
  rw [hR, lit_two, Ideal.log_coe, if_neg (by norm_num)]
  simp only [hQ, hK, ← EReal.coe_mul]
  rw [← coe_sum, ← EReal.coe_add]
  refine congrArg _ ?_
  unfold scoreAt score
  rw [sum_half, Finset.sum_mul]
  refine congrArg₂ (· + ·) (Finset.sum_congr rfl fun x _ => ?_) rfl
  simp only [add_assoc]
  ring

include hQ hK hR in
/-- A row of the softmax over real scores. -/
theorem v80_real (b : Fin 2) (h : Fin 8) (mi : Fin 2) (q : Fin 8192) : ∃ M : ℝ, ∀ p : Fin 8192, (show S2x8x2x8192x8192.Idx → EReal from res_main_v80 V0) (ix5 b h mi q p) =
    (((if p.val ≤ q.val then Real.exp (scoreAt Q K R b.val h.val mi q.val p.val - M) else 0) / ∑ p : Fin 8192, if p.val ≤ q.val then Real.exp (scoreAt Q K R b.val h.val mi q.val p.val - M) else 0 : ℝ) : EReal) := by
  obtain ⟨M, hM⟩ := top_real V0 b h mi q (fun i => by
      have e := (congrArg (show S2x8x2x8192x8192.Idx → EReal from res_main_v69 V0) (eq_ix5 i)).trans (v69_real V0 Q K R hQ hK hR (i 0) (i 1) (i 2) (i 3) (i 4))
      rw [e]
      split
      · exact EReal.coe_ne_top _
      · exact bot_ne_top) (by
      rw [v69_real V0 Q K R hQ hK hR, if_pos (show (0 : Fin 8192).val ≤ q.val from Nat.zero_le _)]
      exact EReal.coe_ne_bot _)
  refine ⟨M, fun p => ?_⟩
  have h76 : ∀ x : Fin 8192, (show S2x8x2x8192x8192.Idx → EReal from res_main_v76 V0) (ix5 b h mi q x) = ((if x.val ≤ q.val then Real.exp (scoreAt Q K R b.val h.val mi q.val x.val - M) else 0 : ℝ) : EReal) := fun x => by
    rw [v76_at, hM, v69_real V0 Q K R hQ hK hR]
    split
    · rw [← EReal.coe_sub]; rfl
    · rw [EReal.bot_sub]; rfl
  rw [v80_at]
  simp only [h76]
  rw [← coe_sum, Ideal.div_coe, ← EReal.coe_mul, mul_one_div]
  refine ne_of_gt (Finset.sum_pos' (fun x _ => ?_) ⟨0, Finset.mem_univ _, ?_⟩)
  · split
    · exact (Real.exp_pos _).le
    · exact le_rfl
  · rw [if_pos (show (0 : Fin 8192).val ≤ q.val from Nat.zero_le _)]; exact Real.exp_pos _

include hQ hK hV hR hL in
theorem v89_real (b : Fin 2) (q : Fin 8192) (h : Fin 8) (d : Fin 128) : (show S2x8192x8x128.Idx → EReal from res_main_v89 V0) (ix4 b q h d) =
    ((head Q K V R b.val h.val q.val 0 d - L * head Q K V R b.val h.val q.val 1 d : ℝ) : EReal) := by
  obtain ⟨M0, h0⟩ := v80_real V0 Q K R hQ hK hR b h 0 q
  obtain ⟨M1, h1⟩ := v80_real V0 Q K R hQ hK hR b h 1 q
  rw [v89_at]
  simp only [mix_at, h0, h1, lam_at, hL, hV, ← EReal.coe_mul, ← EReal.coe_sub]
  rw [← coe_sum]
  refine congrArg _ ?_
  have e0 := softmax_dot q.val (scoreAt Q K R b.val h.val 0 q.val) (fun p => V (h.val * 128 + d.val) (b.val * 8192 + p)) M0
  have e1 := softmax_dot q.val (scoreAt Q K R b.val h.val 1 q.val) (fun p => V (h.val * 128 + d.val) (b.val * 8192 + p)) M1
  show _ = tot q.val (scoreAt Q K R b.val h.val 0 q.val) (fun p => V (h.val * 128 + d.val) (b.val * 8192 + p)) / tot q.val (scoreAt Q K R b.val h.val 0 q.val) (fun _ => 1)
    - L * (tot q.val (scoreAt Q K R b.val h.val 1 q.val) (fun p => V (h.val * 128 + d.val) (b.val * 8192 + p)) / tot q.val (scoreAt Q K R b.val h.val 1 q.val) fun _ => 1)
  rw [← e0, ← e1, Finset.mul_sum, ← Finset.sum_sub_distrib]
  refine Finset.sum_congr rfl fun p _ => ?_
  ring

include hQ hK hV hR hL in
/-- The reference's result. -/
theorem value : (truncf .bf16 (shapeCast _ (mulf (mulf (mulf (res_main_v89 V0) (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf (res_main_v89 V0) (res_main_v89 V0)) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32)))))) (broadcastInDim S2x8192x8x128 ![0, 1, 2, 3] bcast_S1x1x1x128_S2x8192x8x128_0_1_2_3 (broadcastInDim S1x1x1x128 ![3] bcast_S128_S1x1x1x128_3 (V0 (Proc.devRef .tc main_arg5))))) (broadcastInDim S2x8192x8x128 ![] bcast_S_S2x8192x8x128 (constant S_ .f32 0x3F24FD5C#32))) shapeCasts_S2x8192x8x128_S16384x1024) bitsLt_bf16_f32 : FVec Ideal S16384x1024 .bf16) = fun y : S16384x1024.Idx =>
    resAt Q K V R L (fun d => (show S128.Idx → EReal from V0 (Proc.devRef .tc main_arg5)) (ix1 d)) ((y 0).val / 8192) ((y 1).val / 128) ((y 0).val % 8192) ⟨(y 1).val % 128, Nat.mod_lt _ (by norm_num)⟩ := by
  funext y
  rw [eq_ix2 y]
  refine (out_gen (res_main_v89 V0) (V0 (Proc.devRef .tc main_arg5)) (y 0) (y 1)).trans ?_
  unfold resAt
  refine congrArg (fun o => normed o _ _) (funext fun d => ?_)
  exact v89_real V0 Q K V R L hQ hK hV hR hL _ _ _ d

end Cert.ReferenceIdeal.Attn
-- ==== Proof.Finite.lean ====
/-
  What the precondition gives: the queries, keys, values, table and weight vectors are real numbers, and so is the second softmax's weight.
-/
module

public import proofs.«01_k».proof.Defs
public import proofs.«01_k».proof.Proof.Gen.KernelIdeal
public import proofs.«01_k».proof.Proof.IdealResult
public import Idealize.ShloMosaic.Lib.Pointwise

@[expose] public section

noncomputable section

namespace Cert.Finite

open Idealize.ShloMosaic Idealize.ShloMosaic.TcCoe
open Cert.KernelIdeal Cert.KernelIdeal.Attn
open scoped BigOperators

instance facts : Cert.Pre_finite_inputs.Facts where
  bitsLt_bf16_f32 := by decide
  bcast_S_S16384x1024 := by decide
  bcast_S_S1024x16384 := by decide
  bcast_S_S32x8 := by decide
  bcast_S_S4x64 := by decide

theorem lit_inf : Ideal.ofBits .f32 0x7F800000#32 = ⊤ := by
  simp [Ideal.ofBits, Ideal.ieee]

/-- An absolute value below infinity is a real number's. -/
theorem real_of_word {x : EReal} (h : Ideal.cmp .olt (max x (-x)) (Ideal.ofBits .f32 0x7F800000#32) = 1#1) : ∃ r : ℝ, x = (r : EReal) := by
  rw [lit_inf] at h
  have h' : max x (-x) < ⊤ := by
    by_contra hn
    simp [Ideal.cmp, hn] at h
  have ht : x ≠ ⊤ := fun e => by simp [e] at h'
  have hb : x ≠ ⊥ := fun e => by simp [e] at h'
  exact ⟨x.toReal, (EReal.coe_toReal ht hb).symm⟩

/-- An array of real entries, as a function of two counts. -/
theorem counts {a b : ℕ} (x : Fin a → Fin b → EReal) (h : ∀ r e, ∃ s : ℝ, x r e = (s : EReal)) : ∃ Q : ℕ → ℕ → ℝ, ∀ r e, x r e = (Q r.val e.val : EReal) := by
  refine ⟨fun r e => if hr : r < a then if he : e < b then (x ⟨r, hr⟩ ⟨e, he⟩).toReal else 0 else 0, fun r e => ?_⟩
  obtain ⟨s, hs⟩ := h r e
  simp only [r.isLt, e.isLt, dif_pos, Fin.eta, hs, EReal.toReal_coe]

theorem lit_base : ∃ s : ℝ, Ideal.ofBits .f32 0x3EB60549#32 = (s : EReal) :=
  ⟨11928905 / 33554432, by simp [Ideal.ofBits, Ideal.ieee, -EReal.coe_mul]; norm_num⟩

/-- The second softmax's weight over real vectors. -/
theorem lam_real (f : Fin 4 → Fin 64 → EReal) (w : ℕ → ℕ → ℝ) (hf : ∀ r e, f r e = (w r.val e.val : EReal)) : ∃ L : ℝ, lamAt f = (L : EReal) := by
  obtain ⟨s, hs⟩ := lit_base
  refine ⟨Real.exp (∑ e : Fin 64, w 0 e.val * w 1 e.val) - Real.exp (∑ e : Fin 64, w 2 e.val * w 3 e.val) + s, ?_⟩
  unfold lamAt
  simp only [hf, hs, ← EReal.coe_mul]
  rw [EReal.coe_add, EReal.coe_sub, ← Cert.Column.coe_sum, ← Cert.Column.coe_sum]
  rfl

/-- The arguments' real numbers. -/
theorem reals (m : (ℓ : Loc nD τ sig) → Buf (Elt Ideal) ℓ) (hp : Cert.Pre_KernelIdeal_finite_inputs m) (c : Dev nD) :
    ∃ (Q K V R : ℕ → ℕ → ℝ) (L : ℝ),
      (∀ (r : Fin 16384) (e : Fin 1024), (show S16384x1024.Idx → EReal from m ((c : Thread nD τ).loc main_arg0)) (ix2 r e) = (Q r.val e.val : EReal))
      ∧ (∀ (r : Fin 16384) (e : Fin 1024), (show S16384x1024.Idx → EReal from m ((c : Thread nD τ).loc main_arg1)) (ix2 r e) = (K r.val e.val : EReal))
      ∧ (∀ (d : Fin 1024) (p : Fin 16384), (show S1024x16384.Idx → EReal from m ((c : Thread nD τ).loc main_arg2)) (ix2 d p) = (V d.val p.val : EReal))
      ∧ (∀ (n : Fin 32) (h : Fin 8), (show S32x8.Idx → EReal from m ((c : Thread nD τ).loc main_arg3)) (ix2 n h) = (R n.val h.val : EReal))
      ∧ lamAt (fun r l => (show S4x64.Idx → EReal from m ((c : Thread nD τ).loc main_arg4)) (ix2 r l)) = (L : EReal) := by
  obtain ⟨h0, h1, h2, h3, h4⟩ := hp c
  obtain ⟨Q, hQ⟩ := counts (fun (r : Fin 16384) (e : Fin 1024) => (show S16384x1024.Idx → EReal from m ((c : Thread nD τ).loc main_arg0)) (ix2 r e)) fun r e => real_of_word (congrFun h0 (ix2 r e))
  obtain ⟨K, hK⟩ := counts (fun (r : Fin 16384) (e : Fin 1024) => (show S16384x1024.Idx → EReal from m ((c : Thread nD τ).loc main_arg1)) (ix2 r e)) fun r e => real_of_word (congrFun h1 (ix2 r e))
  obtain ⟨V, hV⟩ := counts (fun (d : Fin 1024) (p : Fin 16384) => (show S1024x16384.Idx → EReal from m ((c : Thread nD τ).loc main_arg2)) (ix2 d p)) fun d p => real_of_word (congrFun h2 (ix2 d p))
  obtain ⟨R, hR⟩ := counts (fun (n : Fin 32) (h : Fin 8) => (show S32x8.Idx → EReal from m ((c : Thread nD τ).loc main_arg3)) (ix2 n h)) fun n h => real_of_word (congrFun h3 (ix2 n h))
  obtain ⟨w, hw⟩ := counts (fun (r : Fin 4) (l : Fin 64) => (show S4x64.Idx → EReal from m ((c : Thread nD τ).loc main_arg4)) (ix2 r l)) fun r l => real_of_word (congrFun h4 (ix2 r l))
  obtain ⟨L, hL⟩ := lam_real _ w hw
  exact ⟨Q, K, V, R, L, hQ, hK, hV, hR, hL⟩

end Cert.Finite
-- ==== Proof.Normed.lean ====
/-
  A row with its norm taken out, weighted, scaled and shifted: the step before the first layer's projection and after its mixer.
-/
module
public import Idealize.ShloMosaic.Lib.Pointwise
@[expose] public section
noncomputable section
namespace Cert.Layer
open Idealize.ShloMosaic
open scoped BigOperators

/-- Element `e` of a row over its root mean square, times its weight, times one more than its scale, plus its shift. -/
def normed (x g sc sh : Fin 1024 → EReal) (e : Fin 1024) : EReal :=
  x e * Ideal.rsqrt (Ideal.div (∑ i, x i * x i) (Ideal.ofBits .f32 0x44800000#32) + Ideal.ofBits .f32 0x358637BD#32) * g e
    * (1 + sc e) + sh e

end Cert.Layer
-- ==== Proof.InBlock.lean ====
/-
  The projection into the first layer's mixer: what one step computes, and what the reference's result holds, element by
  element.
-/
module
public import proofs.«01_k».proof.Proof.Gen.KernelInIdeal.Value
public import proofs.«01_k».proof.Proof.Gen.ReferenceInIdeal.Run
public import proofs.«01_k».proof.Proof.Normed
@[expose] public section
set_option maxRecDepth 16384
noncomputable section

namespace Cert.KernelInIdeal.In
open Cert.KernelInIdeal Cert.KernelInIdeal.Gen Cert.Layer
open Idealize.ShloMosaic Idealize.ShloMosaic.TcCoe Idealize.SL.Sem
open scoped BigOperators

/-- The rows the first of three steps leaves in the scratch, normed. -/
theorem pay1_at (X : Vec Ideal S1x512x1024 .f32) (g : Vec Ideal S1x1024 .f32) (sc sh : Vec Ideal S1x1x1024 .f32) (r : Fin 512) (e : Fin 1024) :
    (k0_pay1 X g sc sh : S512x1024.Idx → EReal) (ix2 r e) =
      normed (fun i => X (ix3 0 r i)) (fun i => g (ix2 0 i)) (fun i => sc (ix3 0 0 i)) (fun i => sh (ix3 0 0 i)) e := by
  unfold k0_pay1
  pointwise
  rfl

/-- A step's block: the product with the step's columns of the weights. -/
theorem pay2_at (H : Vec Ideal S512x1024 .bf16) (W : Vec Ideal S1024x1920 .bf16) (r : Fin 512) (j : Fin 1920) :
    (k0_pay2 H W : S512x1920.Idx → EReal) (ix2 r j) = ∑ k : Fin 1024, H (ix2 r k) * W (ix2 k j) := by
  pointwise [k0_pay2]

end Cert.KernelInIdeal.In

namespace Cert.ReferenceInIdeal.In
open Cert.ReferenceInIdeal Cert.ReferenceInIdeal.Gen Cert.Layer
open Idealize.ShloMosaic Idealize.ShloMosaic.TcCoe Idealize.ShloMosaic.StableHlo Idealize.SL.Sem
open scoped BigOperators

/-- The reference's normed rows. -/
abbrev hC (x : FVec Ideal S2x8192x1024 .f32) (g : FVec Ideal S1024 .f32) (sc sh : FVec Ideal S2x1x1024 .f32) : FVec Ideal S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)

theorem h_at (x : FVec Ideal S2x8192x1024 .f32) (g : FVec Ideal S1024 .f32) (sc sh : FVec Ideal S2x1x1024 .f32) (b : Fin 2) (l : Fin 8192) (e : Fin 1024) :
    (hC x g sc sh : S2x8192x1024.Idx → EReal) (ix3 b l e) =
      normed (fun i => x (ix3 b l i)) (fun i => g (ix1 i)) (fun i => sc (ix3 b 0 i)) (fun i => sh (ix3 b 0 i)) e := by
  pointwise [hC]
  rfl

/-- The reference's product. -/
abbrev pC (h : FVec Ideal S2x8192x1024 .f32) (w : FVec Ideal S1024x5760 .bf16) : FVec Ideal S16384x5760 .f32 :=
  shapeCast _ (Host.dotGeneral dot_S2x8192x1024_S1024x5760_S2x8192x5760_2_0_01_1_n_n none h (extf .f32 w bitsLt_bf16_f32)) shapeCasts_S2x8192x5760_S16384x5760

theorem p_at (h : FVec Ideal S2x8192x1024 .f32) (w : FVec Ideal S1024x5760 .bf16) (r : Fin 16384) (j : Fin 5760) :
    (pC h w : S16384x5760.Idx → EReal) (ix2 r j) = ∑ k : Fin 1024, h (ix3 ⟨r.val / 8192, by omega⟩ ⟨r.val % 8192, by omega⟩ k) * w (ix2 k j) := by
  pointwise [pC]

end Cert.ReferenceInIdeal.In
-- ==== Proof.InValue.lean ====
/-
  The projection into the first layer's mixer: its result array is the reference's.
-/
module
public import proofs.«01_k».proof.Proof.InBlock
public import Idealize.ShloMosaic.Lib.Pipeline.ValueKit.Acc
public import Idealize.ShloMosaic.Lib.Pipeline.ValueKit.Geometry
public import Idealize.ShloMosaic.Lib.Claim
public import Idealize.ShloMosaic.Lib.Pointwise
@[expose] public section
set_option maxRecDepth 16384
noncomputable section

namespace Cert.KernelInIdeal.In
open Cert.KernelInIdeal Cert.KernelInIdeal.Gen Cert.Layer
open Idealize.ShloMosaic Idealize.ShloMosaic.TcCoe Idealize.ShloMosaic.Tactic Idealize.SL.Sem
open Idealize.ShloMosaic.Pipeline (Dat)
open Cert.ReferenceInIdeal.In (hC pC h_at p_at)
open scoped BigOperators

variable (m : (ℓ : Loc nD τ sig) → Buf (Elt Ideal) ℓ) (c : Dev nD)

/-- Where the blocks lie. -/
theorem idx : ∀ t : Fin cfg0.N, win0_0.index t = ![(grid0.coords t 0).val, (grid0.coords t 1).val, 0]
    ∧ win0_1.index t = ![0, 0]
    ∧ win0_2.index t = ![(grid0.coords t 0).val, 0, 0]
    ∧ win0_3.index t = ![(grid0.coords t 0).val, 0, 0]
    ∧ win0_4.index t = ![0, (grid0.coords t 2).val]
    ∧ win0_5.index t = ![(grid0.coords t 0).val * 16 + (grid0.coords t 1).val, (grid0.coords t 2).val]
    ∧ (grid0.coords t 0).val < 2 ∧ (grid0.coords t 1).val < 16 ∧ (grid0.coords t 2).val < 3 :=
  (by decide +kernel : ∀ t : Fin grid0.N, _)

/-- The three steps of one block of rows follow each other. -/
theorem steps : ∀ t : Fin cfg0.N, (grid0.coords t 0).val = t.val / 48 ∧ (grid0.coords t 1).val = t.val / 3 % 16 :=
  (by decide +kernel : ∀ t : Fin grid0.N, _)

abbrev X : FVec Ideal S2x8192x1024 .f32 := m ((c : Thread nD τ).loc main_arg0)
abbrev Gn : FVec Ideal S1024 .f32 := m ((c : Thread nD τ).loc main_arg1)
abbrev Sc : FVec Ideal S2x1x1024 .f32 := m ((c : Thread nD τ).loc main_arg2)
abbrev Sh : FVec Ideal S2x1x1024 .f32 := m ((c : Thread nD τ).loc main_arg3)
abbrev W : FVec Ideal S1024x5760 .bf16 := m ((c : Thread nD τ).loc main_arg4)

theorem blkX (t : Fin cfg0.N) (z : Fin 1) (r : Fin 512) (e : Fin 1024) : (show S1x512x1024.Idx → EReal from iblk m c 0 t) (ix3 z r e)
    = (show S2x8192x1024.Idx → EReal from X m c) (ix3 ⟨(grid0.coords t 0).val, by have := idx t; omega⟩ ⟨(grid0.coords t 1).val * 512 + r.val, by have := idx t; omega⟩ e) := by
  rw [show X m c = _ from (V_main_arg0 m c).symm]
  blk_ext [iblk, idx t]

/-- The gain as one row, as the call's operand holds it. -/
theorem gain_eq (e : Fin 1024) : (show S1x1024.Idx → EReal from V m c main_v0) (ix2 0 e) = (show S1024.Idx → EReal from Gn m c) (ix1 e) := by
  show (show S1x1024.Idx → EReal from StableHlo.after hostOps0 (fun b => m (c, b)) main_v0) (ix2 0 e) = _
  entry_read
  pointwise

theorem blkG (t : Fin cfg0.N) (e : Fin 1024) : (show S1x1024.Idx → EReal from iblk m c 1 t) (ix2 0 e)
    = (show S1024.Idx → EReal from Gn m c) (ix1 e) := by
  refine Eq.trans ?_ (gain_eq m c e)
  blk_ext [iblk, idx t]

theorem blkSc (t : Fin cfg0.N) (e : Fin 1024) : (show S1x1x1024.Idx → EReal from iblk m c 2 t) (ix3 0 0 e)
    = (show S2x1x1024.Idx → EReal from Sc m c) (ix3 ⟨(grid0.coords t 0).val, by have := idx t; omega⟩ 0 e) := by
  rw [show Sc m c = _ from (V_main_arg2 m c).symm]
  blk_ext [iblk, idx t]

theorem blkSh (t : Fin cfg0.N) (e : Fin 1024) : (show S1x1x1024.Idx → EReal from iblk m c 3 t) (ix3 0 0 e)
    = (show S2x1x1024.Idx → EReal from Sh m c) (ix3 ⟨(grid0.coords t 0).val, by have := idx t; omega⟩ 0 e) := by
  rw [show Sh m c = _ from (V_main_arg3 m c).symm]
  blk_ext [iblk, idx t]

theorem blkW (t : Fin cfg0.N) (k : Fin 1024) (j : Fin 1920) : (show S1024x1920.Idx → EReal from iblk m c 4 t) (ix2 k j)
    = (show S1024x5760.Idx → EReal from W m c) (ix2 k ⟨(grid0.coords t 2).val * 1920 + j.val, by have := idx t; omega⟩) := by
  rw [show W m c = _ from (V_main_arg4 m c).symm]
  blk_ext [iblk, idx t]

/-- The normed rows of a step's block are the reference's at the block's place. -/
theorem rows_at (t : Fin cfg0.N) (r : Fin 512) (e : Fin 1024) :
    (show S512x1024.Idx → EReal from k0_pay1 (iblk m c 0 t) (iblk m c 1 t) (iblk m c 2 t) (iblk m c 3 t)) (ix2 r e)
      = (hC (X m c) (Gn m c) (Sc m c) (Sh m c) : S2x8192x1024.Idx → EReal) (ix3 ⟨(grid0.coords t 0).val, by have := idx t; omega⟩ ⟨(grid0.coords t 1).val * 512 + r.val, by have := idx t; omega⟩ e) := by
  refine (pay1_at (iblk m c 0 t) (iblk m c 1 t) (iblk m c 2 t) (iblk m c 3 t) r e).trans (Eq.trans ?_ (h_at (X m c) (Gn m c) (Sc m c) (Sh m c) _ _ e).symm)
  congr 1
  · funext i; exact blkX m c t 0 r i
  · funext i; exact blkG m c t i
  · funext i; exact blkSc m c t i
  · funext i; exact blkSh m c t i

/-- What the scratch holds after a step: the normed rows of the step's block. -/
theorem scratch_at (n : ℕ) : ∀ (hn : n < cfg0.N) (r : Fin 512) (e : Fin 1024),
    (show S512x1024.Idx → EReal from (outsAt0 m c n hn).2) (ix2 r e)
      = (hC (X m c) (Gn m c) (Sc m c) (Sh m c) : S2x8192x1024.Idx → EReal) (ix3 ⟨(grid0.coords ⟨n, hn⟩ 0).val, by have := idx ⟨n, hn⟩; omega⟩ ⟨(grid0.coords ⟨n, hn⟩ 1).val * 512 + r.val, by have := idx ⟨n, hn⟩; omega⟩ e) := by
  induction n with
  | zero =>
    intro hn r e
    refine Eq.trans ?_ (rows_at m c ⟨0, hn⟩ r e)
    rw [outsAt0_A m c ⟨0, hn⟩ rfl]
    frame_out
  | succ n ih =>
    intro hn r e
    by_cases h0 : (n + 1) % 3 = 0
    · refine Eq.trans ?_ (rows_at m c ⟨n + 1, hn⟩ r e)
      rw [outsAt0_A m c ⟨n + 1, hn⟩ h0]
      frame_out
    · have s1 := steps ⟨n, Nat.lt_of_succ_lt hn⟩
      have s2 := steps ⟨n + 1, hn⟩
      rw [outsAt0_B m c ⟨n + 1, hn⟩ h0]
      frame_out
      refine (ih (Nat.lt_of_succ_lt hn) r e).trans (congrArg₂ (fun b l => (hC (X m c) (Gn m c) (Sc m c) (Sh m c) : S2x8192x1024.Idx → EReal) (ix3 b l e)) (Fin.ext ?_) (Fin.ext ?_))
      · simp only [s1.1, s2.1]; omega
      · simp only [s1.2, s2.2]; omega

theorem final5 : (dats m 0 c).arrAt 5 cfg0.N = pC (hC (X m c) (Gn m c) (Sc m c) (Sh m c)) (W m c) := by
  refine (dats m 0 c).arrAt_eq_of_covers 5 _ (by decide +kernel) fun t _ y => ?_
  obtain ⟨r, j, rfl⟩ : ∃ (r : Fin 512) (j : Fin 1920), y = ix2 r j := ⟨y 0, y 1, by funext a; fin_cases a <;> rfl⟩
  have hi := idx t
  have hr := r.isLt
  have hj := j.isLt
  have e1 : (((grid0.coords t 0).val * 16 + (grid0.coords t 1).val) * 512 + r.val) / 8192 = (grid0.coords t 0).val := by omega
  have e2 : (((grid0.coords t 0).val * 16 + (grid0.coords t 1).val) * 512 + r.val) % 8192 = (grid0.coords t 1).val * 512 + r.val := by omega
  have key : ∀ H : FVec Ideal S512x1024 .bf16, (∀ (r : Fin 512) (e : Fin 1024), (H : S512x1024.Idx → EReal) (ix2 r e)
        = (hC (X m c) (Gn m c) (Sc m c) (Sh m c) : S2x8192x1024.Idx → EReal) (ix3 ⟨(grid0.coords t 0).val, by omega⟩ ⟨(grid0.coords t 1).val * 512 + r.val, by omega⟩ e)) →
      (show S512x1920.Idx → EReal from k0_pay2 H (iblk m c 4 t)) (ix2 r j)
        = (pC (hC (X m c) (Gn m c) (Sc m c) (Sh m c)) (W m c) : S16384x5760.Idx → EReal) (ix2 ⟨((grid0.coords t 0).val * 16 + (grid0.coords t 1).val) * 512 + r.val, by omega⟩ ⟨(grid0.coords t 2).val * 1920 + j.val, by omega⟩) := by
    intro H hH
    refine (pay2_at H (iblk m c 4 t) r j).trans (Eq.trans ?_ (p_at (hC (X m c) (Gn m c) (Sc m c) (Sh m c)) (W m c) _ _).symm)
    refine Finset.sum_congr rfl fun k _ => congrArg₂ (· * ·) ((hH r k).trans ?_) (blkW m c t k j)
    exact congrArg₂ (fun b l => (hC (X m c) (Gn m c) (Sc m c) (Sh m c) : S2x8192x1024.Idx → EReal) (ix3 b l k)) (Fin.ext e1.symm) (Fin.ext e2.symm)
  blk_simp [idx t]
  rw [after0_5]
  by_cases h0 : t.val % 3 = 0
  · rw [outsAt0_A m c t h0]
    frame_out
    refine (key _ (rows_at m c t)).trans (congrArg (pC (hC (X m c) (Gn m c) (Sc m c) (Sh m c)) (W m c) : S16384x5760.Idx → EReal) ?_)
    blk_ext [idx t]
  · rw [outsAt0_B m c t h0]
    frame_out
    refine (key _ fun r e => ?_).trans (congrArg (pC (hC (X m c) (Gn m c) (Sc m c) (Sh m c)) (W m c) : S16384x5760.Idx → EReal) ?_)
    · refine Eq.trans ?_ (scratch_at m c t.val t.isLt r e)
      rw [outsAt0_B m c t h0]
      frame_out
      exact congrFun ((Memref.isWhole_whole cc0_scratch0).read_unread _) _
    · blk_ext [idx t]

end Cert.KernelInIdeal.In
-- ==== Proof.OutBlock.lean ====
/-
  The projection out of the first layer's mixer: what one step leaves in its two blocks, and what the reference's two results
  hold, element by element.
-/
module
public import proofs.«01_k».proof.Proof.Gen.KernelOutIdeal.Value
public import proofs.«01_k».proof.Proof.Gen.ReferenceOutIdeal.Run
public import proofs.«01_k».proof.Proof.Normed
@[expose] public section
set_option maxRecDepth 16384
noncomputable section

namespace Cert.KernelOutIdeal.Out
open Cert.KernelOutIdeal Cert.KernelOutIdeal.Gen Cert.Layer
open Idealize.ShloMosaic Idealize.ShloMosaic.TcCoe Idealize.SL.Sem
open scoped BigOperators

/-- A step's first block: the residual plus its gate times the product. -/
theorem pay2_at (A : Vec Ideal S512x3072 .bf16) (W : Vec Ideal S3072x1024 .bf16) (X : Vec Ideal S1x512x1024 .f32) (G : Vec Ideal S1x1x1024 .f32) (z : Fin 1) (r : Fin 512) (e : Fin 1024) :
    (k0_pay2 A W X G : S1x512x1024.Idx → EReal) (ix3 z r e) = X (ix3 z r e) + G (ix3 0 0 e) * ∑ k : Fin 3072, A (ix2 r k) * W (ix2 k e) := by
  pointwise [k0_pay2]

/-- A step's second block: the first block's rows, normed. -/
theorem pay1_at (x1 : Vec Ideal S1x512x1024 .f32) (A : Vec Ideal S512x3072 .bf16) (W : Vec Ideal S3072x1024 .bf16) (X : Vec Ideal S1x512x1024 .f32) (G : Vec Ideal S1x1x1024 .f32) (g : Vec Ideal S1x1024 .f32) (sc sh : Vec Ideal S1x1x1024 .f32)
    (h : k0_pay2 A W X G = x1) (r : Fin 512) (e : Fin 1024) :
    (k0_pay1 (k0_pay3 A W X G g sc) sh : S512x1024.Idx → EReal) (ix2 r e) =
      normed (fun i => x1 (ix3 0 r i)) (fun i => g (ix2 0 i)) (fun i => sc (ix3 0 0 i)) (fun i => sh (ix3 0 0 i)) e := by
  unfold k0_pay1 k0_pay3
  rw [h]
  pointwise
  rfl

end Cert.KernelOutIdeal.Out

namespace Cert.ReferenceOutIdeal.Out
open Cert.ReferenceOutIdeal Cert.ReferenceOutIdeal.Gen Cert.Layer
open Idealize.ShloMosaic Idealize.ShloMosaic.TcCoe Idealize.ShloMosaic.StableHlo Idealize.SL.Sem
open scoped BigOperators

/-- The reference's residual. -/
abbrev x1C (A : FVec Ideal S16384x3072 .bf16) (W : FVec Ideal S3072x1024 .bf16) (X : FVec Ideal S2x8192x1024 .f32) (G : FVec Ideal S2x1x1024 .f32) : FVec Ideal S2x8192x1024 .f32 :=
  addf X (mulf (broadcastInDim S2x8192x1024 ![0, 1, 2] bcast_S2x1x1024_S2x8192x1024_0_1_2 G) (Host.dotGeneral dot_S2x8192x3072_S3072x1024_S2x8192x1024_2_0_01_1_n_n none (shapeCast _ (extf .f32 A bitsLt_bf16_f32) shapeCasts_S16384x3072_S2x8192x3072) (extf .f32 W bitsLt_bf16_f32)))

theorem x1_at (A : FVec Ideal S16384x3072 .bf16) (W : FVec Ideal S3072x1024 .bf16) (X : FVec Ideal S2x8192x1024 .f32) (G : FVec Ideal S2x1x1024 .f32) (b : Fin 2) (l : Fin 8192) (e : Fin 1024) :
    (x1C A W X G : S2x8192x1024.Idx → EReal) (ix3 b l e) = X (ix3 b l e) + G (ix3 b 0 e) * ∑ k : Fin 3072, A (ix2 ⟨b.val * 8192 + l.val, by omega⟩ k) * W (ix2 k e) := by
  pointwise [x1C]

/-- The reference's normed rows. -/
abbrev hnC (x : FVec Ideal S2x8192x1024 .f32) (g : FVec Ideal S1024 .f32) (sc sh : FVec Ideal S2x1x1024 .f32) : FVec Ideal S16384x1024 .bf16 :=
  truncf .bf16 (shapeCast _ (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) shapeCasts_S2x8192x1024_S16384x1024) bitsLt_bf16_f32

theorem hn_at (x : FVec Ideal S2x8192x1024 .f32) (g : FVec Ideal S1024 .f32) (sc sh : FVec Ideal S2x1x1024 .f32) (r : Fin 16384) (e : Fin 1024) :
    (hnC x g sc sh : S16384x1024.Idx → EReal) (ix2 r e) =
      normed (fun i => x (ix3 ⟨r.val / 8192, by omega⟩ ⟨r.val % 8192, by omega⟩ i)) (fun i => g (ix1 i)) (fun i => sc (ix3 ⟨r.val / 8192, by omega⟩ 0 i)) (fun i => sh (ix3 ⟨r.val / 8192, by omega⟩ 0 i)) e := by
  pointwise [hnC]
  rfl

end Cert.ReferenceOutIdeal.Out
-- ==== Proof.OutValue.lean ====
/-
  The projection out of the first layer's mixer: its two result arrays are the reference's.
-/
module
public import proofs.«01_k».proof.Proof.OutBlock
public import Idealize.ShloMosaic.Lib.Pipeline.ValueKit.Acc
public import Idealize.ShloMosaic.Lib.Pipeline.ValueKit.Geometry
public import Idealize.ShloMosaic.Lib.Claim
public import Idealize.ShloMosaic.Lib.Pointwise
@[expose] public section
set_option maxRecDepth 16384
noncomputable section

namespace Cert.KernelOutIdeal.Out
open Cert.KernelOutIdeal Cert.KernelOutIdeal.Gen Cert.Layer
open Idealize.ShloMosaic Idealize.ShloMosaic.TcCoe Idealize.ShloMosaic.Tactic Idealize.SL.Sem
open Idealize.ShloMosaic.Pipeline (Dat)
open Cert.ReferenceOutIdeal.Out (x1C hnC x1_at hn_at)
open scoped BigOperators

variable (m : (ℓ : Loc nD τ sig) → Buf (Elt Ideal) ℓ) (c : Dev nD)

/-- Where the blocks lie. -/
theorem idx : ∀ t : Fin cfg0.N, win0_0.index t = ![(grid0.coords t 0).val * 16 + (grid0.coords t 1).val, 0]
    ∧ win0_1.index t = ![0, 0]
    ∧ win0_2.index t = ![(grid0.coords t 0).val, (grid0.coords t 1).val, 0]
    ∧ win0_3.index t = ![(grid0.coords t 0).val, 0, 0]
    ∧ win0_4.index t = ![0, 0]
    ∧ win0_5.index t = ![(grid0.coords t 0).val, 0, 0]
    ∧ win0_6.index t = ![(grid0.coords t 0).val, 0, 0]
    ∧ win0_7.index t = ![(grid0.coords t 0).val, (grid0.coords t 1).val, 0]
    ∧ win0_8.index t = ![(grid0.coords t 0).val * 16 + (grid0.coords t 1).val, 0]
    ∧ (grid0.coords t 0).val < 2 ∧ (grid0.coords t 1).val < 16 :=
  (by decide +kernel : ∀ t : Fin grid0.N, _)

abbrev A : FVec Ideal S16384x3072 .bf16 := m ((c : Thread nD τ).loc main_arg0)
abbrev W : FVec Ideal S3072x1024 .bf16 := m ((c : Thread nD τ).loc main_arg1)
abbrev X : FVec Ideal S2x8192x1024 .f32 := m ((c : Thread nD τ).loc main_arg2)
abbrev G1 : FVec Ideal S2x1x1024 .f32 := m ((c : Thread nD τ).loc main_arg3)
abbrev Gn : FVec Ideal S1024 .f32 := m ((c : Thread nD τ).loc main_arg4)
abbrev Sc : FVec Ideal S2x1x1024 .f32 := m ((c : Thread nD τ).loc main_arg5)
abbrev Sh : FVec Ideal S2x1x1024 .f32 := m ((c : Thread nD τ).loc main_arg6)

theorem blkA (t : Fin cfg0.N) (r : Fin 512) (k : Fin 3072) : (show S512x3072.Idx → EReal from iblk m c 0 t) (ix2 r k)
    = (show S16384x3072.Idx → EReal from A m c) (ix2 ⟨((grid0.coords t 0).val * 16 + (grid0.coords t 1).val) * 512 + r.val, by have := idx t; omega⟩ k) := by
  rw [show A m c = _ from (V_main_arg0 m c).symm]
  blk_ext [iblk, idx t]

theorem blkW (t : Fin cfg0.N) (k : Fin 3072) (e : Fin 1024) : (show S3072x1024.Idx → EReal from iblk m c 1 t) (ix2 k e)
    = (show S3072x1024.Idx → EReal from W m c) (ix2 k e) := by
  rw [show W m c = _ from (V_main_arg1 m c).symm]
  blk_ext [iblk, idx t]

theorem blkX (t : Fin cfg0.N) (z : Fin 1) (r : Fin 512) (e : Fin 1024) : (show S1x512x1024.Idx → EReal from iblk m c 2 t) (ix3 z r e)
    = (show S2x8192x1024.Idx → EReal from X m c) (ix3 ⟨(grid0.coords t 0).val, by have := idx t; omega⟩ ⟨(grid0.coords t 1).val * 512 + r.val, by have := idx t; omega⟩ e) := by
  rw [show X m c = _ from (V_main_arg2 m c).symm]
  blk_ext [iblk, idx t]

theorem blkG1 (t : Fin cfg0.N) (e : Fin 1024) : (show S1x1x1024.Idx → EReal from iblk m c 3 t) (ix3 0 0 e)
    = (show S2x1x1024.Idx → EReal from G1 m c) (ix3 ⟨(grid0.coords t 0).val, by have := idx t; omega⟩ 0 e) := by
  rw [show G1 m c = _ from (V_main_arg3 m c).symm]
  blk_ext [iblk, idx t]

theorem blkSc (t : Fin cfg0.N) (e : Fin 1024) : (show S1x1x1024.Idx → EReal from iblk m c 5 t) (ix3 0 0 e)
    = (show S2x1x1024.Idx → EReal from Sc m c) (ix3 ⟨(grid0.coords t 0).val, by have := idx t; omega⟩ 0 e) := by
  rw [show Sc m c = _ from (V_main_arg5 m c).symm]
  blk_ext [iblk, idx t]

theorem blkSh (t : Fin cfg0.N) (e : Fin 1024) : (show S1x1x1024.Idx → EReal from iblk m c 6 t) (ix3 0 0 e)
    = (show S2x1x1024.Idx → EReal from Sh m c) (ix3 ⟨(grid0.coords t 0).val, by have := idx t; omega⟩ 0 e) := by
  rw [show Sh m c = _ from (V_main_arg6 m c).symm]
  blk_ext [iblk, idx t]

/-- The gain as one row, as the call's operand holds it. -/
theorem gain_eq (e : Fin 1024) : (show S1x1024.Idx → EReal from V m c main_v0) (ix2 0 e) = (show S1024.Idx → EReal from Gn m c) (ix1 e) := by
  show (show S1x1024.Idx → EReal from StableHlo.after hostOps0 (fun b => m (c, b)) main_v0) (ix2 0 e) = _
  entry_read
  pointwise

theorem blkG (t : Fin cfg0.N) (e : Fin 1024) : (show S1x1024.Idx → EReal from iblk m c 4 t) (ix2 0 e)
    = (show S1024.Idx → EReal from Gn m c) (ix1 e) := by
  refine Eq.trans ?_ (gain_eq m c e)
  blk_ext [iblk, idx t]

/-- A step's first block is the reference's at the block's place. -/
theorem first_at (t : Fin cfg0.N) (z : Fin 1) (r : Fin 512) (e : Fin 1024) :
    (show S1x512x1024.Idx → EReal from k0_pay2 (iblk m c 0 t) (iblk m c 1 t) (iblk m c 2 t) (iblk m c 3 t)) (ix3 z r e)
      = (x1C (A m c) (W m c) (X m c) (G1 m c) : S2x8192x1024.Idx → EReal) (ix3 ⟨(grid0.coords t 0).val, by have := idx t; omega⟩ ⟨(grid0.coords t 1).val * 512 + r.val, by have := idx t; omega⟩ e) := by
  refine (pay2_at (iblk m c 0 t) (iblk m c 1 t) (iblk m c 2 t) (iblk m c 3 t) z r e).trans ((x1_at (A m c) (W m c) (X m c) (G1 m c) _ _ e).trans ?_).symm
  refine congrArg₂ (· + ·) (blkX m c t z r e).symm (congrArg₂ (· * ·) (blkG1 m c t e).symm (Finset.sum_congr rfl fun k _ => congrArg₂ (· * ·) ?_ (blkW m c t k e).symm))
  refine Eq.trans ?_ (blkA m c t r k).symm
  exact congrArg (fun n => (show S16384x3072.Idx → EReal from A m c) (ix2 n k)) (Fin.ext (by show (grid0.coords t 0).val * 8192 + ((grid0.coords t 1).val * 512 + r.val) = _; simp only []; omega))

theorem final7 : (dats m 0 c).arrAt 7 cfg0.N = x1C (A m c) (W m c) (X m c) (G1 m c) := by
  refine (dats m 0 c).arrAt_eq_of_covers 7 _ (by decide +kernel) fun t _ y => ?_
  obtain ⟨z, r, e, rfl⟩ : ∃ (z : Fin 1) (r : Fin 512) (e : Fin 1024), y = ix3 z r e := ⟨y 0, y 1, y 2, by funext a; fin_cases a <;> rfl⟩
  blk_simp [idx t]
  rw [after0_7]
  frame_out
  refine (first_at m c t z r e).trans ?_
  refine congrArg (x1C (A m c) (W m c) (X m c) (G1 m c) : S2x8192x1024.Idx → EReal) ?_
  blk_ext [idx t]

theorem final8 : (dats m 0 c).arrAt 8 cfg0.N = hnC (x1C (A m c) (W m c) (X m c) (G1 m c)) (Gn m c) (Sc m c) (Sh m c) := by
  refine (dats m 0 c).arrAt_eq_of_covers 8 _ (by decide +kernel) fun t _ y => ?_
  obtain ⟨r, e, rfl⟩ : ∃ (r : Fin 512) (e : Fin 1024), y = ix2 r e := ⟨y 0, y 1, by funext a; fin_cases a <;> rfl⟩
  blk_simp [idx t]
  rw [after0_8]
  frame_out
  have hi := idx t
  have hr := r.isLt
  have e1 : (((grid0.coords t 0).val * 16 + (grid0.coords t 1).val) * 512 + r.val) / 8192 = (grid0.coords t 0).val := by omega
  have e2 : (((grid0.coords t 0).val * 16 + (grid0.coords t 1).val) * 512 + r.val) % 8192 = (grid0.coords t 1).val * 512 + r.val := by omega
  refine (pay1_at _ (iblk m c 0 t) (iblk m c 1 t) (iblk m c 2 t) (iblk m c 3 t) (iblk m c 4 t) (iblk m c 5 t) (iblk m c 6 t) rfl r e).trans ?_
  refine Eq.trans ?_ (hn_at (x1C (A m c) (W m c) (X m c) (G1 m c)) (Gn m c) (Sc m c) (Sh m c) ⟨((grid0.coords t 0).val * 16 + (grid0.coords t 1).val) * 512 + r.val, by omega⟩ e).symm |>.trans ?_
  · congr 1
    · funext i
      refine (first_at m c t 0 r i).trans (congrArg (x1C (A m c) (W m c) (X m c) (G1 m c) : S2x8192x1024.Idx → EReal) ?_)
      exact congrArg₂ (fun b l => ix3 b l i) (Fin.ext e1.symm) (Fin.ext e2.symm)
    · funext i; exact blkG m c t i
    · funext i
      exact (blkSc m c t i).trans (congrArg (fun b => (show S2x1x1024.Idx → EReal from Sc m c) (ix3 b 0 i)) (Fin.ext e1.symm))
    · funext i
      exact (blkSh m c t i).trans (congrArg (fun b => (show S2x1x1024.Idx → EReal from Sh m c) (ix3 b 0 i)) (Fin.ext e1.symm))
  · refine congrArg (hnC (x1C (A m c) (W m c) (X m c) (G1 m c)) (Gn m c) (Sc m c) (Sh m c) : S16384x1024.Idx → EReal) ?_
    blk_ext [idx t]

end Cert.KernelOutIdeal.Out
-- ==== Proof.Out2Block.lean ====
/-
  The projection out of the second layer's attention: what one step leaves in its two blocks, and what the reference's two results
  hold, element by element.
-/
module
public import proofs.«01_k».proof.Proof.Gen.KernelOut2Ideal.Value
public import proofs.«01_k».proof.Proof.Gen.ReferenceOut2Ideal.Run
public import proofs.«01_k».proof.Proof.Normed
@[expose] public section
set_option maxRecDepth 16384
noncomputable section

namespace Cert.KernelOut2Ideal.Out
open Cert.KernelOut2Ideal Cert.KernelOut2Ideal.Gen Cert.Layer
open Idealize.ShloMosaic Idealize.ShloMosaic.TcCoe Idealize.SL.Sem
open scoped BigOperators

/-- A step's first block: the residual plus its gate times the product. -/
theorem pay2_at (A : Vec Ideal S512x1024 .bf16) (W : Vec Ideal S1024x1024 .bf16) (X : Vec Ideal S1x512x1024 .f32) (G : Vec Ideal S1x1x1024 .f32) (z : Fin 1) (r : Fin 512) (e : Fin 1024) :
    (k0_pay2 A W X G : S1x512x1024.Idx → EReal) (ix3 z r e) = X (ix3 z r e) + G (ix3 0 0 e) * ∑ k : Fin 1024, A (ix2 r k) * W (ix2 k e) := by
  pointwise [k0_pay2]

/-- A step's second block: the first block's rows, normed. -/
theorem pay1_at (x1 : Vec Ideal S1x512x1024 .f32) (A : Vec Ideal S512x1024 .bf16) (W : Vec Ideal S1024x1024 .bf16) (X : Vec Ideal S1x512x1024 .f32) (G : Vec Ideal S1x1x1024 .f32) (g : Vec Ideal S1x1024 .f32) (sc sh : Vec Ideal S1x1x1024 .f32)
    (h : k0_pay2 A W X G = x1) (r : Fin 512) (e : Fin 1024) :
    (k0_pay1 (k0_pay3 A W X G g sc) sh : S512x1024.Idx → EReal) (ix2 r e) =
      normed (fun i => x1 (ix3 0 r i)) (fun i => g (ix2 0 i)) (fun i => sc (ix3 0 0 i)) (fun i => sh (ix3 0 0 i)) e := by
  unfold k0_pay1 k0_pay3
  rw [h]
  pointwise
  rfl

end Cert.KernelOut2Ideal.Out

namespace Cert.ReferenceOut2Ideal.Out
open Cert.ReferenceOut2Ideal Cert.ReferenceOut2Ideal.Gen Cert.Layer
open Idealize.ShloMosaic Idealize.ShloMosaic.TcCoe Idealize.ShloMosaic.StableHlo Idealize.SL.Sem
open scoped BigOperators

/-- The reference's residual. -/
abbrev x1C (A : FVec Ideal S16384x1024 .bf16) (W : FVec Ideal S1024x1024 .bf16) (X : FVec Ideal S2x8192x1024 .f32) (G : FVec Ideal S2x1x1024 .f32) : FVec Ideal S2x8192x1024 .f32 :=
  addf X (mulf (broadcastInDim S2x8192x1024 ![0, 1, 2] bcast_S2x1x1024_S2x8192x1024_0_1_2 G) (Host.dotGeneral dot_S2x8192x1024_S1024x1024_S2x8192x1024_2_0_01_1_n_n none (shapeCast _ (extf .f32 A bitsLt_bf16_f32) shapeCasts_S16384x1024_S2x8192x1024) (extf .f32 W bitsLt_bf16_f32)))

theorem x1_at (A : FVec Ideal S16384x1024 .bf16) (W : FVec Ideal S1024x1024 .bf16) (X : FVec Ideal S2x8192x1024 .f32) (G : FVec Ideal S2x1x1024 .f32) (b : Fin 2) (l : Fin 8192) (e : Fin 1024) :
    (x1C A W X G : S2x8192x1024.Idx → EReal) (ix3 b l e) = X (ix3 b l e) + G (ix3 b 0 e) * ∑ k : Fin 1024, A (ix2 ⟨b.val * 8192 + l.val, by omega⟩ k) * W (ix2 k e) := by
  pointwise [x1C]

/-- The reference's normed rows. -/
abbrev hnC (x : FVec Ideal S2x8192x1024 .f32) (g : FVec Ideal S1024 .f32) (sc sh : FVec Ideal S2x1x1024 .f32) : FVec Ideal S16384x1024 .bf16 :=
  truncf .bf16 (shapeCast _ (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) shapeCasts_S2x8192x1024_S16384x1024) bitsLt_bf16_f32

theorem hn_at (x : FVec Ideal S2x8192x1024 .f32) (g : FVec Ideal S1024 .f32) (sc sh : FVec Ideal S2x1x1024 .f32) (r : Fin 16384) (e : Fin 1024) :
    (hnC x g sc sh : S16384x1024.Idx → EReal) (ix2 r e) =
      normed (fun i => x (ix3 ⟨r.val / 8192, by omega⟩ ⟨r.val % 8192, by omega⟩ i)) (fun i => g (ix1 i)) (fun i => sc (ix3 ⟨r.val / 8192, by omega⟩ 0 i)) (fun i => sh (ix3 ⟨r.val / 8192, by omega⟩ 0 i)) e := by
  pointwise [hnC]
  rfl

end Cert.ReferenceOut2Ideal.Out
-- ==== Proof.Out2Value.lean ====
/-
  The projection out of the second layer's attention: its two result arrays are the reference's.
-/
module
public import proofs.«01_k».proof.Proof.Out2Block
public import Idealize.ShloMosaic.Lib.Pipeline.ValueKit.Acc
public import Idealize.ShloMosaic.Lib.Pipeline.ValueKit.Geometry
public import Idealize.ShloMosaic.Lib.Claim
public import Idealize.ShloMosaic.Lib.Pointwise
@[expose] public section
set_option maxRecDepth 16384
noncomputable section

namespace Cert.KernelOut2Ideal.Out
open Cert.KernelOut2Ideal Cert.KernelOut2Ideal.Gen Cert.Layer
open Idealize.ShloMosaic Idealize.ShloMosaic.TcCoe Idealize.ShloMosaic.Tactic Idealize.SL.Sem
open Idealize.ShloMosaic.Pipeline (Dat)
open Cert.ReferenceOut2Ideal.Out (x1C hnC x1_at hn_at)
open scoped BigOperators

variable (m : (ℓ : Loc nD τ sig) → Buf (Elt Ideal) ℓ) (c : Dev nD)

/-- Where the blocks lie. -/
theorem idx : ∀ t : Fin cfg0.N, win0_0.index t = ![(grid0.coords t 0).val * 16 + (grid0.coords t 1).val, 0]
    ∧ win0_1.index t = ![0, 0]
    ∧ win0_2.index t = ![(grid0.coords t 0).val, (grid0.coords t 1).val, 0]
    ∧ win0_3.index t = ![(grid0.coords t 0).val, 0, 0]
    ∧ win0_4.index t = ![0, 0]
    ∧ win0_5.index t = ![(grid0.coords t 0).val, 0, 0]
    ∧ win0_6.index t = ![(grid0.coords t 0).val, 0, 0]
    ∧ win0_7.index t = ![(grid0.coords t 0).val, (grid0.coords t 1).val, 0]
    ∧ win0_8.index t = ![(grid0.coords t 0).val * 16 + (grid0.coords t 1).val, 0]
    ∧ (grid0.coords t 0).val < 2 ∧ (grid0.coords t 1).val < 16 :=
  (by decide +kernel : ∀ t : Fin grid0.N, _)

abbrev A : FVec Ideal S16384x1024 .bf16 := m ((c : Thread nD τ).loc main_arg0)
abbrev W : FVec Ideal S1024x1024 .bf16 := m ((c : Thread nD τ).loc main_arg1)
abbrev X : FVec Ideal S2x8192x1024 .f32 := m ((c : Thread nD τ).loc main_arg2)
abbrev G1 : FVec Ideal S2x1x1024 .f32 := m ((c : Thread nD τ).loc main_arg3)
abbrev Gn : FVec Ideal S1024 .f32 := m ((c : Thread nD τ).loc main_arg4)
abbrev Sc : FVec Ideal S2x1x1024 .f32 := m ((c : Thread nD τ).loc main_arg5)
abbrev Sh : FVec Ideal S2x1x1024 .f32 := m ((c : Thread nD τ).loc main_arg6)

theorem blkA (t : Fin cfg0.N) (r : Fin 512) (k : Fin 1024) : (show S512x1024.Idx → EReal from iblk m c 0 t) (ix2 r k)
    = (show S16384x1024.Idx → EReal from A m c) (ix2 ⟨((grid0.coords t 0).val * 16 + (grid0.coords t 1).val) * 512 + r.val, by have := idx t; omega⟩ k) := by
  rw [show A m c = _ from (V_main_arg0 m c).symm]
  blk_ext [iblk, idx t]

theorem blkW (t : Fin cfg0.N) (k : Fin 1024) (e : Fin 1024) : (show S1024x1024.Idx → EReal from iblk m c 1 t) (ix2 k e)
    = (show S1024x1024.Idx → EReal from W m c) (ix2 k e) := by
  rw [show W m c = _ from (V_main_arg1 m c).symm]
  blk_ext [iblk, idx t]

theorem blkX (t : Fin cfg0.N) (z : Fin 1) (r : Fin 512) (e : Fin 1024) : (show S1x512x1024.Idx → EReal from iblk m c 2 t) (ix3 z r e)
    = (show S2x8192x1024.Idx → EReal from X m c) (ix3 ⟨(grid0.coords t 0).val, by have := idx t; omega⟩ ⟨(grid0.coords t 1).val * 512 + r.val, by have := idx t; omega⟩ e) := by
  rw [show X m c = _ from (V_main_arg2 m c).symm]
  blk_ext [iblk, idx t]

theorem blkG1 (t : Fin cfg0.N) (e : Fin 1024) : (show S1x1x1024.Idx → EReal from iblk m c 3 t) (ix3 0 0 e)
    = (show S2x1x1024.Idx → EReal from G1 m c) (ix3 ⟨(grid0.coords t 0).val, by have := idx t; omega⟩ 0 e) := by
  rw [show G1 m c = _ from (V_main_arg3 m c).symm]
  blk_ext [iblk, idx t]

theorem blkSc (t : Fin cfg0.N) (e : Fin 1024) : (show S1x1x1024.Idx → EReal from iblk m c 5 t) (ix3 0 0 e)
    = (show S2x1x1024.Idx → EReal from Sc m c) (ix3 ⟨(grid0.coords t 0).val, by have := idx t; omega⟩ 0 e) := by
  rw [show Sc m c = _ from (V_main_arg5 m c).symm]
  blk_ext [iblk, idx t]

theorem blkSh (t : Fin cfg0.N) (e : Fin 1024) : (show S1x1x1024.Idx → EReal from iblk m c 6 t) (ix3 0 0 e)
    = (show S2x1x1024.Idx → EReal from Sh m c) (ix3 ⟨(grid0.coords t 0).val, by have := idx t; omega⟩ 0 e) := by
  rw [show Sh m c = _ from (V_main_arg6 m c).symm]
  blk_ext [iblk, idx t]

/-- The gain as one row, as the call's operand holds it. -/
theorem gain_eq (e : Fin 1024) : (show S1x1024.Idx → EReal from V m c main_v0) (ix2 0 e) = (show S1024.Idx → EReal from Gn m c) (ix1 e) := by
  show (show S1x1024.Idx → EReal from StableHlo.after hostOps0 (fun b => m (c, b)) main_v0) (ix2 0 e) = _
  entry_read
  pointwise

theorem blkG (t : Fin cfg0.N) (e : Fin 1024) : (show S1x1024.Idx → EReal from iblk m c 4 t) (ix2 0 e)
    = (show S1024.Idx → EReal from Gn m c) (ix1 e) := by
  refine Eq.trans ?_ (gain_eq m c e)
  blk_ext [iblk, idx t]

/-- A step's first block is the reference's at the block's place. -/
theorem first_at (t : Fin cfg0.N) (z : Fin 1) (r : Fin 512) (e : Fin 1024) :
    (show S1x512x1024.Idx → EReal from k0_pay2 (iblk m c 0 t) (iblk m c 1 t) (iblk m c 2 t) (iblk m c 3 t)) (ix3 z r e)
      = (x1C (A m c) (W m c) (X m c) (G1 m c) : S2x8192x1024.Idx → EReal) (ix3 ⟨(grid0.coords t 0).val, by have := idx t; omega⟩ ⟨(grid0.coords t 1).val * 512 + r.val, by have := idx t; omega⟩ e) := by
  refine (pay2_at (iblk m c 0 t) (iblk m c 1 t) (iblk m c 2 t) (iblk m c 3 t) z r e).trans ((x1_at (A m c) (W m c) (X m c) (G1 m c) _ _ e).trans ?_).symm
  refine congrArg₂ (· + ·) (blkX m c t z r e).symm (congrArg₂ (· * ·) (blkG1 m c t e).symm (Finset.sum_congr rfl fun k _ => congrArg₂ (· * ·) ?_ (blkW m c t k e).symm))
  refine Eq.trans ?_ (blkA m c t r k).symm
  exact congrArg (fun n => (show S16384x1024.Idx → EReal from A m c) (ix2 n k)) (Fin.ext (by show (grid0.coords t 0).val * 8192 + ((grid0.coords t 1).val * 512 + r.val) = _; simp only []; omega))

theorem final7 : (dats m 0 c).arrAt 7 cfg0.N = x1C (A m c) (W m c) (X m c) (G1 m c) := by
  refine (dats m 0 c).arrAt_eq_of_covers 7 _ (by decide +kernel) fun t _ y => ?_
  obtain ⟨z, r, e, rfl⟩ : ∃ (z : Fin 1) (r : Fin 512) (e : Fin 1024), y = ix3 z r e := ⟨y 0, y 1, y 2, by funext a; fin_cases a <;> rfl⟩
  blk_simp [idx t]
  rw [after0_7]
  frame_out
  refine (first_at m c t z r e).trans ?_
  refine congrArg (x1C (A m c) (W m c) (X m c) (G1 m c) : S2x8192x1024.Idx → EReal) ?_
  blk_ext [idx t]

theorem final8 : (dats m 0 c).arrAt 8 cfg0.N = hnC (x1C (A m c) (W m c) (X m c) (G1 m c)) (Gn m c) (Sc m c) (Sh m c) := by
  refine (dats m 0 c).arrAt_eq_of_covers 8 _ (by decide +kernel) fun t _ y => ?_
  obtain ⟨r, e, rfl⟩ : ∃ (r : Fin 512) (e : Fin 1024), y = ix2 r e := ⟨y 0, y 1, by funext a; fin_cases a <;> rfl⟩
  blk_simp [idx t]
  rw [after0_8]
  frame_out
  have hi := idx t
  have hr := r.isLt
  have e1 : (((grid0.coords t 0).val * 16 + (grid0.coords t 1).val) * 512 + r.val) / 8192 = (grid0.coords t 0).val := by omega
  have e2 : (((grid0.coords t 0).val * 16 + (grid0.coords t 1).val) * 512 + r.val) % 8192 = (grid0.coords t 1).val * 512 + r.val := by omega
  refine (pay1_at _ (iblk m c 0 t) (iblk m c 1 t) (iblk m c 2 t) (iblk m c 3 t) (iblk m c 4 t) (iblk m c 5 t) (iblk m c 6 t) rfl r e).trans ?_
  refine Eq.trans ?_ (hn_at (x1C (A m c) (W m c) (X m c) (G1 m c)) (Gn m c) (Sc m c) (Sh m c) ⟨((grid0.coords t 0).val * 16 + (grid0.coords t 1).val) * 512 + r.val, by omega⟩ e).symm |>.trans ?_
  · congr 1
    · funext i
      refine (first_at m c t 0 r i).trans (congrArg (x1C (A m c) (W m c) (X m c) (G1 m c) : S2x8192x1024.Idx → EReal) ?_)
      exact congrArg₂ (fun b l => ix3 b l i) (Fin.ext e1.symm) (Fin.ext e2.symm)
    · funext i; exact blkG m c t i
    · funext i
      exact (blkSc m c t i).trans (congrArg (fun b => (show S2x1x1024.Idx → EReal from Sc m c) (ix3 b 0 i)) (Fin.ext e1.symm))
    · funext i
      exact (blkSh m c t i).trans (congrArg (fun b => (show S2x1x1024.Idx → EReal from Sh m c) (ix3 b 0 i)) (Fin.ext e1.symm))
  · refine congrArg (hnC (x1C (A m c) (W m c) (X m c) (G1 m c)) (Gn m c) (Sc m c) (Sh m c) : S16384x1024.Idx → EReal) ?_
    blk_ext [idx t]

end Cert.KernelOut2Ideal.Out
-- ==== Proof.Ada.lean ====
/-
  The conditioning of both layers: what one step of the call leaves in its block, what the reference's result holds, element
  by element, and that the two results are one array.
-/
module
public import proofs.«01_k».proof.Proof.Gen.KernelAdaIdeal.Value
public import proofs.«01_k».proof.Proof.Gen.ReferenceAdaIdeal.Run
public import Idealize.ShloMosaic.Lib.Pipeline.ValueKit.Acc
public import Idealize.ShloMosaic.Lib.Pipeline.ValueKit.Geometry
public import Idealize.ShloMosaic.Lib.Claim
public import Idealize.ShloMosaic.Lib.Pointwise
@[expose] public section
set_option maxRecDepth 16384
noncomputable section

namespace Cert.ReferenceAdaIdeal.Ada
open Cert.ReferenceAdaIdeal Cert.ReferenceAdaIdeal.Gen
open Idealize.ShloMosaic Idealize.ShloMosaic.TcCoe Idealize.ShloMosaic.StableHlo Idealize.SL.Sem
open scoped BigOperators

/-- An entry times its logistic, as both programs compute it. -/
def silu (x : EReal) : EReal := x * Ideal.div 1 (1 + Ideal.exp (-x))

/-- The reference's rows after the activation. -/
abbrev actC (C : FVec Ideal S136x1024 .f32) : FVec Ideal S136x1024 .f32 :=
  mulf C (Host.divf (broadcastInDim S136x1024 ![] bcast_S_S136x1024 (constant S_ .f32 0x3F800000#32)) (addf (broadcastInDim S136x1024 ![] bcast_S_S136x1024 (constant S_ .f32 0x3F800000#32)) (Host.exp (Host.negf C))))

theorem act_at (C : FVec Ideal S136x1024 .f32) (r : Fin 136) (k : Fin 1024) :
    (actC C : S136x1024.Idx → EReal) (ix2 r k) = silu (C (ix2 r k)) := by
  pointwise [actC]
  rfl

/-- The reference's first layer. -/
abbrev fstC (C : FVec Ideal S136x1024 .f32) (W : FVec Ideal S2x1024x6144 .f32) (B : FVec Ideal S2x6144 .f32) : FVec Ideal S1x136x6144 .f32 :=
  broadcastInDim S1x136x6144 ![1, 2] bcast_S136x6144_S1x136x6144_1_2 (addf (Host.dotGeneral dot_S136x1024_S1024x6144_S136x6144_1_0_0_1_n_n none (actC C) (shapeCast _ (extractStridedSlice S1x1024x6144 ![0, 0, 0] W slices_S2x1024x6144_S1x1024x6144_0_0_0) shapeCasts_S1x1024x6144_S1024x6144)) (broadcastInDim S136x6144 ![0, 1] bcast_S1x6144_S136x6144_0_1 (broadcastInDim S1x6144 ![1] bcast_S6144_S1x6144_1 (shapeCast _ (extractStridedSlice S1x6144 ![0, 0] B slices_S2x6144_S1x6144_0_0) shapeCasts_S1x6144_S6144))))

/-- The reference's second layer. -/
abbrev sndC (C : FVec Ideal S136x1024 .f32) (W : FVec Ideal S2x1024x6144 .f32) (B : FVec Ideal S2x6144 .f32) : FVec Ideal S1x136x6144 .f32 :=
  broadcastInDim S1x136x6144 ![1, 2] bcast_S136x6144_S1x136x6144_1_2 (addf (Host.dotGeneral dot_S136x1024_S1024x6144_S136x6144_1_0_0_1_n_n none (actC C) (shapeCast _ (extractStridedSlice S1x1024x6144 ![1, 0, 0] W slices_S2x1024x6144_S1x1024x6144_1_0_0) shapeCasts_S1x1024x6144_S1024x6144)) (broadcastInDim S136x6144 ![0, 1] bcast_S1x6144_S136x6144_0_1 (broadcastInDim S1x6144 ![1] bcast_S6144_S1x6144_1 (shapeCast _ (extractStridedSlice S1x6144 ![1, 0] B slices_S2x6144_S1x6144_1_0) shapeCasts_S1x6144_S6144))))

/-- The reference's result: the two layers, one after the other. -/
abbrev modC (C : FVec Ideal S136x1024 .f32) (W : FVec Ideal S2x1024x6144 .f32) (B : FVec Ideal S2x6144 .f32) : FVec Ideal S2x136x6144 .f32 :=
  concatenate S2x136x6144 0 [⟨S1x136x6144, fstC C W B⟩, ⟨S1x136x6144, sndC C W B⟩] concatenates_S1x136x6144_S1x136x6144_S2x136x6144_d0

theorem fst_at (C : FVec Ideal S136x1024 .f32) (W : FVec Ideal S2x1024x6144 .f32) (B : FVec Ideal S2x6144 .f32) (z : Fin 1) (r : Fin 136) (e : Fin 6144) :
    (fstC C W B : S1x136x6144.Idx → EReal) (ix3 z r e) = (∑ k : Fin 1024, (actC C : S136x1024.Idx → EReal) (ix2 r k) * W (ix3 0 k e)) + B (ix2 0 e) := by
  unfold fstC
  generalize actC C = D
  pointwise

theorem snd_at (C : FVec Ideal S136x1024 .f32) (W : FVec Ideal S2x1024x6144 .f32) (B : FVec Ideal S2x6144 .f32) (z : Fin 1) (r : Fin 136) (e : Fin 6144) :
    (sndC C W B : S1x136x6144.Idx → EReal) (ix3 z r e) = (∑ k : Fin 1024, (actC C : S136x1024.Idx → EReal) (ix2 r k) * W (ix3 1 k e)) + B (ix2 1 e) := by
  unfold sndC
  generalize actC C = D
  pointwise

theorem mod_at (C : FVec Ideal S136x1024 .f32) (W : FVec Ideal S2x1024x6144 .f32) (B : FVec Ideal S2x6144 .f32) (i : Fin 2) (r : Fin 136) (e : Fin 6144) :
    (modC C W B : S2x136x6144.Idx → EReal) (ix3 i r e) = (∑ k : Fin 1024, silu (C (ix2 r k)) * W (ix3 i k e)) + B (ix2 i e) := by
  have ha := act_at C
  fin_cases i
  · refine Eq.trans ?_ ((fst_at C W B 0 r e).trans ?_)
    · unfold modC
      generalize fstC C W B = D
      generalize sndC C W B = D'
      pointwise
    · exact congrArg (· + B (ix2 0 e)) (Finset.sum_congr rfl fun k _ => congrArg (· * W (ix3 0 k e)) (ha r k))
  · refine Eq.trans ?_ ((snd_at C W B 0 r e).trans ?_)
    · unfold modC
      generalize fstC C W B = D
      generalize sndC C W B = D'
      pointwise
    · exact congrArg (· + B (ix2 1 e)) (Finset.sum_congr rfl fun k _ => congrArg (· * W (ix3 1 k e)) (ha r k))

end Cert.ReferenceAdaIdeal.Ada

namespace Cert.KernelAdaIdeal.Ada
open Cert.KernelAdaIdeal Cert.KernelAdaIdeal.Gen
open Idealize.ShloMosaic Idealize.ShloMosaic.TcCoe Idealize.ShloMosaic.Tactic Idealize.SL.Sem
open Idealize.ShloMosaic.Pipeline (Dat)
open Cert.ReferenceAdaIdeal.Ada (silu modC mod_at)
open scoped BigOperators

/-- A step's block: the product of the activated rows with the step's columns of the weights, and the bias. -/
theorem pay1_at (C : Vec Ideal S136x1024 .f32) (W : Vec Ideal S1x1024x512 .f32) (B : Vec Ideal S1x1x512 .f32) (z : Fin 1) (r : Fin 136) (j : Fin 512) :
    (k0_pay1 C W B : S1x136x512.Idx → EReal) (ix3 z r j) = (∑ k : Fin 1024, silu (C (ix2 r k)) * W (ix3 0 k j)) + B (ix3 0 0 j) := by
  have e : ∀ x : EReal, silu x = x * Ideal.div 1 (1 + Ideal.exp (0 - x)) := fun x => by rw [zero_sub]; rfl
  simp only [e]
  unfold k0_pay1
  pointwise

variable (m : (ℓ : Loc nD τ sig) → Buf (Elt Ideal) ℓ) (c : Dev nD)

/-- Where the blocks lie. -/
theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ (grid0.coords t 0).val < 2 ∧ (grid0.coords t 1).val < 12 :=
  (by decide +kernel : ∀ t : Fin grid0.N, _)

abbrev C : FVec Ideal S136x1024 .f32 := m ((c : Thread nD τ).loc main_arg0)
abbrev W : FVec Ideal S2x1024x6144 .f32 := m ((c : Thread nD τ).loc main_arg1)
abbrev B : FVec Ideal S2x6144 .f32 := m ((c : Thread nD τ).loc main_arg2)

theorem blkC (t : Fin cfg0.N) (r : Fin 136) (k : Fin 1024) : (show S136x1024.Idx → EReal from iblk m c 0 t) (ix2 r k)
    = (show S136x1024.Idx → EReal from C m c) (ix2 r k) := by
  rw [show C m c = _ from (V_main_arg0 m c).symm]
  blk_ext [iblk, idx t]

theorem blkW (t : Fin cfg0.N) (k : Fin 1024) (j : Fin 512) : (show S1x1024x512.Idx → EReal from iblk m c 1 t) (ix3 0 k j)
    = (show S2x1024x6144.Idx → EReal from W m c) (ix3 ⟨(grid0.coords t 0).val, by have := idx t; omega⟩ k ⟨(grid0.coords t 1).val * 512 + j.val, by have := idx t; omega⟩) := by
  rw [show W m c = _ from (V_main_arg1 m c).symm]
  blk_ext [iblk, idx t]

/-- The bias with a row of its own for each layer, as the call's operand holds it. -/
theorem bias_eq (i : Fin 2) (e : Fin 6144) : (show S2x1x6144.Idx → EReal from V m c main_v0) (ix3 i 0 e) = (show S2x6144.Idx → EReal from B m c) (ix2 i e) := by
  show (show S2x1x6144.Idx → EReal from StableHlo.after hostOps0 (fun b => m (c, b)) main_v0) (ix3 i 0 e) = _
  entry_read
  pointwise

theorem blkB (t : Fin cfg0.N) (j : Fin 512) : (show S1x1x512.Idx → EReal from iblk m c 2 t) (ix3 0 0 j)
    = (show S2x6144.Idx → EReal from B m c) (ix2 ⟨(grid0.coords t 0).val, by have := idx t; omega⟩ ⟨(grid0.coords t 1).val * 512 + j.val, by have := idx t; omega⟩) := by
  refine Eq.trans ?_ (bias_eq m c ⟨(grid0.coords t 0).val, by have := idx t; omega⟩ ⟨(grid0.coords t 1).val * 512 + j.val, by have := idx t; omega⟩)
  blk_ext [iblk, idx t]

/-- The call's result is the reference's. -/
theorem final3 : (dats m 0 c).arrAt 3 cfg0.N = modC (C m c) (W m c) (B m c) := by
  refine (dats m 0 c).arrAt_eq_of_covers 3 _ (by decide +kernel) fun t _ y => ?_
  obtain ⟨z, r, j, rfl⟩ : ∃ (z : Fin 1) (r : Fin 136) (j : Fin 512), y = ix3 z r j := ⟨y 0, y 1, y 2, by funext a; fin_cases a <;> rfl⟩
  have hi := idx t
  have hj := j.isLt
  blk_simp [idx t]
  rw [after0_3]
  frame_out
  refine (pay1_at (iblk m c 0 t) (iblk m c 1 t) (iblk m c 2 t) z r j).trans ?_
  refine Eq.trans ?_ ((mod_at (C m c) (W m c) (B m c) ⟨(grid0.coords t 0).val, by omega⟩ r ⟨(grid0.coords t 1).val * 512 + j.val, by omega⟩).symm.trans ?_)
  · exact congrArg₂ (· + ·) (Finset.sum_congr rfl fun k _ => congrArg₂ (fun a b => silu a * b) (blkC m c t r k) (blkW m c t k j)) (blkB m c t j)
  · refine congrArg (modC (C m c) (W m c) (B m c) : S2x136x6144.Idx → EReal) ?_
    blk_ext [idx t]

end Cert.KernelAdaIdeal.Ada
-- ==== Proof.lean ====
/-
  The claim: the frames, the idealizations and the values of the attention, of the projections around it and of the conditioning.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelIn
public import proofs.«01_k».proof.Proof.Gen.KernelIn.Frame
public import proofs.«01_k».proof.Proof.Gen.KernelInIdeal
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelOut2
public import proofs.«01_k».proof.Proof.Gen.KernelOut2.Frame
public import proofs.«01_k».proof.Proof.Gen.KernelOut2Ideal
public import proofs.«01_k».proof.Proof.Gen.KernelOut2Ideal.Value
public import proofs.«01_k».proof.Proof.Gen.ReferenceOut2Ideal
public import proofs.«01_k».proof.Proof.Gen.ReferenceOut2Ideal.Run
public import proofs.«01_k».proof.Proof.Gen.KernelAda
public import proofs.«01_k».proof.Proof.Gen.KernelAda.Frame
public import proofs.«01_k».proof.Proof.Gen.KernelAdaIdeal
public import proofs.«01_k».proof.Proof.Gen.KernelAdaIdeal.Value
public import proofs.«01_k».proof.Proof.Gen.ReferenceAdaIdeal
public import proofs.«01_k».proof.Proof.Gen.ReferenceAdaIdeal.Run
public import proofs.«01_k».proof.Proof.Kept
public import proofs.«01_k».proof.Proof.IdealKept
public import proofs.«01_k».proof.Proof.IdealResult
public import proofs.«01_k».proof.Proof.RefValue
public import proofs.«01_k».proof.Proof.Finite
public import proofs.«01_k».proof.Proof.InValue
public import proofs.«01_k».proof.Proof.OutValue
public import proofs.«01_k».proof.Proof.Out2Value
public import proofs.«01_k».proof.Proof.Ada

@[expose] public section

set_option maxRecDepth 16384

noncomputable section

namespace Cert.Proof

open Idealize.ShloMosaic Idealize.ShloMosaic.TcCoe Idealize.ShloMosaic.StableHlo Idealize.SL.Sem

/-- The reference is host operations alone: its run leaves every argument, and it has no counter. -/
theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

open Cert.KernelIdeal Cert.KernelIdeal.Attn in
/-- The joined program's run ends at its result. -/
theorem run_kernel (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨(h.1 c main_v3 rfl).trans (X1_out m c), ?_⟩) (run_main m g)
  have key : ∀ b : Ref sig .tc, b.isScoped = false → b ≠ main_v0 → b ∉ Cert.KernelIdeal.Gen.hostOps1_W → b ≠ main_v3 → r.2.mem ((c : Thread nD τ).loc b) = m ((c : Thread nD τ).loc b) :=
    fun b h0 h1 h2 h3 => (h.1 c b h0).trans (X1_arg m c b h1 h2 h3)
  exact ⟨key main_arg0 rfl (by decide) (by decide) (by decide), key main_arg1 rfl (by decide) (by decide) (by decide), key main_arg2 rfl (by decide) (by decide) (by decide),
    key main_arg3 rfl (by decide) (by decide) (by decide), key main_arg4 rfl (by decide) (by decide) (by decide), key main_arg5 rfl (by decide) (by decide) (by decide)⟩

/-- Over real arguments the two results are one array. -/
theorem value : algebraic_KernelIdeal_ReferenceIdeal_pre_finite_inputs := fun m g m' g' hp ha => by
  refine ⟨fun c => Cert.KernelIdeal.Attn.result m c, run_kernel m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5⟩ := ha c
  obtain ⟨Q, K, V, R, L, hQ, hK, hV, hR, hL⟩ := Cert.Finite.reals m hp c
  refine (Cert.ReferenceIdeal.Attn.value (launchContents m' c) Q K V R L
    (fun r e => (congrFun a0 (ix2 r e)).trans (hQ r e)) (fun r e => (congrFun a1 (ix2 r e)).trans (hK r e)) (fun d p => (congrFun a2 (ix2 d p)).trans (hV d p))
    (fun n h => (congrFun a3 (ix2 n h)).trans (hR n h)) ?_).trans ?_
  · exact (congrArg Cert.KernelIdeal.Attn.lamAt (funext fun r => funext fun l => congrFun a4 (ix2 r l))).trans hL
  · refine Eq.trans ?_ (Cert.KernelIdeal.Attn.result_eq m c Q K V R L hQ hK hV hR hL).symm
    funext y
    exact congrArg (fun g => Cert.KernelIdeal.Attn.resAt Q K V R L g _ _ _ _) (funext fun d => congrFun a5 (ix1 d))

theorem frame_reference_in : quiescent_ReferenceInIdeal := fun m g _ =>
  (θ_run Cert.ReferenceInIdeal.defs _ _).mono (fun r h => ⟨fun c => (h c).2, sem_eq_zero_of_no_sems (by decide) r.2⟩)
    (Cert.ReferenceInIdeal.Value.run (F := Ideal) m g)

theorem frame_reference_out : quiescent_ReferenceOutIdeal := fun m g _ =>
  (θ_run Cert.ReferenceOutIdeal.defs _ _).mono (fun r h => ⟨fun c => (h c).2.2, sem_eq_zero_of_no_sems (by decide) r.2⟩)
    (Cert.ReferenceOutIdeal.Value.run (F := Ideal) m g)

theorem frame_reference_out2 : quiescent_ReferenceOut2Ideal := fun m g _ =>
  (θ_run Cert.ReferenceOut2Ideal.defs _ _).mono (fun r h => ⟨fun c => (h c).2.2, sem_eq_zero_of_no_sems (by decide) r.2⟩)
    (Cert.ReferenceOut2Ideal.Value.run (F := Ideal) m g)

open Cert.KernelInIdeal.In Cert.ReferenceInIdeal.In in
/-- The projection into the mixer: the two results are one array. -/
theorem value_in : algebraic_KernelInIdeal_ReferenceInIdeal := fun m g m' g' _ ha => by
  refine ⟨fun c => pC (hC (X m c) (Gn m c) (Sc m c) (Sh m c)) (W m c),
    (θ_run Cert.KernelInIdeal.defs _ _).mono (fun r h c => ⟨(h c).1.trans (final5 m c), (h c).2⟩) (Cert.KernelInIdeal.Value.run_blocks m g), ?_⟩
  refine (θ_run Cert.ReferenceInIdeal.defs _ _).mono (fun r h c => ⟨(h c).1.trans ?_, (h c).2⟩) (Cert.ReferenceInIdeal.Value.run (F := Ideal) m' g')
  obtain ⟨a0, a1, a2, a3, a4⟩ := ha c
  rw [a0, a1, a2, a3, a4]

open Cert.KernelOutIdeal.Out Cert.ReferenceOutIdeal.Out in
/-- The projection out of the mixer: the two pairs of results are one pair of arrays. -/
theorem value_out : algebraic_KernelOutIdeal_ReferenceOutIdeal := fun m g m' g' _ ha => by
  refine ⟨fun c => x1C (A m c) (W m c) (X m c) (G1 m c), fun c => hnC (x1C (A m c) (W m c) (X m c) (G1 m c)) (Gn m c) (Sc m c) (Sh m c),
    (θ_run Cert.KernelOutIdeal.defs _ _).mono (fun r h c => ⟨(h c).1.trans (final7 m c), (h c).2.1.trans (final8 m c), (h c).2.2⟩) (Cert.KernelOutIdeal.Value.run_blocks m g), ?_⟩
  refine (θ_run Cert.ReferenceOutIdeal.defs _ _).mono (fun r h c => ⟨(h c).1.trans ?_, (h c).2.1.trans ?_, (h c).2.2⟩) (Cert.ReferenceOutIdeal.Value.run (F := Ideal) m' g')
  · obtain ⟨a0, a1, a2, a3, a4, a5, a6⟩ := ha c
    rw [a0, a1, a2, a3]
  · obtain ⟨a0, a1, a2, a3, a4, a5, a6⟩ := ha c
    rw [a0, a1, a2, a3, a4, a5, a6]

open Cert.KernelOut2Ideal.Out Cert.ReferenceOut2Ideal.Out in
/-- The projection out of the attention: the two pairs of results are one pair of arrays. -/
theorem value_out2 : algebraic_KernelOut2Ideal_ReferenceOut2Ideal := fun m g m' g' _ ha => by
  refine ⟨fun c => x1C (A m c) (W m c) (X m c) (G1 m c), fun c => hnC (x1C (A m c) (W m c) (X m c) (G1 m c)) (Gn m c) (Sc m c) (Sh m c),
    (θ_run Cert.KernelOut2Ideal.defs _ _).mono (fun r h c => ⟨(h c).1.trans (final7 m c), (h c).2.1.trans (final8 m c), (h c).2.2⟩) (Cert.KernelOut2Ideal.Value.run_blocks m g), ?_⟩
  refine (θ_run Cert.ReferenceOut2Ideal.defs _ _).mono (fun r h c => ⟨(h c).1.trans ?_, (h c).2.1.trans ?_, (h c).2.2⟩) (Cert.ReferenceOut2Ideal.Value.run (F := Ideal) m' g')
  · obtain ⟨a0, a1, a2, a3, a4, a5, a6⟩ := ha c
    rw [a0, a1, a2, a3]
  · obtain ⟨a0, a1, a2, a3, a4, a5, a6⟩ := ha c
    rw [a0, a1, a2, a3, a4, a5, a6]

theorem frame_reference_ada : quiescent_ReferenceAdaIdeal := fun m g _ =>
  (θ_run Cert.ReferenceAdaIdeal.defs _ _).mono (fun r h => ⟨fun c => (h c).2, sem_eq_zero_of_no_sems (by decide) r.2⟩)
    (Cert.ReferenceAdaIdeal.Value.run (F := Ideal) m g)

open Cert.KernelAdaIdeal.Ada Cert.ReferenceAdaIdeal.Ada in
/-- The conditioning: the two results are one array. -/
theorem value_ada : algebraic_KernelAdaIdeal_ReferenceAdaIdeal := fun m g m' g' _ ha => by
  refine ⟨fun c => modC (C m c) (W m c) (B m c),
    (θ_run Cert.KernelAdaIdeal.defs _ _).mono (fun r h c => ⟨(h c).1.trans (final3 m c), (h c).2⟩) (Cert.KernelAdaIdeal.Value.run_blocks m g), ?_⟩
  refine (θ_run Cert.ReferenceAdaIdeal.defs _ _).mono (fun r h c => ⟨(h c).1.trans ?_, (h c).2⟩) (Cert.ReferenceAdaIdeal.Value.run (F := Ideal) m' g')
  obtain ⟨a0, a1, a2⟩ := ha c
  rw [a0, a1, a2]

theorem claim : Cert.Claim :=
  ⟨inferInstance, inferInstance, inferInstance, inferInstance, inferInstance, inferInstance, inferInstance, inferInstance, inferInstance, inferInstance, inferInstance, inferInstance, inferInstance, inferInstance, inferInstance, inferInstance,
    fun m g _ => Cert.Kernel.Attn.frame m g,
    fun m g _ => Cert.KernelIdeal.Attn.frame m g,
    fun m g _ => Cert.KernelIdeal.Attn.frame m g,
    frame_reference,
    fun m g _ => frame_reference m g trivial,
    fun m g _ => Cert.KernelIn.Gen.frame m g,
    fun m g _ => Cert.KernelInIdeal.Gen.frame m g,
    frame_reference_in,
    fun m g _ => Cert.KernelOut.Gen.frame m g,
    fun m g _ => Cert.KernelOutIdeal.Gen.frame m g,
    frame_reference_out,
    fun m g _ => Cert.KernelOut2.Gen.frame m g,
    fun m g _ => Cert.KernelOut2Ideal.Gen.frame m g,
    frame_reference_out2,
    fun m g _ => Cert.KernelAda.Gen.frame m g,
    fun m g _ => Cert.KernelAdaIdeal.Gen.frame m g,
    frame_reference_ada,
    IdealRules.named_const.statement Cert.KernelIdeal.κ "LOG2E" .f32 0x3FB8AA3B#32 (((Real.log 2)⁻¹ : ℝ) : EReal) rfl,
    value,
    trivial,
    value_in,
    trivial,
    value_out,
    trivial,
    value_out2,
    trivial,
    value_ada⟩

end Cert.Proof
